-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v97) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v19_1)) (v1 : (c : Dev Cert.Kernel3Ideal.nD) → Buf (Elt Ideal) ((c.tc : Thread Cert.Kernel3Ideal.nD Cert.Kernel3Ideal.τ).loc Cert.Kernel3Ideal.main_v19_3)) (v2 : (c : Dev Cert.Kernel3Ideal.nD) → Buf (Elt Ideal) ((c.tc : Thread Cert.Kernel3Ideal.nD Cert.Kernel3Ideal.τ).loc Cert.Kernel3Ideal.main_v19_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_1) = v0 c
          ∧ r.2.mem ((c.tc : Thread Cert.Kernel3Ideal.nD Cert.Kernel3Ideal.τ).loc Cert.Kernel3Ideal.main_v19_3) = v1 c
          ∧ r.2.mem ((c.tc : Thread Cert.Kernel3Ideal.nD Cert.Kernel3Ideal.τ).loc Cert.Kernel3Ideal.main_v19_4) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v60)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S8x64x8x64 : Shape := ⟨4, ![8, 64, 8, 64]⟩
abbrev S1x8x512x8x64 : Shape := ⟨5, ![1, 8, 512, 8, 64]⟩
abbrev S1x8x257 : Shape := ⟨3, ![1, 8, 257]⟩
abbrev S1x512 : Shape := ⟨2, ![1, 512]⟩
abbrev S_ : Shape := ⟨0, ![]⟩

class Facts : Prop where
  bcast_S_S8x64x8x64 : S_.BroadcastsInDim S8x64x8x64 (![] : Fin 0 → Fin S8x64x8x64.rank)
  bcast_S_S1x8x512x8x64 : S_.BroadcastsInDim S1x8x512x8x64 (![] : Fin 0 → Fin S1x8x512x8x64.rank)
  bcast_S_S1x8x257 : S_.BroadcastsInDim S1x8x257 (![] : Fin 0 → Fin S1x8x257.rank)

variable [Facts]

def fn {F : FTy → Type} [FloatOps F] (main_arg0 : FVec F S8x64x8x64 .f32) (main_arg1 : FVec F S8x64x8x64 .f32) (main_arg2 : FVec F S8x64x8x64 .f32) (main_arg3 : FVec F S1x8x512x8x64 .f32) (main_arg4 : FVec F S1x8x512x8x64 .f32) (main_arg5 : FVec F S1x8x257 .f32) (main_arg6 : FVec F S1x512 .f32) : IVec S8x64x8x64 1 × IVec S8x64x8x64 1 × IVec S1x8x512x8x64 1 × IVec S1x8x257 1 :=
  let main_v0 : FVec F S8x64x8x64 .f32 := Host.absf main_arg0
  let main_cst : FVec F S_ .f32 := constant S_ .f32 0x7F800000#32
  let main_v1 : FVec F S8x64x8x64 .f32 := broadcastInDim S8x64x8x64 ![] bcast_S_S8x64x8x64 main_cst
  let main_v2 : IVec S8x64x8x64 1 := cmpf .olt main_v0 main_v1
  let main_v3 : FVec F S8x64x8x64 .f32 := Host.absf main_arg1
  let main_cst_0 : FVec F S_ .f32 := constant S_ .f32 0x7F800000#32
  let main_v4 : FVec F S8x64x8x64 .f32 := broadcastInDim S8x64x8x64 ![] bcast_S_S8x64x8x64 main_cst_0
  let main_v5 : IVec S8x64x8x64 1 := cmpf .olt main_v3 main_v4
  let main_v6 : FVec F S1x8x512x8x64 .f32 := Host.absf main_arg3
  let main_cst_1 : FVec F S_ .f32 := constant S_ .f32 0x7F800000#32
  let main_v7 : FVec F S1x8x512x8x64 .f32 := broadcastInDim S1x8x512x8x64 ![] bcast_S_S1x8x512x8x64 main_cst_1
  let main_v8 : IVec S1x8x512x8x64 1 := cmpf .olt main_v6 main_v7
  let main_v9 : FVec F S1x8x257 .f32 := Host.absf main_arg5
  let main_cst_2 : FVec F S_ .f32 := constant S_ .f32 0x7F800000#32
  let main_v10 : FVec F S1x8x257 .f32 := broadcastInDim S1x8x257 ![] bcast_S_S1x8x257 main_cst_2
  let main_v11 : IVec S1x8x257 1 := cmpf .olt main_v9 main_v10
  (main_v2, main_v5, main_v8, main_v11)
-- ==== Kernel.lean ====
abbrev S8x2048x512 : Shape := ⟨3, ![8, 2048, 512]⟩
abbrev S8x2x16x512x128 : Shape := ⟨5, ![8, 2, 16, 512, 128]⟩
abbrev S8x2x2048x512 : Shape := ⟨4, ![8, 2, 2048, 512]⟩
abbrev S8x5x128x128 : Shape := ⟨4, ![8, 5, 128, 128]⟩
abbrev S1x512 : Shape := ⟨2, ![1, 512]⟩
abbrev S1x512x512 : Shape := ⟨3, ![1, 512, 512]⟩
abbrev S1x2x16x512x128 : Shape := ⟨5, ![1, 2, 16, 512, 128]⟩
abbrev S1x2x2048x512 : Shape := ⟨4, ![1, 2, 2048, 512]⟩
abbrev S2x4x128x1280 : Shape := ⟨4, ![2, 4, 128, 1280]⟩
abbrev S1x128x128 : Shape := ⟨3, ![1, 128, 128]⟩
abbrev S128x128 : Shape := ⟨2, ![128, 128]⟩
abbrev S1x1x1x128x128 : Shape := ⟨5, ![1, 1, 1, 128, 128]⟩
abbrev S128x256 : Shape := ⟨2, ![128, 256]⟩
abbrev S1x4x128x1280 : Shape := ⟨4, ![1, 4, 128, 1280]⟩
abbrev S4x128x1280 : Shape := ⟨3, ![4, 128, 1280]⟩
abbrev S1x128x256 : Shape := ⟨3, ![1, 128, 256]⟩
abbrev S1x32x128 : Shape := ⟨3, ![1, 32, 128]⟩
abbrev S32x128 : Shape := ⟨2, ![32, 128]⟩
abbrev S1x1x32x128 : Shape := ⟨4, ![1, 1, 32, 128]⟩
abbrev S32 : Shape := ⟨1, ![32]⟩
abbrev S32x1 : Shape := ⟨2, ![32, 1]⟩
abbrev S256x128 : Shape := ⟨2, ![256, 128]⟩
abbrev S1x1x128x128 : Shape := ⟨4, ![1, 1, 128, 128]⟩
abbrev S256x256 : Shape := ⟨2, ![256, 256]⟩
abbrev S128x512 : Shape := ⟨2, ![128, 512]⟩
abbrev S128 : Shape := ⟨1, ![128]⟩
abbrev S128x1 : Shape := ⟨2, ![128, 1]⟩
abbrev S1x128x512 : Shape := ⟨3, ![1, 128, 512]⟩
abbrev S1x32x256 : Shape := ⟨3, ![1, 32, 256]⟩
abbrev S32x256 : Shape := ⟨2, ![32, 256]⟩
abbrev S1x1x32x256 : Shape := ⟨4, ![1, 1, 32, 256]⟩
abbrev S512x128 : Shape := ⟨2, ![512, 128]⟩
abbrev S1x1x256x128 : Shape := ⟨4, ![1, 1, 256, 128]⟩
abbrev S512x256 : Shape := ⟨2, ![512, 256]⟩
abbrev S128x768 : Shape := ⟨2, ![128, 768]⟩
abbrev S1x128x768 : Shape := ⟨3, ![1, 128, 768]⟩
abbrev S1x32x384 : Shape := ⟨3, ![1, 32, 384]⟩
abbrev S32x384 : Shape := ⟨2, ![32, 384]⟩
abbrev S1x1x32x384 : Shape := ⟨4, ![1, 1, 32, 384]⟩
abbrev S384x128 : Shape := ⟨2, ![384, 128]⟩
abbrev S768x128 : Shape := ⟨2, ![768, 128]⟩
abbrev S1x1x384x128 : Shape := ⟨4, ![1, 1, 384, 128]⟩
abbrev S768x256 : Shape := ⟨2, ![768, 256]⟩
abbrev S128x1024 : Shape := ⟨2, ![128, 1024]⟩
abbrev S1x128x1024 : Shape := ⟨3, ![1, 128, 1024]⟩
abbrev S1x32x512 : Shape := ⟨3, ![1, 32, 512]⟩
abbrev S32x512 : Shape := ⟨2, ![32, 512]⟩
abbrev S1x1x32x512 : Shape := ⟨4, ![1, 1, 32, 512]⟩
abbrev S1024x128 : Shape := ⟨2, ![1024, 128]⟩
abbrev S1x1x512x128 : Shape := ⟨4, ![1, 1, 512, 128]⟩
abbrev S1024x256 : Shape := ⟨2, ![1024, 256]⟩
abbrev S128x1280 : Shape := ⟨2, ![128, 1280]⟩
abbrev S1x128x1280 : Shape := ⟨3, ![1, 128, 1280]⟩
abbrev S1x32x640 : Shape := ⟨3, ![1, 32, 640]⟩
abbrev S32x640 : Shape := ⟨2, ![32, 640]⟩
abbrev S1x1x32x640 : Shape := ⟨4, ![1, 1, 32, 640]⟩
abbrev S640x128 : Shape := ⟨2, ![640, 128]⟩
abbrev S1280x128 : Shape := ⟨2, ![1280, 128]⟩
abbrev S1x1x640x128 : Shape := ⟨4, ![1, 1, 640, 128]⟩
abbrev S1280x256 : Shape := ⟨2, ![1280, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x512, .bf16⟩
  | .hbm, ⟨1, _⟩ => ⟨S8x2x16x512x128, .bf16⟩
  | .hbm, ⟨2, _⟩ => ⟨S8x2x2048x512, .bf16⟩
  | .hbm, ⟨3, _⟩ => ⟨S8x5x128x128, .f32⟩
  | .hbm, ⟨4, _⟩ => ⟨S1x512, .f32⟩
  | .hbm, ⟨5, _⟩ => ⟨S8x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x2x16x512x128, .bf16⟩
  | .local _ .vmem, ⟨3, _⟩ => ⟨S1x2x16x512x128, .bf16⟩
  | .local _ .vmem, ⟨4, _⟩ => ⟨S1x2x2048x512, .bf16⟩
  | .local _ .vmem, ⟨5, _⟩ => ⟨S1x2x2048x512, .bf16⟩
  | .local _ .vmem, ⟨6, _⟩ => ⟨S8x5x128x128, .f32⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S2x4x128x1280, .f32⟩
  | .local _ .vmem, ⟨11, _⟩ => ⟨S2x4x128x1280, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg1 : BitVec 32 := BitVec.ofNat 32 (i 1).val
  let c4_i32 : BitVec 32 := 4#32
  let v6 : BitVec 32 := Scalar.muli arg1 c4_i32
  let c0_i32_3 : BitVec 32 := 0#32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  v11
def k0_off1 (i : grid0.Coords) (c0_i32_3 : BitVec 32) (c0_i32_8 : BitVec 32) : Fin 5 → Nat :=
  let c0_9 : Index := 0#32
  let c0_10 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v15 : BitVec 32 := Scalar.addi v8 c0_i32_8
  let v16 : Index := Scalar.indexCast v15
  let c0_11 : Index := 0#32
  let c0_12 : Index := 0#32
  ![0, 0, v16.toNat, 0, 0]
def k0_off2 (i : grid0.Coords) (c0_i32_3 : BitVec 32) (c0_i32_30 : BitVec 32) : Fin 5 → Nat :=
  let c0_31 : Index := 0#32
  let c1 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v35 : BitVec 32 := Scalar.addi v8 c0_i32_30
  let v36 : Index := Scalar.indexCast v35
  let c0_32 : Index := 0#32
  let c0_33 : Index := 0#32
  ![0, 1, v36.toNat, 0, 0]
def k0_off3 (i : grid0.Coords) (c0_i32_3 : BitVec 32) (c0_i32_63 : BitVec 32) : Fin 5 → Nat :=
  let c0_64 : Index := 0#32
  let c0_65 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v64 : BitVec 32 := Scalar.addi v8 c0_i32_63
  let v65 : Index := Scalar.indexCast v64
  let c128_66 : Index := 128#32
  let c0_67 : Index := 0#32
  ![0, 0, v65.toNat, 128, 0]
def k0_off4 (i : grid0.Coords) (c0_i32_3 : BitVec 32) (c0_i32_88 : BitVec 32) : Fin 5 → Nat :=
  let c0_89 : Index := 0#32
  let c1_90 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v84 : BitVec 32 := Scalar.addi v8 c0_i32_88
  let v85 : Index := Scalar.indexCast v84
  let c128_91 : Index := 128#32
  let c0_92 : Index := 0#32
  ![0, 1, v85.toNat, 128, 0]
def k0_off5 (i : grid0.Coords) (c0_i32_3 : BitVec 32) (c0_i32_123 : BitVec 32) : Fin 5 → Nat :=
  let c0_124 : Index := 0#32
  let c0_125 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v113 : BitVec 32 := Scalar.addi v8 c0_i32_123
  let v114 : Index := Scalar.indexCast v113
  let c256_126 : Index := 256#32
  let c0_127 : Index := 0#32
  ![0, 0, v114.toNat, 256, 0]
def k0_off6 (i : grid0.Coords) (c0_i32_3 : BitVec 32) (c0_i32_148 : BitVec 32) : Fin 5 → Nat :=
  let c0_149 : Index := 0#32
  let c1_150 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v133 : BitVec 32 := Scalar.addi v8 c0_i32_148
  let v134 : Index := Scalar.indexCast v133
  let c256_151 : Index := 256#32
  let c0_152 : Index := 0#32
  ![0, 1, v134.toNat, 256, 0]
def k0_off7 (i : grid0.Coords) (c0_i32_3 : BitVec 32) (c0_i32_182 : BitVec 32) : Fin 5 → Nat :=
  let c0_183 : Index := 0#32
  let c0_184 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v162 : BitVec 32 := Scalar.addi v8 c0_i32_182
  let v163 : Index := Scalar.indexCast v162
  let c384_185 : Index := 384#32
  let c0_186 : Index := 0#32
  ![0, 0, v163.toNat, 384, 0]
def k0_off8 (i : grid0.Coords) (c0_i32_3 : BitVec 32) (c0_i32_207 : BitVec 32) : Fin 5 → Nat :=
  let c0_208 : Index := 0#32
  let c1_209 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let v182 : BitVec 32 := Scalar.addi v8 c0_i32_207
  let v183 : Index := Scalar.indexCast v182
  let c384_210 : Index := 384#32
  let c0_211 : Index := 0#32
  ![0, 1, v183.toNat, 384, 0]
def k0_off9 (i : grid0.Coords) (c0_i32_3 : BitVec 32) (c0_i32_246 : BitVec 32) : Fin 4 → Nat :=
  let c0_247 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v213 : BitVec 32 := Scalar.addi v10 c0_i32_246
  let v214 : Index := Scalar.indexCast v213
  let c0_248 : Index := 0#32
  let c0_249 : Index := 0#32
  ![0, v214.toNat, 0, 0]
def k0_off10 (i : grid0.Coords) (c0_i32_3 : BitVec 32) (c0_i32_280 : BitVec 32) : Fin 4 → Nat :=
  let c0_281 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v250 : BitVec 32 := Scalar.addi v10 c0_i32_280
  let v251 : Index := Scalar.indexCast v250
  let c32_282 : Index := 32#32
  let c0_283 : Index := 0#32
  ![0, v251.toNat, 32, 0]
def k0_off11 (i : grid0.Coords) (c0_i32_3 : BitVec 32) (c0_i32_314 : BitVec 32) : Fin 4 → Nat :=
  let c0_315 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v287 : BitVec 32 := Scalar.addi v10 c0_i32_314
  let v288 : Index := Scalar.indexCast v287
  let c64_316 : Index := 64#32
  let c0_317 : Index := 0#32
  ![0, v288.toNat, 64, 0]
def k0_off12 (i : grid0.Coords) (c0_i32_3 : BitVec 32) (c0_i32_348 : BitVec 32) : Fin 4 → Nat :=
  let c0_349 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v324 : BitVec 32 := Scalar.addi v10 c0_i32_348
  let v325 : Index := Scalar.indexCast v324
  let c96_350 : Index := 96#32
  let c0_351 : Index := 0#32
  ![0, v325.toNat, 96, 0]
def k0_off13 (i : grid0.Coords) (c0_i32_3 : BitVec 32) (c0_i32_382 : BitVec 32) : Fin 4 → Nat :=
  let c1_383 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v361 : BitVec 32 := Scalar.addi v10 c0_i32_382
  let v362 : Index := Scalar.indexCast v361
  let c0_384 : Index := 0#32
  let c0_385 : Index := 0#32
  ![1, v362.toNat, 0, 0]
def k0_off14 (i : grid0.Coords) (c0_i32_3 : BitVec 32) (c0_i32_417 : BitVec 32) : Fin 4 → Nat :=
  let c1_418 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v398 : BitVec 32 := Scalar.addi v10 c0_i32_417
  let v399 : Index := Scalar.indexCast v398
  let c32_419 : Index := 32#32
  let c0_420 : Index := 0#32
  ![1, v399.toNat, 32, 0]
def k0_off15 (i : grid0.Coords) (c0_i32_3 : BitVec 32) (c0_i32_452 : BitVec 32) : Fin 4 → Nat :=
  let c1_453 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v435 : BitVec 32 := Scalar.addi v10 c0_i32_452
  let v436 : Index := Scalar.indexCast v435
  let c64_454 : Index := 64#32
  let c0_455 : Index := 0#32
  ![1, v436.toNat, 64, 0]
def k0_off16 (i : grid0.Coords) (c0_i32_3 : BitVec 32) (c0_i32_487 : BitVec 32) : Fin 4 → Nat :=
  let c1_488 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v472 : BitVec 32 := Scalar.addi v10 c0_i32_487
  let v473 : Index := Scalar.indexCast v472
  let c96_489 : Index := 96#32
  let c0_490 : Index := 0#32
  ![1, v473.toNat, 96, 0]
def k0_off17 (i : grid0.Coords) (c0_i32_3 : BitVec 32) (c0_i32_522 : BitVec 32) : Fin 4 → Nat :=
  let c2_523 : Index := 2#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v509 : BitVec 32 := Scalar.addi v10 c0_i32_522
  let v510 : Index := Scalar.indexCast v509
  let c0_524 : Index := 0#32
  let c0_525 : Index := 0#32
  ![2, v510.toNat, 0, 0]
def k0_off18 (i : grid0.Coords) (c0_i32_3 : BitVec 32) (c0_i32_557 : BitVec 32) : Fin 4 → Nat :=
  let c2_558 : Index := 2#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v546 : BitVec 32 := Scalar.addi v10 c0_i32_557
  let v547 : Index := Scalar.indexCast v546
  let c32_559 : Index := 32#32
  let c0_560 : Index := 0#32
  ![2, v547.toNat, 32, 0]
def k0_off19 (i : grid0.Coords) (c0_i32_3 : BitVec 32) (c0_i32_592 : BitVec 32) : Fin 4 → Nat :=
  let c2_593 : Index := 2#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v583 : BitVec 32 := Scalar.addi v10 c0_i32_592
  let v584 : Index := Scalar.indexCast v583
  let c64_594 : Index := 64#32
  let c0_595 : Index := 0#32
  ![2, v584.toNat, 64, 0]
def k0_off20 (i : grid0.Coords) (c0_i32_3 : BitVec 32) (c0_i32_627 : BitVec 32) : Fin 4 → Nat :=
  let c2_628 : Index := 2#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v620 : BitVec 32 := Scalar.addi v10 c0_i32_627
  let v621 : Index := Scalar.indexCast v620
  let c96_629 : Index := 96#32
  let c0_630 : Index := 0#32
  ![2, v621.toNat, 96, 0]
def k0_off21 (i : grid0.Coords) (c0_i32_3 : BitVec 32) (c0_i32_662 : BitVec 32) : Fin 4 → Nat :=
  let c3_663 : Index := 3#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v657 : BitVec 32 := Scalar.addi v10 c0_i32_662
  let v658 : Index := Scalar.indexCast v657
  let c0_664 : Index := 0#32
  let c0_665 : Index := 0#32
  ![3, v658.toNat, 0, 0]
def k0_off22 (i : grid0.Coords) (c0_i32_3 : BitVec 32) (c0_i32_697 : BitVec 32) : Fin 4 → Nat :=
  let c3_698 : Index := 3#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v694 : BitVec 32 := Scalar.addi v10 c0_i32_697
  let v695 : Index := Scalar.indexCast v694
  let c32_699 : Index := 32#32
  let c0_700 : Index := 0#32
  ![3, v695.toNat, 32, 0]
def k0_off23 (i : grid0.Coords) (c0_i32_3 : BitVec 32) (c0_i32_732 : BitVec 32) : Fin 4 → Nat :=
  let c3_733 : Index := 3#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v731 : BitVec 32 := Scalar.addi v10 c0_i32_732
  let v732 : Index := Scalar.indexCast v731
  let c64_734 : Index := 64#32
  let c0_735 : Index := 0#32
  ![3, v732.toNat, 64, 0]
def k0_off24 (i : grid0.Coords) (c0_i32_3 : BitVec 32) (c0_i32_767 : BitVec 32) : Fin 4 → Nat :=
  let c3_768 : Index := 3#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v768 : BitVec 32 := Scalar.addi v10 c0_i32_767
  let v769 : Index := Scalar.indexCast v768
  let c96_769 : Index := 96#32
  let c0_770 : Index := 0#32
  ![3, v769.toNat, 96, 0]
def k0_off25 (i : grid0.Coords) (c0_i32_3 : BitVec 32) (c0_i32_802 : BitVec 32) : Fin 4 → Nat :=
  let c4 : Index := 4#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v805 : BitVec 32 := Scalar.addi v10 c0_i32_802
  let v806 : Index := Scalar.indexCast v805
  let c0_803 : Index := 0#32
  let c0_804 : Index := 0#32
  ![4, v806.toNat, 0, 0]
def k0_off26 (i : grid0.Coords) (c0_i32_3 : BitVec 32) (c0_i32_836 : BitVec 32) : Fin 4 → Nat :=
  let c4_837 : Index := 4#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v842 : BitVec 32 := Scalar.addi v10 c0_i32_836
  let v843 : Index := Scalar.indexCast v842
  let c32_838 : Index := 32#32
  let c0_839 : Index := 0#32
  ![4, v843.toNat, 32, 0]
def k0_off27 (i : grid0.Coords) (c0_i32_3 : BitVec 32) (c0_i32_871 : BitVec 32) : Fin 4 → Nat :=
  let c4_872 : Index := 4#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v879 : BitVec 32 := Scalar.addi v10 c0_i32_871
  let v880 : Index := Scalar.indexCast v879
  let c64_873 : Index := 64#32
  let c0_874 : Index := 0#32
  ![4, v880.toNat, 64, 0]
def k0_off28 (i : grid0.Coords) (c0_i32_3 : BitVec 32) (c0_i32_906 : BitVec 32) : Fin 4 → Nat :=
  let c4_907 : Index := 4#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v916 : BitVec 32 := Scalar.addi v10 c0_i32_906
  let v917 : Index := Scalar.indexCast v916
  let c96_908 : Index := 96#32
  let c0_909 : Index := 0#32
  ![4, v917.toNat, 96, 0]
def k0_off29 (i : grid0.Coords) (c0_i32_3 : BitVec 32) (c0_i32_941 : BitVec 32) : Fin 4 → Nat :=
  let c5 : Index := 5#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v953 : BitVec 32 := Scalar.addi v10 c0_i32_941
  let v954 : Index := Scalar.indexCast v953
  let c0_942 : Index := 0#32
  let c0_943 : Index := 0#32
  ![5, v954.toNat, 0, 0]
def k0_off30 (i : grid0.Coords) (c0_i32_3 : BitVec 32) (c0_i32_975 : BitVec 32) : Fin 4 → Nat :=
  let c5_976 : Index := 5#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v990 : BitVec 32 := Scalar.addi v10 c0_i32_975
  let v991 : Index := Scalar.indexCast v990
  let c32_977 : Index := 32#32
  let c0_978 : Index := 0#32
  ![5, v991.toNat, 32, 0]
def k0_off31 (i : grid0.Coords) (c0_i32_3 : BitVec 32) (c0_i32_1010 : BitVec 32) : Fin 4 → Nat :=
  let c5_1011 : Index := 5#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1027 : BitVec 32 := Scalar.addi v10 c0_i32_1010
  let v1028 : Index := Scalar.indexCast v1027
  let c64_1012 : Index := 64#32
  let c0_1013 : Index := 0#32
  ![5, v1028.toNat, 64, 0]
def k0_off32 (i : grid0.Coords) (c0_i32_3 : BitVec 32) (c0_i32_1045 : BitVec 32) : Fin 4 → Nat :=
  let c5_1046 : Index := 5#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1064 : BitVec 32 := Scalar.addi v10 c0_i32_1045
  let v1065 : Index := Scalar.indexCast v1064
  let c96_1047 : Index := 96#32
  let c0_1048 : Index := 0#32
  ![5, v1065.toNat, 96, 0]
def k0_off33 (i : grid0.Coords) (c0_i32_3 : BitVec 32) (c0_i32_1080 : BitVec 32) : Fin 4 → Nat :=
  let c6 : Index := 6#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1101 : BitVec 32 := Scalar.addi v10 c0_i32_1080
  let v1102 : Index := Scalar.indexCast v1101
  let c0_1081 : Index := 0#32
  let c0_1082 : Index := 0#32
  ![6, v1102.toNat, 0, 0]
def k0_off34 (i : grid0.Coords) (c0_i32_3 : BitVec 32) (c0_i32_1114 : BitVec 32) : Fin 4 → Nat :=
  let c6_1115 : Index := 6#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1138 : BitVec 32 := Scalar.addi v10 c0_i32_1114
  let v1139 : Index := Scalar.indexCast v1138
  let c32_1116 : Index := 32#32
  let c0_1117 : Index := 0#32
  ![6, v1139.toNat, 32, 0]
def k0_off35 (i : grid0.Coords) (c0_i32_3 : BitVec 32) (c0_i32_1149 : BitVec 32) : Fin 4 → Nat :=
  let c6_1150 : Index := 6#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1175 : BitVec 32 := Scalar.addi v10 c0_i32_1149
  let v1176 : Index := Scalar.indexCast v1175
  let c64_1151 : Index := 64#32
  let c0_1152 : Index := 0#32
  ![6, v1176.toNat, 64, 0]
def k0_off36 (i : grid0.Coords) (c0_i32_3 : BitVec 32) (c0_i32_1184 : BitVec 32) : Fin 4 → Nat :=
  let c6_1185 : Index := 6#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1212 : BitVec 32 := Scalar.addi v10 c0_i32_1184
  let v1213 : Index := Scalar.indexCast v1212
  let c96_1186 : Index := 96#32
  let c0_1187 : Index := 0#32
  ![6, v1213.toNat, 96, 0]
def k0_off37 (i : grid0.Coords) (c0_i32_3 : BitVec 32) (c0_i32_1219 : BitVec 32) : Fin 4 → Nat :=
  let c7 : Index := 7#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1249 : BitVec 32 := Scalar.addi v10 c0_i32_1219
  let v1250 : Index := Scalar.indexCast v1249
  let c0_1220 : Index := 0#32
  let c0_1221 : Index := 0#32
  ![7, v1250.toNat, 0, 0]
def k0_off38 (i : grid0.Coords) (c0_i32_3 : BitVec 32) (c0_i32_1253 : BitVec 32) : Fin 4 → Nat :=
  let c7_1254 : Index := 7#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1286 : BitVec 32 := Scalar.addi v10 c0_i32_1253
  let v1287 : Index := Scalar.indexCast v1286
  let c32_1255 : Index := 32#32
  let c0_1256 : Index := 0#32
  ![7, v1287.toNat, 32, 0]
def k0_off39 (i : grid0.Coords) (c0_i32_3 : BitVec 32) (c0_i32_1288 : BitVec 32) : Fin 4 → Nat :=
  let c7_1289 : Index := 7#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1323 : BitVec 32 := Scalar.addi v10 c0_i32_1288
  let v1324 : Index := Scalar.indexCast v1323
  let c64_1290 : Index := 64#32
  let c0_1291 : Index := 0#32
  ![7, v1324.toNat, 64, 0]
def k0_off40 (i : grid0.Coords) (c0_i32_3 : BitVec 32) (c0_i32_1323 : BitVec 32) : Fin 4 → Nat :=
  let c7_1324 : Index := 7#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c4_i32_5 : BitVec 32 := 4#32
  let v9 : BitVec 32 := Scalar.addi v8 c4_i32_5
  let v10 : BitVec 32 := Scalar.subi v9 v7
  let v1360 : BitVec 32 := Scalar.addi v10 c0_i32_1323
  let v1361 : Index := Scalar.indexCast v1360
  let c96_1325 : Index := 96#32
  let c0_1326 : Index := 0#32
  ![7, v1361.toNat, 96, 0]
def k0_off41 (i : grid0.Coords) (c0_i32_3 : BitVec 32) : Fin 4 → Nat :=
  let c0_1362 : Index := 0#32
  let c0_1363 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1408 : Index := Scalar.indexCast v12
  let c0_1364 : Index := 0#32
  ![0, 0, v1408.toNat, 0]
def k0_off42 (i : grid0.Coords) (c0_i32_3 : BitVec 32) : Fin 4 → Nat :=
  let c0_1365 : Index := 0#32
  let c1_1366 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1411 : Index := Scalar.indexCast v12
  let c0_1367 : Index := 0#32
  ![0, 1, v1411.toNat, 0]
def k0_off43 (i : grid0.Coords) (c0_i32_3 : BitVec 32) : Fin 4 → Nat :=
  let c0_1377 : Index := 0#32
  let c0_1378 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1426 : Index := Scalar.indexCast v12
  let c128_1379 : Index := 128#32
  ![0, 0, v1426.toNat, 128]
def k0_off44 (i : grid0.Coords) (c0_i32_3 : BitVec 32) : Fin 4 → Nat :=
  let c0_1380 : Index := 0#32
  let c1_1381 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1429 : Index := Scalar.indexCast v12
  let c128_1382 : Index := 128#32
  ![0, 1, v1429.toNat, 128]
def k0_off45 (i : grid0.Coords) (c0_i32_3 : BitVec 32) : Fin 4 → Nat :=
  let c0_1392 : Index := 0#32
  let c0_1393 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1444 : Index := Scalar.indexCast v12
  let c256_1394 : Index := 256#32
  ![0, 0, v1444.toNat, 256]
def k0_off46 (i : grid0.Coords) (c0_i32_3 : BitVec 32) : Fin 4 → Nat :=
  let c0_1395 : Index := 0#32
  let c1_1396 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1447 : Index := Scalar.indexCast v12
  let c256_1397 : Index := 256#32
  ![0, 1, v1447.toNat, 256]
def k0_off47 (i : grid0.Coords) (c0_i32_3 : BitVec 32) : Fin 4 → Nat :=
  let c0_1407 : Index := 0#32
  let c0_1408 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1462 : Index := Scalar.indexCast v12
  let c384_1409 : Index := 384#32
  ![0, 0, v1462.toNat, 384]
def k0_off48 (i : grid0.Coords) (c0_i32_3 : BitVec 32) : Fin 4 → Nat :=
  let c0_1410 : Index := 0#32
  let c1_1411 : Index := 1#32
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.subi v7 c4_i32_4
  let c128_i32 : BitVec 32 := 128#32
  let v11 : BitVec 32 := Scalar.muli v8 c128_i32
  let v12 : BitVec 32 := v11
  let v1465 : Index := Scalar.indexCast v12
  let c384_1412 : Index := 384#32
  ![0, 1, v1465.toNat, 384]
def k0_mult2 (i : grid0.Coords) : BitVec 32 :=
  let arg1 : BitVec 32 := BitVec.ofNat 32 (i 1).val
  let c4_i32_1423 : BitVec 32 := 4#32
  let v1494 : BitVec 32 := Scalar.muli arg1 c4_i32_1423
  let c1_i32_1424 : BitVec 32 := 1#32
  let v1495 : BitVec 32 := Scalar.addi v1494 c1_i32_1424
  let c4_i32_1425 : BitVec 32 := 4#32
  let v1496 : BitVec 32 := Scalar.subi v1495 c4_i32_1425
  let c128_i32_1427 : BitVec 32 := 128#32
  let v1499 : BitVec 32 := Scalar.muli v1496 c128_i32_1427
  v1499
def k0_mult3 (i : grid0.Coords) : BitVec 32 :=
  let arg1 : BitVec 32 := BitVec.ofNat 32 (i 1).val
  let c4_i32_2865 : BitVec 32 := 4#32
  let v2982 : BitVec 32 := Scalar.muli arg1 c4_i32_2865
  let c2_i32_2866 : BitVec 32 := 2#32
  let v2983 : BitVec 32 := Scalar.addi v2982 c2_i32_2866
  let c4_i32_2867 : BitVec 32 := 4#32
  let v2984 : BitVec 32 := Scalar.subi v2983 c4_i32_2867
  let c128_i32_2869 : BitVec 32 := 128#32
  let v2987 : BitVec 32 := Scalar.muli v2984 c128_i32_2869
  v2987
def k0_mult4 (i : grid0.Coords) : BitVec 32 :=
  let arg1 : BitVec 32 := BitVec.ofNat 32 (i 1).val
  let c4_i32_4307 : BitVec 32 := 4#32
  let v4470 : BitVec 32 := Scalar.muli arg1 c4_i32_4307
  let c3_i32_4308 : BitVec 32 := 3#32
  let v4471 : BitVec 32 := Scalar.addi v4470 c3_i32_4308
  let c4_i32_4309 : BitVec 32 := 4#32
  let v4472 : BitVec 32 := Scalar.subi v4471 c4_i32_4309
  let c128_i32_4311 : BitVec 32 := 128#32
  let v4475 : BitVec 32 := Scalar.muli v4472 c128_i32_4311
  v4475
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x5x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2.lean ====
abbrev S8x2048x1024 : Shape := ⟨3, ![8, 2048, 1024]⟩
abbrev S1x8x2048x256 : Shape := ⟨4, ![1, 8, 2048, 256]⟩
abbrev S8x2048x512 : Shape := ⟨3, ![8, 2048, 512]⟩
abbrev S8x64x1024 : Shape := ⟨3, ![8, 64, 1024]⟩
abbrev S1x8x64x256 : Shape := ⟨4, ![1, 8, 64, 256]⟩
abbrev S8x64x512 : Shape := ⟨3, ![8, 64, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S8x2048x256 : Shape := ⟨3, ![8, 2048, 256]⟩
abbrev S1x512x1024 : Shape := ⟨3, ![1, 512, 1024]⟩
abbrev S8x64x256 : Shape := ⟨3, ![8, 64, 256]⟩
abbrev S1x512x256 : Shape := ⟨3, ![1, 512, 256]⟩
abbrev S1x512x512 : Shape := ⟨3, ![1, 512, 512]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 41
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S8x2048x512, .f32⟩
  | .hbm, ⟨3, _⟩ => ⟨S8x2048x512, .f32⟩
  | .hbm, ⟨4, _⟩ => ⟨S8x64x1024, .f32⟩
  | .hbm, ⟨5, _⟩ => ⟨S1x8x64x256, .f32⟩
  | .hbm, ⟨6, _⟩ => ⟨S8x64x512, .f32⟩
  | .hbm, ⟨7, _⟩ => ⟨S8x64x512, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S256x1024, .f32⟩
  | .hbm, ⟨28, _⟩ => ⟨S256x1024, .bf16⟩
  | .hbm, ⟨29, _⟩ => ⟨S8x2048x256, .f32⟩
  | .hbm, ⟨30, _⟩ => ⟨S8x2048x512, .bf16⟩
  | .hbm, ⟨31, _⟩ => ⟨S8x2048x512, .bf16⟩
  | .hbm, ⟨32, _⟩ => ⟨S1x512x1024, .f32⟩
  | .hbm, ⟨33, _⟩ => ⟨S8x64x256, .f32⟩
  | .hbm, ⟨34, _⟩ => ⟨S1x512x256, .f32⟩
  | .hbm, ⟨35, _⟩ => ⟨S1x512x512, .f32⟩
  | .hbm, ⟨36, _⟩ => ⟨S1x512x512, .bf16⟩
  | .hbm, ⟨37, _⟩ => ⟨S1x512x512, .f32⟩
  | .hbm, ⟨38, _⟩ => ⟨S1x512x512, .bf16⟩
  | .hbm, ⟨39, _⟩ => ⟨S8x2048x1024, .f32⟩
  | .hbm, ⟨40, _⟩ => ⟨S1x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x256, .f32⟩
  | .local _ .vmem, ⟨11, _⟩ => ⟨S1x512x256, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1024x1024, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S1024x1024, .bf16⟩
  | .local _ .vmem, ⟨22, _⟩ => ⟨S256x1024, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c32_i32 : BitVec 32 := 32#32
  let v1 : BitVec 1 := Scalar.cmpi .slt arg0 c32_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c32_i32_1 : BitVec 32 := 32#32
  let v5 : BitVec 1 := Scalar.cmpi .sge arg0 c32_i32_1
  let c33_i32 : BitVec 32 := 33#32
  let v6 : BitVec 1 := Scalar.cmpi .slt arg0 c33_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_4 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v19.toNat, v29.toNat, c0_i32_13.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v19.toNat, v29.toNat, c0_i32_13.toNat]

def cc0_transform_6 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v19.toNat, v29.toNat, c0_i32_13.toNat]

def cc0_transform_7 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v19.toNat, v29.toNat, c0_i32_13.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_16 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v19.toNat, v29.toNat, c0_i32_13.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8x2048x1024 : Shape := ⟨3, ![8, 2048, 1024]⟩
abbrev S1x8x2048x256 : Shape := ⟨4, ![1, 8, 2048, 256]⟩
abbrev S8x2048x512 : Shape := ⟨3, ![8, 2048, 512]⟩
abbrev S8x64x1024 : Shape := ⟨3, ![8, 64, 1024]⟩
abbrev S1x8x64x256 : Shape := ⟨4, ![1, 8, 64, 256]⟩
abbrev S8x64x512 : Shape := ⟨3, ![8, 64, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S8x2048x256 : Shape := ⟨3, ![8, 2048, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x64x256 : Shape := ⟨3, ![8, 64, 256]⟩
abbrev S8x64 : Shape := ⟨2, ![8, 64]⟩
abbrev S8x64x1 : Shape := ⟨3, ![8, 64, 1]⟩
abbrev S8x64x4096 : Shape := ⟨3, ![8, 64, 4096]⟩
abbrev S1x512x1024 : Shape := ⟨3, ![1, 512, 1024]⟩

abbrev nBuf : Space → Nat
  | .hbm => 133
  | .vmem => 0
  | .smem => 0
  | _ => 0

abbrev hbmTy0_0 (i : Nat) : BufTy := match i % 128 with
  | 0 => ⟨S8x2048x1024, .f32⟩
  | 1 => ⟨S1x8x2048x256, .f32⟩
  | 2 => ⟨S8x2048x512, .f32⟩
  | 3 => ⟨S8x2048x512, .f32⟩
  | 4 => ⟨S8x64x1024, .f32⟩
  | 5 => ⟨S1x8x64x256, .f32⟩
  | 6 => ⟨S8x64x512, .f32⟩
  | 7 => ⟨S8x64x512, .f32⟩
  | 8 => ⟨S1x1024x1024, .f32⟩
  | 9 => ⟨S1x1024, .f32⟩
  | 10 => ⟨S1x1024x4096, .f32⟩
  | 11 => ⟨S1x4096x1024, .f32⟩
  | 12 => ⟨S1x1024, .f32⟩
  | 13 => ⟨S1x1024x1024, .f32⟩
  | 14 => ⟨S1x256x1024, .f32⟩
  | 15 => ⟨S1024x1024, .f32⟩
  | 16 => ⟨S1024, .f32⟩
  | 17 => ⟨S1024x4096, .f32⟩
  | 18 => ⟨S4096x1024, .f32⟩
  | 19 => ⟨S1024, .f32⟩
  | 20 => ⟨S1024x1024, .f32⟩
  | 21 => ⟨S256x1024, .f32⟩
  | 22 => ⟨S8x2048x256, .f32⟩
  | 23 => ⟨S8x2048x1024, .f32⟩
  | 24 => ⟨S8x2048x1024, .f32⟩
  | 25 => ⟨S8x2048x1024, .f32⟩
  | 26 => ⟨S8x2048x1024, .f32⟩
  | 27 => ⟨S_, .f32⟩
  | 28 => ⟨S8x2048, .f32⟩
  | 29 => ⟨S8x2048x1, .f32⟩
  | 30 => ⟨S_, .f32⟩
  | 31 => ⟨S8x2048x1, .f32⟩
  | 32 => ⟨S8x2048x1, .f32⟩
  | 33 => ⟨S_, .f32⟩
  | 34 => ⟨S8x2048x1, .f32⟩
  | 35 => ⟨S8x2048x1, .f32⟩
  | 36 => ⟨S8x2048x1, .f32⟩
  | 37 => ⟨S8x2048x1024, .f32⟩
  | 38 => ⟨S8x2048x1024, .f32⟩
  | 39 => ⟨S1x1x1024, .f32⟩
  | 40 => ⟨S8x2048x1024, .f32⟩
  | 41 => ⟨S8x2048x1024, .f32⟩
  | 42 => ⟨S8x2048x4096, .f32⟩
  | 43 => ⟨S_, .f32⟩
  | 44 => ⟨S8x2048x4096, .f32⟩
  | 45 => ⟨S8x2048x4096, .f32⟩
  | 46 => ⟨S8x2048x4096, .f32⟩
  | 47 => ⟨S8x2048x1024, .f32⟩
  | 48 => ⟨S8x2048x1024, .f32⟩
  | 49 => ⟨S8x2048x1024, .f32⟩
  | 50 => ⟨S_, .f32⟩
  | 51 => ⟨S8x2048, .f32⟩
  | 52 => ⟨S8x2048x1, .f32⟩
  | 53 => ⟨S_, .f32⟩
  | 54 => ⟨S8x2048x1, .f32⟩
  | 55 => ⟨S8x2048x1, .f32⟩
  | 56 => ⟨S_, .f32⟩
  | 57 => ⟨S8x2048x1, .f32⟩
  | 58 => ⟨S8x2048x1, .f32⟩
  | 59 => ⟨S8x2048x1, .f32⟩
  | 60 => ⟨S8x2048x1024, .f32⟩
  | 61 => ⟨S8x2048x1024, .f32⟩
  | 62 => ⟨S1x1x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S_, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S8x64x256, .f32⟩
  | 78 => ⟨S8x64x1024, .f32⟩
  | 79 => ⟨S8x64x1024, .f32⟩
  | 80 => ⟨S8x64x1024, .f32⟩
  | 81 => ⟨S8x64x1024, .f32⟩
  | 82 => ⟨S_, .f32⟩
  | 83 => ⟨S8x64, .f32⟩
  | 84 => ⟨S8x64x1, .f32⟩
  | 85 => ⟨S_, .f32⟩
  | 86 => ⟨S8x64x1, .f32⟩
  | 87 => ⟨S8x64x1, .f32⟩
  | 88 => ⟨S_, .f32⟩
  | 89 => ⟨S8x64x1, .f32⟩
  | 90 => ⟨S8x64x1, .f32⟩
  | 91 => ⟨S8x64x1, .f32⟩
  | 92 => ⟨S8x64x1024, .f32⟩
  | 93 => ⟨S8x64x1024, .f32⟩
  | 94 => ⟨S1x1x1024, .f32⟩
  | 95 => ⟨S8x64x1024, .f32⟩
  | 96 => ⟨S8x64x1024, .f32⟩
  | 97 => ⟨S8x64x4096, .f32⟩
  | 98 => ⟨S_, .f32⟩
  | 99 => ⟨S8x64x4096, .f32⟩
  | 100 => ⟨S8x64x4096, .f32⟩
  | 101 => ⟨S8x64x4096, .f32⟩
  | 102 => ⟨S8x64x1024, .f32⟩
  | 103 => ⟨S8x64x1024, .f32⟩
  | 104 => ⟨S8x64x1024, .f32⟩
  | 105 => ⟨S_, .f32⟩
  | 106 => ⟨S8x64, .f32⟩
  | 107 => ⟨S8x64x1, .f32⟩
  | 108 => ⟨S_, .f32⟩
  | 109 => ⟨S8x64x1, .f32⟩
  | 110 => ⟨S8x64x1, .f32⟩
  | 111 => ⟨S_, .f32⟩
  | 112 => ⟨S8x64x1, .f32⟩
  | 113 => ⟨S8x64x1, .f32⟩
  | 114 => ⟨S8x64x1, .f32⟩
  | 115 => ⟨S8x64x1024, .f32⟩
  | 116 => ⟨S8x64x1024, .f32⟩
  | 117 => ⟨S1x1x1024, .f32⟩
  | 118 => ⟨S8x64x1024, .f32⟩
  | 119 => ⟨S8x64x1024, .f32⟩
  | 120 => ⟨S8x64x1024, .f32⟩
  | 121 => ⟨S8x64x1024, .f32⟩
  | 122 => ⟨S8x64x1024, .f32⟩
  | 123 => ⟨S_, .f32⟩
  | 124 => ⟨S8x64x1024, .f32⟩
  | 125 => ⟨S8x64x1024, .f32⟩
  | 126 => ⟨S_, .f32⟩
  | 127 => ⟨S8x64x1024, .f32⟩
  | _ => ⟨S8x2048x1024, .f32⟩

abbrev hbmTy0_1 (i : Nat) : BufTy := match i % 128 with
  | 0 => ⟨S8x64x1024, .f32⟩
  | 1 => ⟨S8x64x1024, .f32⟩
  | 2 => ⟨S8x64x1024, .f32⟩
  | 3 => ⟨S8x64x1024, .f32⟩
  | 4 => ⟨S1x512x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_10 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_cst_14 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]
-- ==== Kernel3.lean ====
abbrev S8x64x1024 : Shape := ⟨3, ![8, 64, 1024]⟩
abbrev S1x8x30x512 : Shape := ⟨4, ![1, 8, 30, 512]⟩
abbrev S1x1024 : Shape := ⟨2, ![1, 1024]⟩
abbrev S1x1024x2560 : Shape := ⟨3, ![1, 1024, 2560]⟩
abbrev S1x31x512 : Shape := ⟨3, ![1, 31, 512]⟩
abbrev S1x512 : Shape := ⟨2, ![1, 512]⟩
abbrev S1x64 : Shape := ⟨2, ![1, 64]⟩
abbrev S96x96 : Shape := ⟨2, ![96, 96]⟩
abbrev S64x96 : Shape := ⟨2, ![64, 96]⟩
abbrev S3x48x31 : Shape := ⟨3, ![3, 48, 31]⟩
abbrev S31x512 : Shape := ⟨2, ![31, 512]⟩
abbrev S512 : Shape := ⟨1, ![512]⟩
abbrev S1x512x1024 : Shape := ⟨3, ![1, 512, 1024]⟩
abbrev S1024 : Shape := ⟨1, ![1024]⟩
abbrev S1024x2560 : Shape := ⟨2, ![1024, 2560]⟩
abbrev S64 : Shape := ⟨1, ![64]⟩
abbrev S8x30x512 : Shape := ⟨3, ![8, 30, 512]⟩
abbrev S1x512x512 : Shape := ⟨3, ![1, 512, 512]⟩
abbrev S8x96x512 : Shape := ⟨3, ![8, 96, 512]⟩
abbrev S3x48x512 : Shape := ⟨3, ![3, 48, 512]⟩
abbrev S1x48x1 : Shape := ⟨3, ![1, 48, 1]⟩
abbrev S48x1 : Shape := ⟨2, ![48, 1]⟩
abbrev S48x512 : Shape := ⟨2, ![48, 512]⟩
abbrev S1x48x512 : Shape := ⟨3, ![1, 48, 512]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S2x512 : Shape := ⟨2, ![2, 512]⟩
abbrev S1x2x512 : Shape := ⟨3, ![1, 2, 512]⟩
abbrev S1x30x512 : Shape := ⟨3, ![1, 30, 512]⟩
abbrev S30x512 : Shape := ⟨2, ![30, 512]⟩
abbrev S64x512 : Shape := ⟨2, ![64, 512]⟩
abbrev S1x64x512 : Shape := ⟨3, ![1, 64, 512]⟩
abbrev S1x96x512 : Shape := ⟨3, ![1, 96, 512]⟩
abbrev S96x512 : Shape := ⟨2, ![96, 512]⟩
abbrev S96x4096 : Shape := ⟨2, ![96, 4096]⟩
abbrev S64x4096 : Shape := ⟨2, ![64, 4096]⟩
abbrev S64x1 : Shape := ⟨2, ![64, 1]⟩
abbrev S256x256 : Shape := ⟨2, ![256, 256]⟩
abbrev S512x256 : Shape := ⟨2, ![512, 256]⟩

abbrev nBuf : Space → Nat
  | .hbm => 38
  | .vmem => 21
  | .smem => 0
  | _ => 0

abbrev bufTy : (tb : Table) → Fin (tcTables nBuf tb) → BufTy
  | .hbm, ⟨0, _⟩ => ⟨S8x64x1024, .f32⟩
  | .hbm, ⟨1, _⟩ => ⟨S1x8x30x512, .f32⟩
  | .hbm, ⟨2, _⟩ => ⟨S1x1024, .f32⟩
  | .hbm, ⟨3, _⟩ => ⟨S1x1024x2560, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x64, .f32⟩
  | .hbm, ⟨9, _⟩ => ⟨S1x64, .f32⟩
  | .hbm, ⟨10, _⟩ => ⟨S1x512, .f32⟩
  | .hbm, ⟨11, _⟩ => ⟨S96x96, .f32⟩
  | .hbm, ⟨12, _⟩ => ⟨S64x96, .f32⟩
  | .hbm, ⟨13, _⟩ => ⟨S3x48x31, .f32⟩
  | .hbm, ⟨14, _⟩ => ⟨S31x512, .f32⟩
  | .hbm, ⟨15, _⟩ => ⟨S512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S1x512x1024, .f32⟩
  | .hbm, ⟨24, _⟩ => ⟨S1024, .f32⟩
  | .hbm, ⟨25, _⟩ => ⟨S1x1024, .f32⟩
  | .hbm, ⟨26, _⟩ => ⟨S1024x2560, .f32⟩
  | .hbm, ⟨27, _⟩ => ⟨S1024x2560, .bf16⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S8x30x512, .f32⟩
  | .hbm, ⟨33, _⟩ => ⟨S1x512x512, .bf16⟩
  | .hbm, ⟨34, _⟩ => ⟨S1x512x512, .f32⟩
  | .hbm, ⟨35, _⟩ => ⟨S1x512x512, .bf16⟩
  | .hbm, ⟨36, _⟩ => ⟨S1x512x512, .f32⟩
  | .hbm, ⟨37, _⟩ => ⟨S1x512x512, .f32⟩
  | .local _ .vmem, ⟨0, _⟩ => ⟨S1x512x1024, .f32⟩
  | .local _ .vmem, ⟨1, _⟩ => ⟨S1x1024, .f32⟩
  | .local _ .vmem, ⟨2, _⟩ => ⟨S1024x2560, .bf16⟩
  | .local _ .vmem, ⟨3, _⟩ => ⟨S1x64, .f32⟩
  | .local _ .vmem, ⟨4, _⟩ => ⟨S1x64, .f32⟩
  | .local _ .vmem, ⟨5, _⟩ => ⟨S8x30x512, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S96x96, .f32⟩
  | .local _ .vmem, ⟨12, _⟩ => ⟨S64x96, .f32⟩
  | .local _ .vmem, ⟨13, _⟩ => ⟨S3x48x31, .f32⟩
  | .local _ .vmem, ⟨14, _⟩ => ⟨S1x512x512, .bf16⟩
  | .local _ .vmem, ⟨15, _⟩ => ⟨S1x512x512, .f32⟩
  | .local _ .vmem, ⟨16, _⟩ => ⟨S1x512x512, .bf16⟩
  | .local _ .vmem, ⟨17, _⟩ => ⟨S1x512x512, .f32⟩
  | .local _ .vmem, ⟨18, _⟩ => ⟨S1x512x512, .f32⟩
  | .local _ .vmem, ⟨19, _⟩ => ⟨S8x96x512, .f32⟩
  | .local _ .vmem, ⟨20, _⟩ => ⟨S3x48x512, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32_783 : BitVec 32 := 0#32
  let v1450 : BitVec 1 := Scalar.cmpi .sge arg1 c0_i32_783
  let v1451 : BitVec 32 := Scalar.extui v1450
  let c0_i32_784 : BitVec 32 := 0#32
  let v1452 : BitVec 1 := Scalar.cmpi .ne v1451 c0_i32_784
  v1452

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x30x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S96x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x48x31 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]
-- ==== Reference3Ideal.lean ====
abbrev S8x64x1024 : Shape := ⟨3, ![8, 64, 1024]⟩
abbrev S1x8x30x512 : Shape := ⟨4, ![1, 8, 30, 512]⟩
abbrev S1x1024 : Shape := ⟨2, ![1, 1024]⟩
abbrev S1x1024x2560 : Shape := ⟨3, ![1, 1024, 2560]⟩
abbrev S1x31x512 : Shape := ⟨3, ![1, 31, 512]⟩
abbrev S1x512 : Shape := ⟨2, ![1, 512]⟩
abbrev S1x64 : Shape := ⟨2, ![1, 64]⟩
abbrev S1024 : Shape := ⟨1, ![1024]⟩
abbrev S1024x2560 : Shape := ⟨2, ![1024, 2560]⟩
abbrev S64 : Shape := ⟨1, ![64]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x64x2560 : Shape := ⟨3, ![8, 64, 2560]⟩
abbrev S8x64x512 : Shape := ⟨3, ![8, 64, 512]⟩
abbrev S8x64x8x64 : Shape := ⟨4, ![8, 64, 8, 64]⟩
abbrev S8x64x8 : Shape := ⟨3, ![8, 64, 8]⟩
abbrev S8x64x8x1 : Shape := ⟨4, ![8, 64, 8, 1]⟩
abbrev S1x1x1x64 : Shape := ⟨4, ![1, 1, 1, 64]⟩
abbrev S1x512x512 : Shape := ⟨3, ![1, 512, 512]⟩

abbrev nBuf : Space → Nat
  | .hbm => 66
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S1x8x30x512, .f32⟩
  | .hbm, ⟨2, _⟩ => ⟨S1x1024, .f32⟩
  | .hbm, ⟨3, _⟩ => ⟨S1x1024x2560, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x64, .f32⟩
  | .hbm, ⟨9, _⟩ => ⟨S1x64, .f32⟩
  | .hbm, ⟨10, _⟩ => ⟨S1x512, .f32⟩
  | .hbm, ⟨11, _⟩ => ⟨S1024, .f32⟩
  | .hbm, ⟨12, _⟩ => ⟨S1024x2560, .f32⟩
  | .hbm, ⟨13, _⟩ => ⟨S64, .f32⟩
  | .hbm, ⟨14, _⟩ => ⟨S64, .f32⟩
  | .hbm, ⟨15, _⟩ => ⟨S8x64x1024, .f32⟩
  | .hbm, ⟨16, _⟩ => ⟨S_, .f32⟩
  | .hbm, ⟨17, _⟩ => ⟨S8x64, .f32⟩
  | .hbm, ⟨18, _⟩ => ⟨S8x64x1, .f32⟩
  | .hbm, ⟨19, _⟩ => ⟨S_, .f32⟩
  | .hbm, ⟨20, _⟩ => ⟨S8x64x1, .f32⟩
  | .hbm, ⟨21, _⟩ => ⟨S8x64x1, .f32⟩
  | .hbm, ⟨22, _⟩ => ⟨S_, .f32⟩
  | .hbm, ⟨23, _⟩ => ⟨S8x64x1, .f32⟩
  | .hbm, ⟨24, _⟩ => ⟨S8x64x1, .f32⟩
  | .hbm, ⟨25, _⟩ => ⟨S8x64x1, .f32⟩
  | .hbm, ⟨26, _⟩ => ⟨S8x64x1024, .f32⟩
  | .hbm, ⟨27, _⟩ => ⟨S8x64x1024, .f32⟩
  | .hbm, ⟨28, _⟩ => ⟨S1x1x1024, .f32⟩
  | .hbm, ⟨29, _⟩ => ⟨S8x64x1024, .f32⟩
  | .hbm, ⟨30, _⟩ => ⟨S8x64x1024, .f32⟩
  | .hbm, ⟨31, _⟩ => ⟨S8x64x2560, .f32⟩
  | .hbm, ⟨32, _⟩ => ⟨S8x64x512, .f32⟩
  | .hbm, ⟨33, _⟩ => ⟨S8x64x512, .f32⟩
  | .hbm, ⟨34, _⟩ => ⟨S8x64x512, .f32⟩
  | .hbm, ⟨35, _⟩ => ⟨S8x64x512, .f32⟩
  | .hbm, ⟨36, _⟩ => ⟨S_, .f32⟩
  | .hbm, ⟨37, _⟩ => ⟨S8x64x512, .f32⟩
  | .hbm, ⟨38, _⟩ => ⟨S8x64x512, .f32⟩
  | .hbm, ⟨39, _⟩ => ⟨S_, .f32⟩
  | .hbm, ⟨40, _⟩ => ⟨S8x64x512, .f32⟩
  | .hbm, ⟨41, _⟩ => ⟨S8x64x512, .f32⟩
  | .hbm, ⟨42, _⟩ => ⟨S8x64x512, .f32⟩
  | .hbm, ⟨43, _⟩ => ⟨S8x64x512, .f32⟩
  | .hbm, ⟨44, _⟩ => ⟨S8x64x8x64, .f32⟩
  | .hbm, ⟨45, _⟩ => ⟨S8x64x512, .f32⟩
  | .hbm, ⟨46, _⟩ => ⟨S8x64x8x64, .f32⟩
  | .hbm, ⟨47, _⟩ => ⟨S8x64x8x64, .f32⟩
  | .hbm, ⟨48, _⟩ => ⟨S_, .f32⟩
  | .hbm, ⟨49, _⟩ => ⟨S8x64x8, .f32⟩
  | .hbm, ⟨50, _⟩ => ⟨S8x64x8x1, .f32⟩
  | .hbm, ⟨51, _⟩ => ⟨S_, .f32⟩
  | .hbm, ⟨52, _⟩ => ⟨S8x64x8x1, .f32⟩
  | .hbm, ⟨53, _⟩ => ⟨S8x64x8x1, .f32⟩
  | .hbm, ⟨54, _⟩ => ⟨S_, .f32⟩
  | .hbm, ⟨55, _⟩ => ⟨S8x64x8x1, .f32⟩
  | .hbm, ⟨56, _⟩ => ⟨S8x64x8x1, .f32⟩
  | .hbm, ⟨57, _⟩ => ⟨S8x64x8x1, .f32⟩
  | .hbm, ⟨58, _⟩ => ⟨S8x64x8x64, .f32⟩
  | .hbm, ⟨59, _⟩ => ⟨S8x64x8x64, .f32⟩
  | .hbm, ⟨60, _⟩ => ⟨S1x1x1x64, .f32⟩
  | .hbm, ⟨61, _⟩ => ⟨S8x64x8x64, .f32⟩
  | .hbm, ⟨62, _⟩ => ⟨S8x64x8x64, .f32⟩
  | .hbm, ⟨63, _⟩ => ⟨S1x512x512, .f32⟩
  | .hbm, ⟨64, _⟩ => ⟨S1x512x512, .f32⟩
  | .hbm, ⟨65, _⟩ => ⟨S1x512x512, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel4.lean ====
abbrev S8x64x8x64 : Shape := ⟨4, ![8, 64, 8, 64]⟩
abbrev S1x8x512x8x64 : Shape := ⟨5, ![1, 8, 512, 8, 64]⟩
abbrev S1x8x257 : Shape := ⟨3, ![1, 8, 257]⟩
abbrev S1x512 : Shape := ⟨2, ![1, 512]⟩
abbrev S8x64x512 : Shape := ⟨3, ![8, 64, 512]⟩
abbrev S_ : Shape := ⟨0, ![]⟩
abbrev S8x512x8x64 : Shape := ⟨4, ![8, 512, 8, 64]⟩
abbrev S8x512x512 : Shape := ⟨3, ![8, 512, 512]⟩
abbrev S8x257 : Shape := ⟨2, ![8, 257]⟩
abbrev S8x128 : Shape := ⟨2, ![8, 128]⟩
abbrev S8x1 : Shape := ⟨2, ![8, 1]⟩
abbrev S8x768 : Shape := ⟨2, ![8, 768]⟩
abbrev S128x640 : Shape := ⟨2, ![128, 640]⟩
abbrev S128x640x1 : Shape := ⟨3, ![128, 640, 1]⟩
abbrev S8x128x640 : Shape := ⟨3, ![8, 128, 640]⟩
abbrev S1x128x640 : Shape := ⟨3, ![1, 128, 640]⟩
abbrev S8x128x5x128 : Shape := ⟨4, ![8, 128, 5, 128]⟩
abbrev S8x5x128x128 : Shape := ⟨4, ![8, 5, 128, 128]⟩
abbrev S512 : Shape := ⟨1, ![512]⟩
abbrev S1x64x512 : Shape := ⟨3, ![1, 64, 512]⟩
abbrev S1x512x512 : Shape := ⟨3, ![1, 512, 512]⟩
abbrev S2x5x512x128 : Shape := ⟨4, ![2, 5, 512, 128]⟩
abbrev S2x640x512 : Shape := ⟨3, ![2, 640, 512]⟩
abbrev S1x4x128x1280 : Shape := ⟨4, ![1, 4, 128, 1280]⟩
abbrev S64x512 : Shape := ⟨2, ![64, 512]⟩
abbrev S512x512 : Shape := ⟨2, ![512, 512]⟩
abbrev S640x512 : Shape := ⟨2, ![640, 512]⟩
abbrev S512x128 : Shape := ⟨2, ![512, 128]⟩
abbrev S128x512 : Shape := ⟨2, ![128, 512]⟩
abbrev S1x1x512x128 : Shape := ⟨4, ![1, 1, 512, 128]⟩
abbrev S1x640x512 : Shape := ⟨3, ![1, 640, 512]⟩
abbrev S1x64x128 : Shape := ⟨3, ![1, 64, 128]⟩
abbrev S64x128 : Shape := ⟨2, ![64, 128]⟩
abbrev S1x1x128x128 : Shape := ⟨4, ![1, 1, 128, 128]⟩
abbrev S128x128 : Shape := ⟨2, ![128, 128]⟩
abbrev S128x1280 : Shape := ⟨2, ![128, 1280]⟩
abbrev S64x1280 : Shape := ⟨2, ![64, 1280]⟩
abbrev S4x128x1280 : Shape := ⟨3, ![4, 128, 1280]⟩
abbrev S1x64x1280 : Shape := ⟨3, ![1, 64, 1280]⟩
abbrev S1x32x640 : Shape := ⟨3, ![1, 32, 640]⟩
abbrev S32x640 : Shape := ⟨2, ![32, 640]⟩
abbrev S1x1x32x128 : Shape := ⟨4, ![1, 1, 32, 128]⟩
abbrev S32x128 : Shape := ⟨2, ![32, 128]⟩
abbrev S32 : Shape := ⟨1, ![32]⟩
abbrev S32x1 : Shape := ⟨2, ![32, 1]⟩
abbrev S1x1x32x640 : Shape := ⟨4, ![1, 1, 32, 640]⟩
abbrev S640x128 : Shape := ⟨2, ![640, 128]⟩
abbrev S1280x128 : Shape := ⟨2, ![1280, 128]⟩
abbrev S1x640x128 : Shape := ⟨3, ![1, 640, 128]⟩
abbrev S1280x256 : Shape := ⟨2, ![1280, 256]⟩
abbrev S64x256 : Shape := ⟨2, ![64, 256]⟩
abbrev S64 : Shape := ⟨1, ![64]⟩
abbrev S64x1 : Shape := ⟨2, ![64, 1]⟩

abbrev nBuf : Space → Nat
  | .hbm => 84
  | .vmem => 18
  | .smem => 0
  | _ => 0

abbrev bufTy : (tb : Table) → Fin (tcTables nBuf tb) → BufTy
  | .hbm, ⟨0, _⟩ => ⟨S8x64x8x64, .f32⟩
  | .hbm, ⟨1, _⟩ => ⟨S8x64x8x64, .f32⟩
  | .hbm, ⟨2, _⟩ => ⟨S8x64x8x64, .f32⟩
  | .hbm, ⟨3, _⟩ => ⟨S1x8x512x8x64, .f32⟩
  | .hbm, ⟨4, _⟩ => ⟨S1x8x512x8x64, .f32⟩
  | .hbm, ⟨5, _⟩ => ⟨S1x8x257, .f32⟩
  | .hbm, ⟨6, _⟩ => ⟨S1x512, .f32⟩
  | .hbm, ⟨7, _⟩ => ⟨S8x64x512, .f32⟩
  | .hbm, ⟨8, _⟩ => ⟨S_, .f32⟩
  | .hbm, ⟨9, _⟩ => ⟨S8x64x512, .f32⟩
  | .hbm, ⟨10, _⟩ => ⟨S8x64x512, .f32⟩
  | .hbm, ⟨11, _⟩ => ⟨S_, .f32⟩
  | .hbm, ⟨12, _⟩ => ⟨S_, .f32⟩
  | .hbm, ⟨13, _⟩ => ⟨S8x64x512, .f32⟩
  | .hbm, ⟨14, _⟩ => ⟨S8x64x512, .f32⟩
  | .hbm, ⟨15, _⟩ => ⟨S8x64x512, .bf16⟩
  | .hbm, ⟨16, _⟩ => ⟨S8x512x8x64, .f32⟩
  | .hbm, ⟨17, _⟩ => ⟨S8x512x512, .f32⟩
  | .hbm, ⟨18, _⟩ => ⟨S8x512x512, .bf16⟩
  | .hbm, ⟨19, _⟩ => ⟨S8x512x8x64, .f32⟩
  | .hbm, ⟨20, _⟩ => ⟨S8x512x512, .f32⟩
  | .hbm, ⟨21, _⟩ => ⟨S8x512x512, .bf16⟩
  | .hbm, ⟨22, _⟩ => ⟨S8x64x512, .f32⟩
  | .hbm, ⟨23, _⟩ => ⟨S8x64x512, .f32⟩
  | .hbm, ⟨24, _⟩ => ⟨S8x257, .f32⟩
  | .hbm, ⟨25, _⟩ => ⟨S8x128, .i32⟩
  | .hbm, ⟨26, _⟩ => ⟨S8x1, .f32⟩
  | .hbm, ⟨27, _⟩ => ⟨S8x128, .f32⟩
  | .hbm, ⟨28, _⟩ => ⟨S_, .i32⟩
  | .hbm, ⟨29, _⟩ => ⟨S8x128, .i32⟩
  | .hbm, ⟨30, _⟩ => ⟨S8x128, .i1⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S8x768, .f32⟩
  | .hbm, ⟨35, _⟩ => ⟨S128x640, .i32⟩
  | .hbm, ⟨36, _⟩ => ⟨S128x640, .i32⟩
  | .hbm, ⟨37, _⟩ => ⟨S128x640, .i32⟩
  | .hbm, ⟨38, _⟩ => ⟨S_, .i32⟩
  | .hbm, ⟨39, _⟩ => ⟨S128x640, .i32⟩
  | .hbm, ⟨40, _⟩ => ⟨S128x640, .i1⟩
  | .hbm, ⟨41, _⟩ => ⟨S_, .i32⟩
  | .hbm, ⟨42, _⟩ => ⟨S128x640, .i32⟩
  | .hbm, ⟨43, _⟩ => ⟨S128x640, .i32⟩
  | .hbm, ⟨44, _⟩ => ⟨S128x640, .i32⟩
  | .hbm, ⟨45, _⟩ => ⟨S_, .i32⟩
  | .hbm, ⟨46, _⟩ => ⟨S128x640, .i32⟩
  | .hbm, ⟨47, _⟩ => ⟨S128x640, .i1⟩
  | .hbm, ⟨48, _⟩ => ⟨S_, .i32⟩
  | .hbm, ⟨49, _⟩ => ⟨S128x640, .i32⟩
  | .hbm, ⟨50, _⟩ => ⟨S128x640, .i32⟩
  | .hbm, ⟨51, _⟩ => ⟨S128x640, .i32⟩
  | .hbm, ⟨52, _⟩ => ⟨S128x640x1, .i32⟩
  | .hbm, ⟨53, _⟩ => ⟨S8x128x640, .f32⟩
  | .hbm, ⟨54, _⟩ => ⟨S_, .i32⟩
  | .hbm, ⟨55, _⟩ => ⟨S128x640, .i32⟩
  | .hbm, ⟨56, _⟩ => ⟨S128x640, .i1⟩
  | .hbm, ⟨57, _⟩ => ⟨S_, .i32⟩
  | .hbm, ⟨58, _⟩ => ⟨S128x640, .i32⟩
  | .hbm, ⟨59, _⟩ => ⟨S128x640, .i1⟩
  | .hbm, ⟨60, _⟩ => ⟨S128x640, .i1⟩
  | .hbm, ⟨61, _⟩ => ⟨S_, .i32⟩
  | .hbm, ⟨62, _⟩ => ⟨S128x640, .i32⟩
  | .hbm, ⟨63, _⟩ => ⟨S128x640, .i1⟩
  | .hbm, ⟨64, _⟩ => ⟨S_, .i32⟩
  | .hbm, ⟨65, _⟩ => ⟨S128x640, .i32⟩
  | .hbm, ⟨66, _⟩ => ⟨S128x640, .i1⟩
  | .hbm, ⟨67, _⟩ => ⟨S128x640, .i1⟩
  | .hbm, ⟨68, _⟩ => ⟨S128x640, .i1⟩
  | .hbm, ⟨69, _⟩ => ⟨S1x128x640, .i1⟩
  | .hbm, ⟨70, _⟩ => ⟨S_, .f32⟩
  | .hbm, ⟨71, _⟩ => ⟨S_, .f32⟩
  | .hbm, ⟨72, _⟩ => ⟨S8x128x640, .f32⟩
  | .hbm, ⟨73, _⟩ => ⟨S8x128x640, .f32⟩
  | .hbm, ⟨74, _⟩ => ⟨S_, .f32⟩
  | .hbm, ⟨75, _⟩ => ⟨S_, .f32⟩
  | .hbm, ⟨76, _⟩ => ⟨S8x128x640, .i1⟩
  | .hbm, ⟨77, _⟩ => ⟨S8x128x640, .f32⟩
  | .hbm, ⟨78, _⟩ => ⟨S8x128x640, .f32⟩
  | .hbm, ⟨79, _⟩ => ⟨S8x128x5x128, .f32⟩
  | .hbm, ⟨80, _⟩ => ⟨S8x5x128x128, .f32⟩
  | .hbm, ⟨81, _⟩ => ⟨S512, .f32⟩
  | .hbm, ⟨82, _⟩ => ⟨S1x512, .f32⟩
  | .hbm, ⟨83, _⟩ => ⟨S8x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S8x5x128x128, .f32⟩
  | .local _ .vmem, ⟨11, _⟩ => ⟨S1x512, .f32⟩
  | .local _ .vmem, ⟨12, _⟩ => ⟨S1x64x512, .bf16⟩
  | .local _ .vmem, ⟨13, _⟩ => ⟨S1x64x512, .bf16⟩
  | .local _ .vmem, ⟨14, _⟩ => ⟨S2x5x512x128, .bf16⟩
  | .local _ .vmem, ⟨15, _⟩ => ⟨S2x640x512, .bf16⟩
  | .local _ .vmem, ⟨16, _⟩ => ⟨S1x4x128x1280, .f32⟩
  | .local _ .vmem, ⟨17, _⟩ => ⟨S1x4x128x1280, .bf16⟩
  | _, _ => ⟨S8x64x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x64x8x64 : Shape := ⟨4, ![8, 64, 8, 64]⟩
abbrev S1x8x512x8x64 : Shape := ⟨5, ![1, 8, 512, 8, 64]⟩
abbrev S1x8x257 : Shape := ⟨3, ![1, 8, 257]⟩
abbrev S1x512 : Shape := ⟨2, ![1, 512]⟩
abbrev S8x512x8x64 : Shape := ⟨4, ![8, 512, 8, 64]⟩
abbrev S8x576x8x64 : Shape := ⟨4, ![8, 576, 8, 64]⟩
abbrev S8x8x64x576 : Shape := ⟨4, ![8, 8, 64, 576]⟩
abbrev S_ : Shape := ⟨0, ![]⟩
abbrev S512 : Shape := ⟨1, ![512]⟩
abbrev S64 : Shape := ⟨1, ![64]⟩
abbrev S576 : Shape := ⟨1, ![576]⟩
abbrev S1x576 : Shape := ⟨2, ![1, 576]⟩
abbrev S64x1 : Shape := ⟨2, ![64, 1]⟩
abbrev S64x576 : Shape := ⟨2, ![64, 576]⟩
abbrev S8x257 : Shape := ⟨2, ![8, 257]⟩
abbrev S64x576x1 : Shape := ⟨3, ![64, 576, 1]⟩
abbrev S8x64x576 : Shape := ⟨3, ![8, 64, 576]⟩
abbrev S1x8x64x576 : Shape := ⟨4, ![1, 8, 64, 576]⟩
abbrev S8x8x64 : Shape := ⟨3, ![8, 8, 64]⟩
abbrev S8x8x64x1 : Shape := ⟨4, ![8, 8, 64, 1]⟩
abbrev S8x8x64x64 : Shape := ⟨4, ![8, 8, 64, 64]⟩
abbrev S8x64x512 : Shape := ⟨3, ![8, 64, 512]⟩
abbrev S8x64 : Shape := ⟨2, ![8, 64]⟩
abbrev S8x64x1 : Shape := ⟨3, ![8, 64, 1]⟩
abbrev S1x1x512 : Shape := ⟨3, ![1, 1, 512]⟩

abbrev nBuf : Space → Nat
  | .hbm => 86
  | .vmem => 0
  | .smem => 0
  | _ => 0

abbrev bufTy : (tb : Table) → Fin (tcTables nBuf tb) → BufTy
  | .hbm, ⟨0, _⟩ => ⟨S8x64x8x64, .f32⟩
  | .hbm, ⟨1, _⟩ => ⟨S8x64x8x64, .f32⟩
  | .hbm, ⟨2, _⟩ => ⟨S8x64x8x64, .f32⟩
  | .hbm, ⟨3, _⟩ => ⟨S1x8x512x8x64, .f32⟩
  | .hbm, ⟨4, _⟩ => ⟨S1x8x512x8x64, .f32⟩
  | .hbm, ⟨5, _⟩ => ⟨S1x8x257, .f32⟩
  | .hbm, ⟨6, _⟩ => ⟨S1x512, .f32⟩
  | .hbm, ⟨7, _⟩ => ⟨S8x512x8x64, .f32⟩
  | .hbm, ⟨8, _⟩ => ⟨S8x512x8x64, .f32⟩
  | .hbm, ⟨9, _⟩ => ⟨S8x576x8x64, .f32⟩
  | .hbm, ⟨10, _⟩ => ⟨S8x576x8x64, .f32⟩
  | .hbm, ⟨11, _⟩ => ⟨S8x8x64x576, .f32⟩
  | .hbm, ⟨12, _⟩ => ⟨S_, .f32⟩
  | .hbm, ⟨13, _⟩ => ⟨S8x8x64x576, .f32⟩
  | .hbm, ⟨14, _⟩ => ⟨S8x8x64x576, .f32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S64, .i32⟩
  | .hbm, ⟨20, _⟩ => ⟨S576, .i32⟩
  | .hbm, ⟨21, _⟩ => ⟨S1x576, .i32⟩
  | .hbm, ⟨22, _⟩ => ⟨S64, .i32⟩
  | .hbm, ⟨23, _⟩ => ⟨S64x1, .i32⟩
  | .hbm, ⟨24, _⟩ => ⟨S64x576, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S8x257, .f32⟩
  | .hbm, ⟨39, _⟩ => ⟨S_, .i32⟩
  | .hbm, ⟨40, _⟩ => ⟨S64x576, .i32⟩
  | .hbm, ⟨41, _⟩ => ⟨S64x576, .i1⟩
  | .hbm, ⟨42, _⟩ => ⟨S_, .i32⟩
  | .hbm, ⟨43, _⟩ => ⟨S64x576, .i32⟩
  | .hbm, ⟨44, _⟩ => ⟨S64x576, .i32⟩
  | .hbm, ⟨45, _⟩ => ⟨S64x576, .i32⟩
  | .hbm, ⟨46, _⟩ => ⟨S64x576x1, .i32⟩
  | .hbm, ⟨47, _⟩ => ⟨S8x64x576, .f32⟩
  | .hbm, ⟨48, _⟩ => ⟨S1x8x64x576, .f32⟩
  | .hbm, ⟨49, _⟩ => ⟨S8x8x64x576, .f32⟩
  | .hbm, ⟨50, _⟩ => ⟨S8x8x64x576, .f32⟩
  | .hbm, ⟨51, _⟩ => ⟨S_, .f32⟩
  | .hbm, ⟨52, _⟩ => ⟨S8x8x64, .f32⟩
  | .hbm, ⟨53, _⟩ => ⟨S_, .f32⟩
  | .hbm, ⟨54, _⟩ => ⟨S8x8x64, .f32⟩
  | .hbm, ⟨55, _⟩ => ⟨S8x8x64, .f32⟩
  | .hbm, ⟨56, _⟩ => ⟨S8x8x64x1, .f32⟩
  | .hbm, ⟨57, _⟩ => ⟨S8x8x64x576, .f32⟩
  | .hbm, ⟨58, _⟩ => ⟨S8x8x64x576, .f32⟩
  | .hbm, ⟨59, _⟩ => ⟨S8x8x64x576, .f32⟩
  | .hbm, ⟨60, _⟩ => ⟨S_, .f32⟩
  | .hbm, ⟨61, _⟩ => ⟨S8x8x64, .f32⟩
  | .hbm, ⟨62, _⟩ => ⟨S8x8x64x1, .f32⟩
  | .hbm, ⟨63, _⟩ => ⟨S8x8x64x576, .f32⟩
  | .hbm, ⟨64, _⟩ => ⟨S8x8x64x576, .f32⟩
  | .hbm, ⟨65, _⟩ => ⟨S8x8x64x64, .f32⟩
  | .hbm, ⟨66, _⟩ => ⟨S8x64x8x64, .f32⟩
  | .hbm, ⟨67, _⟩ => ⟨S8x64x512, .f32⟩
  | .hbm, ⟨68, _⟩ => ⟨S512, .f32⟩
  | .hbm, ⟨69, _⟩ => ⟨S8x64x512, .f32⟩
  | .hbm, ⟨70, _⟩ => ⟨S_, .f32⟩
  | .hbm, ⟨71, _⟩ => ⟨S8x64, .f32⟩
  | .hbm, ⟨72, _⟩ => ⟨S8x64x1, .f32⟩
  | .hbm, ⟨73, _⟩ => ⟨S_, .f32⟩
  | .hbm, ⟨74, _⟩ => ⟨S8x64x1, .f32⟩
  | .hbm, ⟨75, _⟩ => ⟨S8x64x1, .f32⟩
  | .hbm, ⟨76, _⟩ => ⟨S_, .f32⟩
  | .hbm, ⟨77, _⟩ => ⟨S8x64x1, .f32⟩
  | .hbm, ⟨78, _⟩ => ⟨S8x64x1, .f32⟩
  | .hbm, ⟨79, _⟩ => ⟨S8x64x1, .f32⟩
  | .hbm, ⟨80, _⟩ => ⟨S8x64x512, .f32⟩
  | .hbm, ⟨81, _⟩ => ⟨S8x64x512, .f32⟩
  | .hbm, ⟨82, _⟩ => ⟨S1x1x512, .f32⟩
  | .hbm, ⟨83, _⟩ => ⟨S8x64x512, .f32⟩
  | .hbm, ⟨84, _⟩ => ⟨S8x64x512, .f32⟩
  | .hbm, ⟨85, _⟩ => ⟨S8x64x512, .bf16⟩
  | _, _ => ⟨S8x64x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.MixWord.lean ====
/- The frame of the mixing stage over the words. -/
module

public import proofs.«01_k».proof.Defs
public import proofs.«01_k».proof.Proof.MixWordFrame
public import Idealize.ShloMosaic.Lib.Claim

@[expose] public section

noncomputable section

namespace Cert.Kernel2.Mix

open Cert.Kernel2 Cert.Kernel2.Gen
open Idealize.ShloMosaic Idealize.ShloMosaic.TcCoe Idealize.SL.Sem

variable [hW : Cert.Kernel2.Facts]

theorem quiescent : Cert.quiescent_Kernel2 := fun m ρ _ =>
  θ_run_and (frame_of m ρ (dats m) (A_eq m) (run_post m ρ)) ((θ_run defs _ _).mono (fun _ h => h.2) (run_quiescent m ρ))

end Cert.Kernel2.Mix

end
-- ==== Proof.MixRun.lean ====
/- The body of the mixing stage, run on whole staging buffers: one triple per group of rows. -/
module

public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one point of the mixing stage computes of 512 rows: from the rows of the residual input `x`, of the layer
    embedding `p`, of the attention group `an` and of the convolution group `cn`, and from the weights. -/
def mixBlk (x : Vec F S1x512x1024 .f32) (p : Vec F S1x512x256 .f32) (an cn : Vec F S1x512x512 .bf16) (wo : Vec F S1024x1024 .bf16)
    (gf : Vec F S1x1024 .f32) (w1 : Vec F S1024x4096 .bf16) (w2 : Vec F S4096x1024 .bf16) (gp : Vec F S1x1024 .f32)
    (wg : Vec F S1024x1024 .bf16) (wp : Vec F S256x1024 .bf16) : Vec F S1x512x1024 .f32 :=
  let o0 : Vec F S512x1024 .bf16 := View.ld wo (Rect.unit (s := S1024x1024) ![0, 0] S512x1024.size inb_S1024x1024_S512x1024_0_0)
  let o1 : Vec F S512x1024 .bf16 := View.ld wo (Rect.unit (s := S1024x1024) ![512, 0] S512x1024.size inb_S1024x1024_S512x1024_512_0)
  let a0 : Vec F S1024x2048 .bf16 := View.ld w1 (Rect.unit (s := S1024x4096) ![0, 0] S1024x2048.size inb_S1024x4096_S1024x2048_0_0)
  let a1 : Vec F S1024x2048 .bf16 := View.ld w1 (Rect.unit (s := S1024x4096) ![0, 2048] S1024x2048.size inb_S1024x4096_S1024x2048_0_2048)
  let b0 : Vec F S2048x1024 .bf16 := View.ld w2 (Rect.unit (s := S4096x1024) ![0, 0] S2048x1024.size inb_S4096x1024_S2048x1024_0_0)
  let b1 : Vec F S2048x1024 .bf16 := View.ld w2 (Rect.unit (s := S4096x1024) ![2048, 0] S2048x1024.size inb_S4096x1024_S2048x1024_2048_0)
  let x' : Vec F S1x512x1024 .f32 := View.ld x (Rect.unit (s := S1x512x1024) ![0, 0, 0] S1x512x1024.size inb_S1x512x1024_S1x512x1024_0_0_0)
  let p' : Vec F S1x512x256 .f32 := View.ld p (Rect.unit (s := S1x512x256) ![0, 0, 0] S1x512x256.size inb_S1x512x256_S1x512x256_0_0_0)
  let an' : Vec F S1x512x512 .bf16 := View.ld an (Rect.unit (s := S1x512x512) ![0, 0, 0] S1x512x512.size inb_S1x512x512_S1x512x512_0_0_0)
  let cn' : Vec F S1x512x512 .bf16 := View.ld cn (Rect.unit (s := S1x512x512) ![0, 0, 0] S1x512x512.size inb_S1x512x512_S1x512x512_0_0_0)
  let gf' : Vec F S1x1024 .f32 := View.ld gf (Rect.unit (s := S1x1024) ![0, 0] S1x1024.size inb_S1x1024_S1x1024_0_0)
  let gp' : Vec F S1x1024 .f32 := View.ld gp (Rect.unit (s := S1x1024) ![0, 0] S1x1024.size inb_S1x1024_S1x1024_0_0)
  let wg' : Vec F S1024x1024 .bf16 := View.ld wg (Rect.unit (s := S1024x1024) ![0, 0] S1024x1024.size inb_S1024x1024_S1024x1024_0_0)
  let wp' : Vec F S256x1024 .bf16 := View.ld wp (Rect.unit (s := S256x1024) ![0, 0] S256x1024.size inb_S256x1024_S256x1024_0_0)
  let y := k0_pay4 x' cn' an' o0 o1
  let h := k0_pay5 x' cn' an' o0 o1 gf'
  let u := k0_pay6 x' cn' an' o0 o1 gf' a0
  k0_pay1 (k0_pay7 y h u b0 a1 b1) (k0_pay8 y h u b0 a1 b1 gp' wg') (k0_pay9 (k0_pay3 p')) wp'

theorem pay2_eq : @k0_pay2 F _ = @k0_pay1 F _ := rfl
theorem pay10_eq : @k0_pay10 F = @k0_pay3 F := rfl
theorem pay11_eq : @k0_pay11 F _ = @k0_pay4 F _ := rfl
theorem pay12_eq : @k0_pay12 F _ = @k0_pay5 F _ := rfl
theorem pay13_eq : @k0_pay13 F _ = @k0_pay6 F _ := rfl
theorem pay14_eq : @k0_pay14 F _ = @k0_pay7 F _ := rfl
theorem pay15_eq : @k0_pay15 F _ = @k0_pay8 F _ := rfl
theorem pay16_eq : @k0_pay16 F _ = @k0_pay9 F _ := rfl

set_option maxHeartbeats 1600000 in
/-- A point of the prompt group: the prompt rows and the weights are read, the first output block is written. -/
theorem runA (c : Dev nD) (i : grid0.Coords) (arg1 : Memref sig .tc .vmem S1x512x1024 .f32) (harg1 : arg1.IsWhole) (arg2 : Memref sig .tc .vmem S1x512x256 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x1024 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S1x512x1024 .f32) (harg16 : arg16.IsWhole) (arg17 : Memref sig .tc .vmem S1x512x1024 .f32) (harg17 : arg17.IsWhole)
    (hc1 : k0_cond1 i = 1#1) (hc2 : ¬ k0_cond2 i = 1#1) (x1 : Vec F S1x512x1024 .f32) (x2 : Vec F S1x512x256 .f32) (x3 : Vec F S1x512x512 .bf16) (x4 : Vec F S1x512x512 .bf16) (x9 : Vec F S1024x1024 .bf16) (x10 : Vec F S1x1024 .f32) (x11 : Vec F S1024x4096 .bf16) (x12 : Vec F S4096x1024 .bf16) (x13 : Vec F S1x1024 .f32) (x14 : Vec F S1024x1024 .bf16) (x15 : Vec F S256x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (mixBlk x1 x2 x3 x4 x9 x10 x11 x12 x13 x14 x15)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_mix_eq_skeleton]; unfold cc0_mix_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d, %f, -, H⟩, Hk⟩
  obtain rfl := harg1.eq_unread hf1; obtain rfl := harg2.eq_unread hf2; obtain rfl := harg3.eq_unread hf3; obtain rfl := harg4.eq_unread hf4; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2)
  sl_step
  iapply Hk
  isplitl [H1]
  · iexists _
    isplitr
    · ipureintro; exact harg1.read_unread _
    · iexact H1
  isplitl [H2]
  · iexists _
    isplitr
    · ipureintro; exact harg2.read_unread _
    · iexact H2
  isplitl [H3]
  · iexists _
    isplitr
    · ipureintro; exact harg3.read_unread _
    · iexact H3
  isplitl [H4]
  · iexists _
    isplitr
    · ipureintro; exact harg4.read_unread _
    · iexact H4
  isplitl [H9]
  · iexists _
    isplitr
    · ipureintro; exact harg9.read_unread _
    · iexact H9
  isplitl [H10]
  · iexists _
    isplitr
    · ipureintro; exact harg10.read_unread _
    · iexact H10
  isplitl [H11]
  · iexists _
    isplitr
    · ipureintro; exact harg11.read_unread _
    · iexact H11
  isplitl [H12]
  · iexists _
    isplitr
    · ipureintro; exact harg12.read_unread _
    · iexact H12
  isplitl [H13]
  · iexists _
    isplitr
    · ipureintro; exact harg13.read_unread _
    · iexact H13
  isplitl [H14]
  · iexists _
    isplitr
    · ipureintro; exact harg14.read_unread _
    · iexact H14
  isplitl [H15]
  · iexists _
    isplitr
    · ipureintro; exact harg15.read_unread _
    · iexact H15
  iexists _
  isplitr
  swap
  · iexact H
  · ipureintro
    refine (View.read_writes_full _ _ _ _ _).trans ?_
    sl_unfold_words
    simp only [View.readAt_eq_ld, pay2_eq, pay10_eq, pay11_eq, pay12_eq, pay13_eq, pay14_eq, pay15_eq, pay16_eq, harg1.read_unread, harg2.read_unread, harg3.read_unread, harg4.read_unread, harg9.read_unread, harg10.read_unread, harg11.read_unread, harg12.read_unread, harg13.read_unread, harg14.read_unread, harg15.read_unread]
    rfl

set_option maxHeartbeats 1600000 in
/-- The point of the sample group: the sample rows and the weights are read, the second output block is written. -/
theorem runB (c : Dev nD) (i : grid0.Coords) (arg1 : Memref sig .tc .vmem S1x512x1024 .f32) (harg1 : arg1.IsWhole) (arg2 : Memref sig .tc .vmem S1x512x256 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x1024 .f32) (harg5 : arg5.IsWhole) (arg6 : Memref sig .tc .vmem S1x512x256 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S1x512x1024 .f32) (harg16 : arg16.IsWhole) (arg17 : Memref sig .tc .vmem S1x512x1024 .f32) (harg17 : arg17.IsWhole)
    (hc1 : ¬ k0_cond1 i = 1#1) (hc2 : k0_cond2 i = 1#1) (x5 : Vec F S1x512x1024 .f32) (x6 : Vec F S1x512x256 .f32) (x7 : Vec F S1x512x512 .bf16) (x8 : Vec F S1x512x512 .bf16) (x9 : Vec F S1024x1024 .bf16) (x10 : Vec F S1x1024 .f32) (x11 : Vec F S1024x4096 .bf16) (x12 : Vec F S4096x1024 .bf16) (x13 : Vec F S1x1024 .f32) (x14 : Vec F S1024x1024 .bf16) (x15 : Vec F S256x1024 .bf16) (E : Set ℕ) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg17 fullShare d)
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg17 fullShare (mixBlk x5 x6 x7 x8 x9 x10 x11 x12 x13 x14 x15)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_mix_eq_skeleton]; unfold cc0_mix_skel
  simp only [k0_part3_eq_skeleton, k0_part4_eq_skeleton]
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d, %f, -, H⟩, Hk⟩
  obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2)
  sl_step
  iapply Hk
  isplitl [H5]
  · iexists _
    isplitr
    · ipureintro; exact harg5.read_unread _
    · iexact H5
  isplitl [H6]
  · iexists _
    isplitr
    · ipureintro; exact harg6.read_unread _
    · iexact H6
  isplitl [H7]
  · iexists _
    isplitr
    · ipureintro; exact harg7.read_unread _
    · iexact H7
  isplitl [H8]
  · iexists _
    isplitr
    · ipureintro; exact harg8.read_unread _
    · iexact H8
  isplitl [H9]
  · iexists _
    isplitr
    · ipureintro; exact harg9.read_unread _
    · iexact H9
  isplitl [H10]
  · iexists _
    isplitr
    · ipureintro; exact harg10.read_unread _
    · iexact H10
  isplitl [H11]
  · iexists _
    isplitr
    · ipureintro; exact harg11.read_unread _
    · iexact H11
  isplitl [H12]
  · iexists _
    isplitr
    · ipureintro; exact harg12.read_unread _
    · iexact H12
  isplitl [H13]
  · iexists _
    isplitr
    · ipureintro; exact harg13.read_unread _
    · iexact H13
  isplitl [H14]
  · iexists _
    isplitr
    · ipureintro; exact harg14.read_unread _
    · iexact H14
  isplitl [H15]
  · iexists _
    isplitr
    · ipureintro; exact harg15.read_unread _
    · iexact H15
  iexists _
  isplitr
  swap
  · iexact H
  · ipureintro
    refine (View.read_writes_full _ _ _ _ _).trans ?_
    sl_unfold_words
    simp only [View.readAt_eq_ld, pay2_eq, pay10_eq, pay11_eq, pay12_eq, pay13_eq, pay14_eq, pay15_eq, pay16_eq, harg5.read_unread, harg6.read_unread, harg7.read_unread, harg8.read_unread, harg9.read_unread, harg10.read_unread, harg11.read_unread, harg12.read_unread, harg13.read_unread, harg14.read_unread, harg15.read_unread]
    rfl

end Cert.Kernel2Ideal.Mix

end
-- ==== Proof.MixFrame.lean ====
/- The launch of the mixing stage: what its two output buffers hold after each point, the body at every point, and the run with its output arrays named. -/
module

public import proofs.«01_k».proof.Proof.MixRun
public import proofs.«01_k».proof.Proof.Gen.Kernel2Ideal.Points
public import proofs.«01_k».proof.Proof.Gen.Kernel2Ideal.Frame
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of the prompt group up to `t`. -/
def upTo (t : Fin cfg0.N) : Fin cfg0.N := ⟨min t.val 31, lt_of_le_of_lt (Nat.min_le_left _ _) t.isLt⟩

theorem upTo_of_lt {t : Fin cfg0.N} (h : t.val < 32) : upTo t = t := Fin.ext (Nat.min_eq_left (by omega))

/-- The prompt group's block as point `t` leaves it. -/
def promptAt (c : Dev nD) (t : Fin cfg0.N) : Vec F S1x512x1024 .f32 :=
  mixBlk (iblk m c 0 t) (iblk m c 1 t) (iblk m c 2 t) (iblk m c 3 t) (iblk m c 8 t) (iblk m c 9 t) (iblk m c 10 t) (iblk m c 11 t) (iblk m c 12 t) (iblk m c 13 t) (iblk m c 14 t)

/-- The sample group's block as point `t` leaves it. -/
def sampleAt (c : Dev nD) (t : Fin cfg0.N) : Vec F S1x512x1024 .f32 :=
  mixBlk (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The proof data: the arrays as the region finds them; each input's buffer at its block, the first output's at the
    block of the last prompt point, the second's at the sample block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => promptAt m c (upTo t)
    | ⟨16, _⟩ => sampleAt m c t
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = promptAt m c (upTo t) := by dsimp only [dats]
theorem after_16 (c : Dev nD) (t : Fin cfg0.N) : (dats m 0 c).after 16 t = sampleAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

theorem cond1_iff : ∀ t : Fin cfg0.N, k0_cond1 (grid0.coords t) = 1#1 ↔ t.val < 32 :=
  (by decide +kernel : ∀ t : Fin grid0.N, k0_cond1 (grid0.coords t) = 1#1 ↔ t.val < 32)
theorem cond2_iff : ∀ t : Fin cfg0.N, k0_cond2 (grid0.coords t) = 1#1 ↔ t.val = 32 :=
  (by decide +kernel : ∀ t : Fin grid0.N, k0_cond2 (grid0.coords t) = 1#1 ↔ t.val = 32)

/-- The first output is idle at the sample point only, the second before it. -/
theorem idle15_iff (t : Fin cfg0.N) : cfg0.idle 15 (grid0.coords t) = !decide (t.val < 32) := by
  show (!(k0_cond1 (grid0.coords t) == 1#1)) = _
  have h := cond1_iff t
  by_cases ht : t.val < 32
  · rw [h.mpr ht]; simp [ht]
  · have h' : ¬ k0_cond1 (grid0.coords t) = 1#1 := fun e => ht (h.mp e)
    simp [ht, h']
theorem idle16_iff (t : Fin cfg0.N) : cfg0.idle 16 (grid0.coords t) = !decide (t.val = 32) := by
  show (!(k0_cond2 (grid0.coords t) == 1#1)) = _
  have h := cond2_iff t
  by_cases ht : t.val = 32
  · rw [h.mpr ht]; simp [ht]
  · have h' : ¬ k0_cond2 (grid0.coords t) = 1#1 := fun e => ht (h.mp e)
    simp [ht, h']

/-- The first output is written back at the end of each block of rows, at the last prompt block only by the sample point. -/
theorem flush15 : ∀ t : Fin cfg0.N, (cfg0.win 15).flush t = decide (t.val ≠ 31) :=
  (by decide +kernel : ∀ t : Fin grid0.N, (cfg0.win 15).flush t = decide (t.val ≠ 31))
theorem flush16 : ∀ t : Fin cfg0.N, (cfg0.win 16).flush t = decide (t.val = 32) :=
  (by decide +kernel : ∀ t : Fin grid0.N, (cfg0.win 16).flush t = decide (t.val = 32))
theorem fetch15 : ∀ t : Fin cfg0.N, (cfg0.win 15).fetch t = false :=
  (by decide +kernel : ∀ t : Fin grid0.N, (cfg0.win 15).fetch t = false)

/-- The sample point finds the first output as the last prompt point left it. -/
theorem before_15 (c : Dev nD) (t : Fin cfg0.N) (ht : t.val = 32) (d) :
    (dats m 0 c).before 15 t d = promptAt m c (upTo t) := by
  rw [(dats m 0 c).before_of_pos 15 t (by omega) (fetch15 t) d]
  have hp : t.val - 1 = 31 := by omega
  rw [flush15, if_neg (by simp [hp])]
  have hi := idle15_iff (⟨t.val - 1, Nat.lt_of_le_of_lt (Nat.sub_le _ _) t.isLt⟩ : Fin cfg0.N)
  have hu : upTo (⟨t.val - 1, Nat.lt_of_le_of_lt (Nat.sub_le _ _) t.isLt⟩ : Fin cfg0.N) = upTo t :=
    Fin.ext (by simp only [upTo]; omega)
  simp only [hp] at hi
  unfold Dat.left
  rw [show cfg0.idle 15 (cfg0.grid.coords (⟨t.val - 1, Nat.lt_of_le_of_lt (Nat.sub_le _ _) t.isLt⟩ : Fin cfg0.N)) = false from by
    rw [show cfg0.grid.coords (⟨t.val - 1, Nat.lt_of_le_of_lt (Nat.sub_le _ _) t.isLt⟩ : Fin cfg0.N) = grid0.coords (⟨t.val - 1, Nat.lt_of_le_of_lt (Nat.sub_le _ _) t.isLt⟩ : Fin cfg0.N) from rfl, idle15_iff]
    simp [hp]]
  show (dats m 0 c).after 15 _ = _
  rw [after_15, hu]

abbrev ms_0 (t : Fin cfg0.N) : Memref sig .tc .vmem S1x512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x512x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512x512 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512x1024 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x512x256 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x512x512 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x512x512 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1024x1024 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x1024 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1024x4096 .bf16 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S4096x1024 .bf16 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x1024 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1024x1024 .bf16 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S256x1024 .bf16 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S1x512x1024 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S1x512x1024 .f32 := win0_16.stage (cfg0.slots t 16)
abbrev hs_16 (t : Fin cfg0.N) : (ms_16 t).IsWhole := hstage0_16 ((cfg0.slots t 16).cast nbuf0_16)

/-- The windows' buffers as the body finds them at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d)))

/-- and as it leaves them. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- An input's buffer is left at its block. -/
theorem leaves_of_live (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem leaves_of_kept (c : Dev nD) (t : Fin cfg0.N) (w : Fin cfg0.W) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 3200000 in
/-- The body at a prompt point. -/
theorem sound_A (c : Dev nD) (t : Fin cfg0.N) (ht : t.val < 32) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl]
  rw [leaves_of_live m c t 0 rfl, after_0]
  rw [leaves_of_live m c t 1 rfl, after_1]
  rw [leaves_of_live m c t 2 rfl, after_2]
  rw [leaves_of_live m c t 3 rfl, after_3]
  rw [leaves_of_live m c t 4 rfl, after_4]
  rw [leaves_of_live m c t 5 rfl, after_5]
  rw [leaves_of_live m c t 6 rfl, after_6]
  rw [leaves_of_live m c t 7 rfl, after_7]
  rw [leaves_of_live m c t 8 rfl, after_8]
  rw [leaves_of_live m c t 9 rfl, after_9]
  rw [leaves_of_live m c t 10 rfl, after_10]
  rw [leaves_of_live m c t 11 rfl, after_11]
  rw [leaves_of_live m c t 12 rfl, after_12]
  rw [leaves_of_live m c t 13 rfl, after_13]
  rw [leaves_of_live m c t 14 rfl, after_14]
  rw [leaves_of_live m c t 15 ((idle15_iff t).trans (by simp [ht])), after_15, upTo_of_lt ht,
    (dats m 0 c).leavesExact_idle 16 t ((idle16_iff t).trans (by simp; omega)) ((flush16 t).trans (by simp; omega))]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) ((cond1_iff t).mpr ht) (fun h => absurd ((cond2_iff t).mp h) (by omega)) (iblk m c 0 t) (iblk m c 1 t) (iblk m c 2 t) (iblk m c 3 t) (iblk m c 8 t) (iblk m c 9 t) (iblk m c 10 t) (iblk m c 11 t) (iblk m c 12 t) (iblk m c 13 t) (iblk m c 14 t) Set.univ _)
  isplitl [H0]
  · iexact H0
  isplitl [H1]
  · iexact H1
  isplitl [H2]
  · iexact H2
  isplitl [H3]
  · iexact H3
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexists _; iexact H15
  iintro ⟨H0, H1, H2, H3, H8, H9, H10, H11, H12, H13, H14, H15⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexists d16
  iexact H16

set_option maxHeartbeats 3200000 in
/-- The body at the sample point. -/
theorem sound_B (c : Dev nD) (t : Fin cfg0.N) (ht : t.val = 32) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl]
  rw [leaves_of_live m c t 0 rfl, after_0]
  rw [leaves_of_live m c t 1 rfl, after_1]
  rw [leaves_of_live m c t 2 rfl, after_2]
  rw [leaves_of_live m c t 3 rfl, after_3]
  rw [leaves_of_live m c t 4 rfl, after_4]
  rw [leaves_of_live m c t 5 rfl, after_5]
  rw [leaves_of_live m c t 6 rfl, after_6]
  rw [leaves_of_live m c t 7 rfl, after_7]
  rw [leaves_of_live m c t 8 rfl, after_8]
  rw [leaves_of_live m c t 9 rfl, after_9]
  rw [leaves_of_live m c t 10 rfl, after_10]
  rw [leaves_of_live m c t 11 rfl, after_11]
  rw [leaves_of_live m c t 12 rfl, after_12]
  rw [leaves_of_live m c t 13 rfl, after_13]
  rw [leaves_of_live m c t 14 rfl, after_14]
  rw [leaves_of_kept m c t 15 ((idle15_iff t).trans (by simp; omega)) ((flush15 t).trans (by simp; omega)), after_15,
    leaves_of_live m c t 16 ((idle16_iff t).trans (by simp [ht])), after_16]
  simp only [before_15 m c t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (fun h => absurd ((cond1_iff t).mp h) (by omega)) ((cond2_iff t).mpr ht) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H16]
  · iexists _; iexact H16
  iintro ⟨H4, H5, H6, H7, H8, H9, H10, H11, H12, H13, H14, H16⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iexact H16

theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  by_cases ht : t.val < 32
  · exact sound_A m c t ht
  · exact sound_B m c t (by omega)

theorem body_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: every execution ends, with every array of the pipeline as the proof data say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

end Cert.Kernel2Ideal.Mix

end
-- ==== Proof.MixHost.lean ====
/- What the mixing stage's windows read: the arguments, through the host's reshapes and casts, at an index of a point's block. -/
module

public import proofs.«01_k».proof.Proof.MixFrame
public import Idealize.ShloMosaic.Lib.Pointwise
public import Idealize.ShloMosaic.Lib.StableHlo.Run

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic

/-! ## The arrays the host prepares -/

section Host

variable {F : FTy → Type} [FloatOps F]
variable (m : (ℓ : Loc nD τ sig) → Buf (Elt F) ℓ) (c : Dev nD)

theorem V_main_v1 : V m c main_v1 = truncf .bf16 (shapeCast S1024x1024 (m ((c : Thread nD τ).loc main_arg8)) shapeCasts_S1x1024x1024_S1024x1024) bitsLt_bf16_f32 := by
  simp only [V, hostOps0]; after_results_simp <;> rfl
theorem V_main_v5 : V m c main_v5 = truncf .bf16 (shapeCast S1024x4096 (m ((c : Thread nD τ).loc main_arg10)) shapeCasts_S1x1024x4096_S1024x4096) bitsLt_bf16_f32 := by
  simp only [V, hostOps0]; after_results_simp <;> rfl
theorem V_main_v7 : V m c main_v7 = truncf .bf16 (shapeCast S4096x1024 (m ((c : Thread nD τ).loc main_arg11)) shapeCasts_S1x4096x1024_S4096x1024) bitsLt_bf16_f32 := by
  simp only [V, hostOps0]; after_results_simp <;> rfl
theorem V_main_v11 : V m c main_v11 = truncf .bf16 (shapeCast S1024x1024 (m ((c : Thread nD τ).loc main_arg13)) shapeCasts_S1x1024x1024_S1024x1024) bitsLt_bf16_f32 := by
  simp only [V, hostOps0]; after_results_simp <;> rfl
theorem V_main_v13 : V m c main_v13 = truncf .bf16 (shapeCast S256x1024 (m ((c : Thread nD τ).loc main_arg14)) shapeCasts_S1x256x1024_S256x1024) bitsLt_bf16_f32 := by
  simp only [V, hostOps0]; after_results_simp <;> rfl
theorem V_main_v3 : V m c main_v3 = shapeCast S1x1024 (shapeCast S1024 (m ((c : Thread nD τ).loc main_arg9)) shapeCasts_S1x1024_S1024) shapeCasts_S1024_S1x1024 := by
  simp only [V, hostOps0]; after_results_simp <;> rfl
theorem V_main_v9 : V m c main_v9 = shapeCast S1x1024 (shapeCast S1024 (m ((c : Thread nD τ).loc main_arg12)) shapeCasts_S1x1024_S1024) shapeCasts_S1024_S1x1024 := by
  simp only [V, hostOps0]; after_results_simp <;> rfl
theorem V_main_v14 : V m c main_v14 = shapeCast S8x2048x256 (m ((c : Thread nD τ).loc main_arg1)) shapeCasts_S1x8x2048x256_S8x2048x256 := by
  simp only [V, hostOps0]; after_results_simp <;> rfl
theorem V_main_v15 : V m c main_v15 = truncf .bf16 (m ((c : Thread nD τ).loc main_arg3) : FVec F S8x2048x512 .f32) bitsLt_bf16_f32 := by
  simp only [V, hostOps0]; after_results_simp <;> rfl
theorem V_main_v16 : V m c main_v16 = truncf .bf16 (m ((c : Thread nD τ).loc main_arg2) : FVec F S8x2048x512 .f32) bitsLt_bf16_f32 := by
  simp only [V, hostOps0]; after_results_simp <;> rfl
theorem V_main_v17 : V m c main_v17 = shapeCast S1x512x1024 (m ((c : Thread nD τ).loc main_arg4)) shapeCasts_S8x64x1024_S1x512x1024 := by
  simp only [V, hostOps0]; after_results_simp <;> rfl
theorem V_main_v19 : V m c main_v19
    = shapeCast S1x512x256 (shapeCast S8x64x256 (m ((c : Thread nD τ).loc main_arg5)) shapeCasts_S1x8x64x256_S8x64x256) shapeCasts_S8x64x256_S1x512x256 := by
  simp only [V, hostOps0]; after_results_simp <;> rfl
theorem V_main_v21 : V m c main_v21
    = truncf .bf16 (shapeCast S1x512x512 (m ((c : Thread nD τ).loc main_arg7)) shapeCasts_S8x64x512_S1x512x512) bitsLt_bf16_f32 := by
  simp only [V, hostOps0]; after_results_simp <;> rfl
theorem V_main_v23 : V m c main_v23
    = truncf .bf16 (shapeCast S1x512x512 (m ((c : Thread nD τ).loc main_arg6)) shapeCasts_S8x64x512_S1x512x512) bitsLt_bf16_f32 := by
  simp only [V, hostOps0]; after_results_simp <;> rfl

end Host

/-! ## The preparations at an index -/

theorem weight_apply {K J : Nat} (x : FVec Ideal ⟨3, ![1, K, J]⟩ .f32) (h : (⟨3, ![1, K, J]⟩ : Shape).ShapeCasts ⟨2, ![K, J]⟩) (k : Fin K) (j : Fin J) :
    truncf .bf16 (shapeCast (⟨2, ![K, J]⟩ : Shape) x h) bitsLt_bf16_f32 (ix2 k j) = x (ix3 0 k j) := by
  show shapeCast (⟨2, ![K, J]⟩ : Shape) x h (ix2 k j) = _
  exact shapeCast_apply x h (ix2 k j) (ix3 0 k j) (by
    rw [Shape.rowMajor_val_three, Shape.rowMajor_val_two]
    show (0 * K + k.val) * J + j.val = k.val * J + j.val
    simp)

theorem gain_apply (x : FVec Ideal S1x1024 .f32) (k : Fin 1024) :
    shapeCast S1x1024 (shapeCast S1024 x shapeCasts_S1x1024_S1024) shapeCasts_S1024_S1x1024 (ix2 0 k) = x (ix2 0 k) := by
  pointwise

theorem prompt_p_apply (x : FVec Ideal S1x8x2048x256 .f32) (b : Fin 8) (s : Fin 2048) (k : Fin 256) :
    shapeCast S8x2048x256 x shapeCasts_S1x8x2048x256_S8x2048x256 (ix3 b s k) = x (ix4 0 b s k) := by
  pointwise

/-- Row `r` of the sample group's merged rows is row `s` of batch entry `b`. -/
theorem sample_apply {N : Nat} (x : FVec Ideal ⟨3, ![8, 64, N]⟩ .f32) (h : (⟨3, ![8, 64, N]⟩ : Shape).ShapeCasts ⟨3, ![1, 512, N]⟩)
    (r : Fin 512) (b : Fin 8) (s : Fin 64) (e : b.val * 64 + s.val = r.val) (k : Fin N) :
    shapeCast (⟨3, ![1, 512, N]⟩ : Shape) x h (ix3 0 r k) = x (ix3 b s k) :=
  shapeCast_apply x h (ix3 0 r k) (ix3 b s k) (by
    rw [Shape.rowMajor_val_three, Shape.rowMajor_val_three]
    show (b.val * 64 + s.val) * N + k.val = (0 * 512 + r.val) * N + k.val
    rw [e, Nat.zero_mul, Nat.zero_add])

theorem sample_p_apply (x : FVec Ideal S1x8x64x256 .f32) (b : Fin 8) (s : Fin 64) (k : Fin 256) :
    shapeCast S8x64x256 x shapeCasts_S1x8x64x256_S8x64x256 (ix3 b s k) = x (ix4 0 b s k) := by
  pointwise

/-! ## The windows' blocks -/

variable (m : (ℓ : Loc nD τ sig) → Buf (Elt Ideal) ℓ) (c : Dev nD)

/-- The four prompt windows and the first output move alike: point `t` (the sample point as the last prompt point) has the
    rows of its quarter of its batch entry. -/
theorem at_prompt : ∀ t : Fin cfg0.N,
    (win0_0.index t 0 = min t.val 31 / 4 ∧ win0_0.index t 1 = min t.val 31 % 4 ∧ win0_0.index t 2 = 0)
    ∧ (win0_1.index t 0 = min t.val 31 / 4 ∧ win0_1.index t 1 = min t.val 31 % 4 ∧ win0_1.index t 2 = 0)
    ∧ (win0_2.index t 0 = min t.val 31 / 4 ∧ win0_2.index t 1 = min t.val 31 % 4 ∧ win0_2.index t 2 = 0)
    ∧ (win0_3.index t 0 = min t.val 31 / 4 ∧ win0_3.index t 1 = min t.val 31 % 4 ∧ win0_3.index t 2 = 0)
    ∧ (win0_15.index t 0 = min t.val 31 / 4 ∧ win0_15.index t 1 = min t.val 31 % 4 ∧ win0_15.index t 2 = 0) :=
  (by decide +kernel : ∀ t : Fin grid0.N,
    (win0_0.index t 0 = min t.val 31 / 4 ∧ win0_0.index t 1 = min t.val 31 % 4 ∧ win0_0.index t 2 = 0)
    ∧ (win0_1.index t 0 = min t.val 31 / 4 ∧ win0_1.index t 1 = min t.val 31 % 4 ∧ win0_1.index t 2 = 0)
    ∧ (win0_2.index t 0 = min t.val 31 / 4 ∧ win0_2.index t 1 = min t.val 31 % 4 ∧ win0_2.index t 2 = 0)
    ∧ (win0_3.index t 0 = min t.val 31 / 4 ∧ win0_3.index t 1 = min t.val 31 % 4 ∧ win0_3.index t 2 = 0)
    ∧ (win0_15.index t 0 = min t.val 31 / 4 ∧ win0_15.index t 1 = min t.val 31 % 4 ∧ win0_15.index t 2 = 0))

/-- The sample windows and the second output are their whole arrays. -/
theorem at_sample : ∀ (t : Fin cfg0.N) (a : Fin 3), win0_4.index t a = 0 ∧ win0_5.index t a = 0 ∧ win0_6.index t a = 0 ∧ win0_7.index t a = 0
    ∧ win0_16.index t a = 0 :=
  (by decide +kernel : ∀ (t : Fin grid0.N) (a : Fin 3), win0_4.index t a = 0 ∧ win0_5.index t a = 0 ∧ win0_6.index t a = 0 ∧ win0_7.index t a = 0
    ∧ win0_16.index t a = 0)

section Prompt

variable (t : Fin cfg0.N) (b : Fin 8) (s : Fin 2048) (r : Fin 512) (hb : min t.val 31 / 4 = b.val) (hs : min t.val 31 % 4 * 512 + r.val = s.val)
include hb hs

theorem emb_0 (k : Fin 1024) : (win0_0.rect t).emb (ix3 0 r k) = ix3 b s k := by
  obtain ⟨h0, h1, h2⟩ := (at_prompt t).1
  funext a
  apply Fin.ext
  rw [Pipeline.Window.rect_emb_val win0_0 t]
  match a with
  | ⟨0, _⟩ => show win0_0.index t 0 * 1 + 0 = b.val; omega
  | ⟨1, _⟩ => show win0_0.index t 1 * 512 + r.val = s.val; omega
  | ⟨2, _⟩ => show win0_0.index t 2 * 1024 + k.val = k.val; omega

theorem emb_1 (k : Fin 256) : (win0_1.rect t).emb (ix3 0 r k) = ix3 b s k := by
  obtain ⟨h0, h1, h2⟩ := (at_prompt t).2.1
  funext a
  apply Fin.ext
  rw [Pipeline.Window.rect_emb_val win0_1 t]
  match a with
  | ⟨0, _⟩ => show win0_1.index t 0 * 1 + 0 = b.val; omega
  | ⟨1, _⟩ => show win0_1.index t 1 * 512 + r.val = s.val; omega
  | ⟨2, _⟩ => show win0_1.index t 2 * 256 + k.val = k.val; omega

theorem emb_2 (k : Fin 512) : (win0_2.rect t).emb (ix3 0 r k) = ix3 b s k := by
  obtain ⟨h0, h1, h2⟩ := (at_prompt t).2.2.1
  funext a
  apply Fin.ext
  rw [Pipeline.Window.rect_emb_val win0_2 t]
  match a with
  | ⟨0, _⟩ => show win0_2.index t 0 * 1 + 0 = b.val; omega
  | ⟨1, _⟩ => show win0_2.index t 1 * 512 + r.val = s.val; omega
  | ⟨2, _⟩ => show win0_2.index t 2 * 512 + k.val = k.val; omega

theorem emb_3 (k : Fin 512) : (win0_3.rect t).emb (ix3 0 r k) = ix3 b s k := by
  obtain ⟨h0, h1, h2⟩ := (at_prompt t).2.2.2.1
  funext a
  apply Fin.ext
  rw [Pipeline.Window.rect_emb_val win0_3 t]
  match a with
  | ⟨0, _⟩ => show win0_3.index t 0 * 1 + 0 = b.val; omega
  | ⟨1, _⟩ => show win0_3.index t 1 * 512 + r.val = s.val; omega
  | ⟨2, _⟩ => show win0_3.index t 2 * 512 + k.val = k.val; omega

theorem emb_15 (k : Fin 1024) : (win0_15.rect t).emb (ix3 0 r k) = ix3 b s k := by
  obtain ⟨h0, h1, h2⟩ := (at_prompt t).2.2.2.2
  funext a
  apply Fin.ext
  rw [Pipeline.Window.rect_emb_val win0_15 t]
  match a with
  | ⟨0, _⟩ => show win0_15.index t 0 * 1 + 0 = b.val; omega
  | ⟨1, _⟩ => show win0_15.index t 1 * 512 + r.val = s.val; omega
  | ⟨2, _⟩ => show win0_15.index t 2 * 1024 + k.val = k.val; omega

theorem blk_0 (k : Fin 1024) : iblk m c 0 t (ix3 0 r k) = m ((c : Thread nD τ).loc main_arg0) (ix3 b s k) :=
  (congrArg (V m c main_arg0) (emb_0 t b s r hb hs k)).trans (congrFun (V_main_arg0 m c) _)
theorem blk_1 (k : Fin 256) : iblk m c 1 t (ix3 0 r k) = m ((c : Thread nD τ).loc main_arg1) (ix4 0 b s k) :=
  (congrArg (V m c main_v14) (emb_1 t b s r hb hs k)).trans ((congrFun (V_main_v14 m c) _).trans (prompt_p_apply _ b s k))
theorem blk_2 (k : Fin 512) : iblk m c 2 t (ix3 0 r k) = m ((c : Thread nD τ).loc main_arg3) (ix3 b s k) :=
  (congrArg (V m c main_v15) (emb_2 t b s r hb hs k)).trans (congrFun (V_main_v15 m c) _)
theorem blk_3 (k : Fin 512) : iblk m c 3 t (ix3 0 r k) = m ((c : Thread nD τ).loc main_arg2) (ix3 b s k) :=
  (congrArg (V m c main_v16) (emb_3 t b s r hb hs k)).trans (congrFun (V_main_v16 m c) _)

end Prompt

section Sample

variable (t : Fin cfg0.N) (b : Fin 8) (s : Fin 64) (r : Fin 512) (e : b.val * 64 + s.val = r.val)

theorem emb_16 (j : S1x512x1024.Idx) : (win0_16.rect t).emb j = j :=
  funext fun a => Fin.ext (Pipeline.Window.rect_emb_val_of_index_zero win0_16 t a (at_sample t a).2.2.2.2 j)

include e

theorem blk_4 (k : Fin 1024) : iblk m c 4 t (ix3 0 r k) = m ((c : Thread nD τ).loc main_arg4) (ix3 b s k) :=
  (congrArg (V m c main_v17) (funext fun a => Fin.ext (Pipeline.Window.rect_emb_val_of_index_zero win0_4 t a (at_sample t a).1 (ix3 0 r k)))).trans
    ((congrFun (V_main_v17 m c) _).trans (sample_apply _ _ r b s e k))
theorem blk_5 (k : Fin 256) : iblk m c 5 t (ix3 0 r k) = m ((c : Thread nD τ).loc main_arg5) (ix4 0 b s k) :=
  (congrArg (V m c main_v19) (funext fun a => Fin.ext (Pipeline.Window.rect_emb_val_of_index_zero win0_5 t a (at_sample t a).2.1 (ix3 0 r k)))).trans
    ((congrFun (V_main_v19 m c) _).trans ((sample_apply _ _ r b s e k).trans (sample_p_apply _ b s k)))
theorem blk_6 (k : Fin 512) : iblk m c 6 t (ix3 0 r k) = m ((c : Thread nD τ).loc main_arg7) (ix3 b s k) :=
  (congrArg (V m c main_v21) (funext fun a => Fin.ext (Pipeline.Window.rect_emb_val_of_index_zero win0_6 t a (at_sample t a).2.2.1 (ix3 0 r k)))).trans
    ((congrFun (V_main_v21 m c) _).trans (sample_apply _ shapeCasts_S8x64x512_S1x512x512 r b s e k))
theorem blk_7 (k : Fin 512) : iblk m c 7 t (ix3 0 r k) = m ((c : Thread nD τ).loc main_arg6) (ix3 b s k) :=
  (congrArg (V m c main_v23) (funext fun a => Fin.ext (Pipeline.Window.rect_emb_val_of_index_zero win0_7 t a (at_sample t a).2.2.2.1 (ix3 0 r k)))).trans
    ((congrFun (V_main_v23 m c) _).trans (sample_apply _ shapeCasts_S8x64x512_S1x512x512 r b s e k))

end Sample

section Weights

variable (t : Fin cfg0.N)

theorem blk_8 (k : Fin 1024) (j : Fin 1024) : iblk m c 8 t (ix2 k j) = m ((c : Thread nD τ).loc main_arg8) (ix3 0 k j) :=
  (congrArg (V m c main_v1) (funext fun a => Fin.ext (Pipeline.Window.rect_emb_val_of_index_zero win0_8 t a (by fin_cases a <;> rfl) (ix2 k j)))).trans
    ((congrFun (V_main_v1 m c) _).trans (weight_apply _ shapeCasts_S1x1024x1024_S1024x1024 k j))
theorem blk_10 (k : Fin 1024) (j : Fin 4096) : iblk m c 10 t (ix2 k j) = m ((c : Thread nD τ).loc main_arg10) (ix3 0 k j) :=
  (congrArg (V m c main_v5) (funext fun a => Fin.ext (Pipeline.Window.rect_emb_val_of_index_zero win0_10 t a (by fin_cases a <;> rfl) (ix2 k j)))).trans
    ((congrFun (V_main_v5 m c) _).trans (weight_apply _ shapeCasts_S1x1024x4096_S1024x4096 k j))
theorem blk_11 (k : Fin 4096) (j : Fin 1024) : iblk m c 11 t (ix2 k j) = m ((c : Thread nD τ).loc main_arg11) (ix3 0 k j) :=
  (congrArg (V m c main_v7) (funext fun a => Fin.ext (Pipeline.Window.rect_emb_val_of_index_zero win0_11 t a (by fin_cases a <;> rfl) (ix2 k j)))).trans
    ((congrFun (V_main_v7 m c) _).trans (weight_apply _ shapeCasts_S1x4096x1024_S4096x1024 k j))
theorem blk_13 (k : Fin 1024) (j : Fin 1024) : iblk m c 13 t (ix2 k j) = m ((c : Thread nD τ).loc main_arg13) (ix3 0 k j) :=
  (congrArg (V m c main_v11) (funext fun a => Fin.ext (Pipeline.Window.rect_emb_val_of_index_zero win0_13 t a (by fin_cases a <;> rfl) (ix2 k j)))).trans
    ((congrFun (V_main_v11 m c) _).trans (weight_apply _ shapeCasts_S1x1024x1024_S1024x1024 k j))
theorem blk_14 (k : Fin 256) (j : Fin 1024) : iblk m c 14 t (ix2 k j) = m ((c : Thread nD τ).loc main_arg14) (ix3 0 k j) :=
  (congrArg (V m c main_v13) (funext fun a => Fin.ext (Pipeline.Window.rect_emb_val_of_index_zero win0_14 t a (by fin_cases a <;> rfl) (ix2 k j)))).trans
    ((congrFun (V_main_v13 m c) _).trans (weight_apply _ shapeCasts_S1x256x1024_S256x1024 k j))
theorem blk_9 (k : Fin 1024) : iblk m c 9 t (ix2 0 k) = m ((c : Thread nD τ).loc main_arg9) (ix2 0 k) :=
  (congrArg (V m c main_v3) (funext fun a => Fin.ext (Pipeline.Window.rect_emb_val_of_index_zero win0_9 t a (by fin_cases a <;> rfl) (ix2 0 k)))).trans
    ((congrFun (V_main_v3 m c) _).trans (gain_apply _ k))
theorem blk_12 (k : Fin 1024) : iblk m c 12 t (ix2 0 k) = m ((c : Thread nD τ).loc main_arg12) (ix2 0 k) :=
  (congrArg (V m c main_v9) (funext fun a => Fin.ext (Pipeline.Window.rect_emb_val_of_index_zero win0_12 t a (by fin_cases a <;> rfl) (ix2 0 k)))).trans
    ((congrFun (V_main_v9 m c) _).trans (gain_apply _ k))

end Weights

end Cert.Kernel2Ideal.Mix

end
-- ==== Proof.MixRow.lean ====
/- One row of the mixing stage over the extended reals: the mathematics both programs compute of every row. -/
module

public import Idealize.ShloMosaic.Lib.Pointwise

@[expose] public section

noncomputable section

namespace MixRow

open Idealize.ShloMosaic

/-- The residual stream after the output projection of the concatenated groups: the convolution group meets the upper
    half of the weight's rows, the attention group the lower half. -/
def merged (X : Fin 1024 → EReal) (C A : Fin 512 → EReal) (Wo : Fin 1024 → Fin 1024 → EReal) (n : Fin 1024) : EReal :=
  X n + ∑ k : Fin 512, C k * Wo ⟨k.val, by omega⟩ n + ∑ k : Fin 512, A k * Wo ⟨512 + k.val, by omega⟩ n

/-- The root-mean-square normalisation of a row, times the gain. -/
def normed (y g : Fin 1024 → EReal) (n : Fin 1024) : EReal :=
  y n * Ideal.rsqrt (Ideal.div (∑ k, y k * y k) (Ideal.ofBits .f32 1149239296#32) + Ideal.ofBits .f32 897988541#32) * g n

/-- One hidden value of the feed-forward stage: the squared rectified product. -/
def hidden (y g : Fin 1024 → EReal) (W1 : Fin 1024 → Fin 4096 → EReal) (j : Fin 4096) : EReal :=
  max (∑ k, normed y g k * W1 k j) 0 * max (∑ k, normed y g k * W1 k j) 0

/-- The residual stream after the feed-forward stage. -/
def fed (y g : Fin 1024 → EReal) (W1 : Fin 1024 → Fin 4096 → EReal) (W2 : Fin 4096 → Fin 1024 → EReal) (n : Fin 1024) : EReal :=
  y n + ∑ j, hidden y g W1 j * W2 j n

/-- The gate of the layer embedding. -/
def gate (z g : Fin 1024 → EReal) (Wg : Fin 1024 → Fin 1024 → EReal) (n : Fin 1024) : EReal :=
  Ideal.logistic (∑ k, normed z g k * Wg k n)

/-- The row's result: the stream plus the gated projection of the layer embedding. -/
def out (X : Fin 1024 → EReal) (P : Fin 256 → EReal) (C A : Fin 512 → EReal) (Wo : Fin 1024 → Fin 1024 → EReal) (gf : Fin 1024 → EReal)
    (W1 : Fin 1024 → Fin 4096 → EReal) (W2 : Fin 4096 → Fin 1024 → EReal) (gp : Fin 1024 → EReal) (Wg : Fin 1024 → Fin 1024 → EReal)
    (Wp : Fin 256 → Fin 1024 → EReal) (n : Fin 1024) : EReal :=
  fed (merged X C A Wo) gf W1 W2 n + (∑ k, P k * Wp k n) * gate (fed (merged X C A Wo) gf W1 W2) gp Wg n

/-- The feed-forward sum taken in two halves of the hidden width. -/
theorem fed_halves (y g : Fin 1024 → EReal) (W1 : Fin 1024 → Fin 4096 → EReal) (W2 : Fin 4096 → Fin 1024 → EReal) (n : Fin 1024) :
    fed y g W1 W2 n = y n + (∑ j : Fin 2048, hidden y g W1 ⟨j.val, by omega⟩ * W2 ⟨j.val, by omega⟩ n
      + ∑ j : Fin 2048, hidden y g W1 ⟨2048 + j.val, by omega⟩ * W2 ⟨2048 + j.val, by omega⟩ n) := by
  unfold fed
  congr 1
  exact Fin.sum_univ_add (a := 2048) (b := 2048) (fun j : Fin 4096 => hidden y g W1 j * W2 j n)

/-- The output projection taken over the whole concatenated width. -/
theorem merged_whole (X : Fin 1024 → EReal) (C A : Fin 512 → EReal) (Wo : Fin 1024 → Fin 1024 → EReal) (n : Fin 1024) :
    merged X C A Wo n = X n + (∑ k : Fin 512, C k * Wo ⟨k.val, by omega⟩ n + ∑ k : Fin 512, A k * Wo ⟨512 + k.val, by omega⟩ n) :=
  add_assoc _ _ _

end MixRow

end
-- ==== Proof.MixBlock.lean ====
/- What one point of the mixing stage computes, at an index: the row's mathematics of that row. -/
module

public import proofs.«01_k».proof.Proof.MixRun
public import proofs.«01_k».proof.Proof.MixRow

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic

variable (x : Vec Ideal S1x512x1024 .f32) (p : Vec Ideal S1x512x256 .f32) (an cn : Vec Ideal S1x512x512 .bf16)
  (wo : Vec Ideal S1024x1024 .bf16) (gf : Vec Ideal S1x1024 .f32) (w1 : Vec Ideal S1024x4096 .bf16) (w2 : Vec Ideal S4096x1024 .bf16)
  (gp : Vec Ideal S1x1024 .f32) (wg : Vec Ideal S1024x1024 .bf16) (wp : Vec Ideal S256x1024 .bf16)

theorem pay4_apply (o0 o1 : Vec Ideal S512x1024 .bf16) (Wo : Fin 1024 → Fin 1024 → EReal)
    (h0 : ∀ (k : Fin 512) n, o0 (ix2 k n) = Wo ⟨k.val, by omega⟩ n) (h1 : ∀ (k : Fin 512) n, o1 (ix2 k n) = Wo ⟨512 + k.val, by omega⟩ n)
    (r : Fin 512) (n : Fin 1024) :
    k0_pay4 x cn an o0 o1 (ix2 r n)
      = MixRow.merged (fun k => x (ix3 0 r k)) (fun k => cn (ix3 0 r k)) (fun k => an (ix3 0 r k)) Wo n := by
  pointwise [k0_pay4]
  simp only [h0, h1]
  rfl

theorem pay5_apply (o0 o1 : Vec Ideal S512x1024 .bf16) (r : Fin 512) (y : Fin 1024 → EReal)
    (hy : ∀ n, k0_pay4 x cn an o0 o1 (ix2 r n) = y n) (n : Fin 1024) :
    k0_pay5 x cn an o0 o1 gf (ix2 r n) = MixRow.normed y (fun k => gf (ix2 0 k)) n := by
  pointwise [k0_pay5]
  simp only [hy]
  rfl

theorem pay6_apply (o0 o1 : Vec Ideal S512x1024 .bf16) (a0 : Vec Ideal S1024x2048 .bf16) (r : Fin 512) (h : Fin 1024 → EReal)
    (hh : ∀ n, k0_pay5 x cn an o0 o1 gf (ix2 r n) = h n) (j : Fin 2048) :
    k0_pay6 x cn an o0 o1 gf a0 (ix2 r j) = ∑ k, h k * a0 (ix2 k j) := by
  pointwise [k0_pay6]
  simp only [hh]

theorem pay7_apply (Y : FVec Ideal S512x1024 .f32) (H : FVec Ideal S512x1024 .bf16) (U : FVec Ideal S512x2048 .f32)
    (b0 : Vec Ideal S2048x1024 .bf16) (a1 : Vec Ideal S1024x2048 .bf16) (b1 : Vec Ideal S2048x1024 .bf16)
    (r : Fin 512) (y g : Fin 1024 → EReal) (W1 : Fin 1024 → Fin 4096 → EReal) (W2 : Fin 4096 → Fin 1024 → EReal)
    (hY : ∀ n, Y (ix2 r n) = y n) (hH : ∀ n, H (ix2 r n) = MixRow.normed y g n)
    (hU : ∀ j : Fin 2048, U (ix2 r j) = ∑ k, MixRow.normed y g k * W1 k ⟨j.val, by omega⟩)
    (hb0 : ∀ (j : Fin 2048) n, b0 (ix2 j n) = W2 ⟨j.val, by omega⟩ n) (hb1 : ∀ (j : Fin 2048) n, b1 (ix2 j n) = W2 ⟨2048 + j.val, by omega⟩ n)
    (ha1 : ∀ k (j : Fin 2048), a1 (ix2 k j) = W1 k ⟨2048 + j.val, by omega⟩) (n : Fin 1024) :
    k0_pay7 Y H U b0 a1 b1 (ix2 r n) = MixRow.fed y g W1 W2 n := by
  rw [MixRow.fed_halves]
  pointwise [k0_pay7]
  simp only [hY, hH, hU, hb0, hb1, ha1]
  rfl

theorem pay8_apply (Y : FVec Ideal S512x1024 .f32) (H : FVec Ideal S512x1024 .bf16) (U : FVec Ideal S512x2048 .f32)
    (b0 : Vec Ideal S2048x1024 .bf16) (a1 : Vec Ideal S1024x2048 .bf16) (b1 : Vec Ideal S2048x1024 .bf16)
    (r : Fin 512) (z : Fin 1024 → EReal) (hz : ∀ n, k0_pay7 Y H U b0 a1 b1 (ix2 r n) = z n) (n : Fin 1024) :
    k0_pay8 Y H U b0 a1 b1 gp wg (ix2 r n) = MixRow.gate z (fun k => gp (ix2 0 k)) (fun k m => wg (ix2 k m)) n := by
  pointwise [k0_pay8]
  simp only [hz]
  rfl

theorem pay1_apply (Z G : FVec Ideal S512x1024 .f32) (r : Fin 512) (n : Fin 1024) :
    k0_pay1 Z G (k0_pay9 (k0_pay3 p)) wp (ix3 0 r n) = Z (ix2 r n) + (∑ k, p (ix3 0 r k) * wp (ix2 k n)) * G (ix2 r n) := by
  pointwise [k0_pay1, k0_pay9, k0_pay3]

/-- One row of a point's block. -/
theorem mixBlk_apply (r : Fin 512) (n : Fin 1024) :
    mixBlk (F := Ideal) x p an cn wo gf w1 w2 gp wg wp (ix3 0 r n)
      = MixRow.out (fun k => x (ix3 0 r k)) (fun k => p (ix3 0 r k)) (fun k => cn (ix3 0 r k)) (fun k => an (ix3 0 r k))
          (fun k m => wo (ix2 k m)) (fun k => gf (ix2 0 k)) (fun k m => w1 (ix2 k m)) (fun k m => w2 (ix2 k m)) (fun k => gp (ix2 0 k))
          (fun k m => wg (ix2 k m)) (fun k m => wp (ix2 k m)) n := by
  have ey := pay4_apply (View.ld x (Rect.unit (s := S1x512x1024) ![0, 0, 0] S1x512x1024.size inb_S1x512x1024_S1x512x1024_0_0_0))
    (View.ld an (Rect.unit (s := S1x512x512) ![0, 0, 0] S1x512x512.size inb_S1x512x512_S1x512x512_0_0_0))
    (View.ld cn (Rect.unit (s := S1x512x512) ![0, 0, 0] S1x512x512.size inb_S1x512x512_S1x512x512_0_0_0))
    (View.ld wo (Rect.unit (s := S1024x1024) ![0, 0] S512x1024.size inb_S1024x1024_S512x1024_0_0))
    (View.ld wo (Rect.unit (s := S1024x1024) ![512, 0] S512x1024.size inb_S1024x1024_S512x1024_512_0))
    (fun k m => wo (ix2 k m)) (fun k n => by pointwise) (fun k n => by pointwise) r
  have eh := pay5_apply _ _ _ (View.ld gf (Rect.unit (s := S1x1024) ![0, 0] S1x1024.size inb_S1x1024_S1x1024_0_0)) _ _ r _ ey
  have eu := pay6_apply _ _ _ _ _ _ (View.ld w1 (Rect.unit (s := S1024x4096) ![0, 0] S1024x2048.size inb_S1024x4096_S1024x2048_0_0)) r _ eh
  have ez := pay7_apply _ _ _ (View.ld w2 (Rect.unit (s := S4096x1024) ![0, 0] S2048x1024.size inb_S4096x1024_S2048x1024_0_0))
    (View.ld w1 (Rect.unit (s := S1024x4096) ![0, 2048] S1024x2048.size inb_S1024x4096_S1024x2048_0_2048))
    (View.ld w2 (Rect.unit (s := S4096x1024) ![2048, 0] S2048x1024.size inb_S4096x1024_S2048x1024_2048_0))
    r _ _ (fun k m => w1 (ix2 k m)) (fun k m => w2 (ix2 k m)) ey eh (fun j => (eu j).trans (Finset.sum_congr rfl fun k _ => by congr 1; pointwise))
    (fun j n => by pointwise) (fun j n => by pointwise) (fun k j => by pointwise)
  have eg := pay8_apply (View.ld gp (Rect.unit (s := S1x1024) ![0, 0] S1x1024.size inb_S1x1024_S1x1024_0_0))
    (View.ld wg (Rect.unit (s := S1024x1024) ![0, 0] S1024x1024.size inb_S1024x1024_S1024x1024_0_0)) _ _ _ _ _ _ r _ ez
  refine (pay1_apply _ _ _ _ r n).trans ?_
  rw [ez, eg]
  pointwise [MixRow.out]

end Cert.Kernel2Ideal.Mix

end
-- ==== Proof.MixRef.lean ====
/- The reference's two results at an index: the row's mathematics of that row. -/
module

public import proofs.«01_k».proof.Proof.Gen.Reference2Ideal.Read
public import proofs.«01_k».proof.Proof.MixRow

@[expose] public section

set_option maxRecDepth 16384

noncomputable section

namespace Cert.Reference2Ideal.Mix

open Cert.Reference2Ideal Cert.Reference2Ideal.Gen Cert.Reference2Ideal.Read Cert.Reference2Ideal.Value
open Idealize.ShloMosaic Idealize.ShloMosaic.TcCoe Idealize.ShloMosaic.Tactic

section Prompt

variable (x0 : (⟨S8x2048x1024, .f32⟩ : BufTy).Contents (Elt Ideal)) (x1 : (⟨S1x8x2048x256, .f32⟩ : BufTy).Contents (Elt Ideal))
  (x2 x3 : (⟨S8x2048x512, .f32⟩ : BufTy).Contents (Elt Ideal)) (x8 : (⟨S1x1024x1024, .f32⟩ : BufTy).Contents (Elt Ideal))
  (x9 : (⟨S1x1024, .f32⟩ : BufTy).Contents (Elt Ideal)) (x10 : (⟨S1x1024x4096, .f32⟩ : BufTy).Contents (Elt Ideal))
  (x11 : (⟨S1x4096x1024, .f32⟩ : BufTy).Contents (Elt Ideal)) (x12 : (⟨S1x1024, .f32⟩ : BufTy).Contents (Elt Ideal))
  (x13 : (⟨S1x1024x1024, .f32⟩ : BufTy).Contents (Elt Ideal)) (x14 : (⟨S1x256x1024, .f32⟩ : BufTy).Contents (Elt Ideal))
  (b : Fin 8) (s : Fin 2048)

theorem merged_prompt (n : Fin 1024) : val_main_v10 x0 x2 x3 x8 (ix3 b s n)
    = MixRow.merged (fun k => x0 (ix3 b s k)) (fun k => x2 (ix3 b s k)) (fun k => x3 (ix3 b s k)) (fun k m => x8 (ix3 0 k m)) n := by
  rw [MixRow.merged_whole]
  pointwise [val_main_v10, val_main_v9, val_main_v8, fn_main_v8, val_main_v0]

theorem normed_prompt (y : Fin 1024 → EReal) (hy : ∀ n, val_main_v10 x0 x2 x3 x8 (ix3 b s n) = y n) (n : Fin 1024) :
    val_main_v23 x0 x2 x3 x8 x9 (ix3 b s n) = MixRow.normed y (fun k => x9 (ix2 0 k)) n := by
  pointwise [val_main_v23, val_main_v22, val_main_v21, val_main_v20, val_main_v19, val_main_v18, val_main_v17, val_main_v16, val_main_v15,
    val_main_v14, val_main_v13, val_main_v12, val_main_v11, val_main_cst, val_main_cst_0, val_main_cst_1, val_main_v1]
  simp only [hy]
  rfl

theorem fed_prompt (y g : Fin 1024 → EReal) (hy : ∀ n, val_main_v10 x0 x2 x3 x8 (ix3 b s n) = y n)
    (hh : ∀ n, val_main_v23 x0 x2 x3 x8 x9 (ix3 b s n) = MixRow.normed y g n) (n : Fin 1024) :
    val_main_v28 x0 x2 x3 x8 x9 x10 x11 (ix3 b s n) = MixRow.fed y g (fun k m => x10 (ix3 0 k m)) (fun k m => x11 (ix3 0 k m)) n := by
  pointwise [val_main_v28, val_main_v27, val_main_v26, val_main_v25, val_main_v24, val_main_v2, val_main_v3, val_main_call0_v0, val_main_call0_cst]
  simp only [hy, hh]
  rfl

theorem gate_prompt (z : Fin 1024 → EReal) (hz : ∀ n, val_main_v28 x0 x2 x3 x8 x9 x10 x11 (ix3 b s n) = z n) (n : Fin 1024) :
    val_main_v48 x0 x2 x3 x8 x9 x10 x11 x12 x13 (ix3 b s n) = MixRow.gate z (fun k => x12 (ix2 0 k)) (fun k m => x13 (ix3 0 k m)) n := by
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_cst_2, val_main_cst_3, val_main_cst_4, val_main_cst_5, val_main_cst_6, val_main_v4, val_main_v5]
  simp only [hz]
  rfl

/-- One row of the prompt's result. -/
theorem out_prompt (n : Fin 1024) : val_main_v51 x0 x1 x2 x3 x8 x9 x10 x11 x12 x13 x14 (ix3 b s n)
    = MixRow.out (fun k => x0 (ix3 b s k)) (fun k => x1 (ix4 0 b s k)) (fun k => x2 (ix3 b s k)) (fun k => x3 (ix3 b s k))
        (fun k m => x8 (ix3 0 k m)) (fun k => x9 (ix2 0 k)) (fun k m => x10 (ix3 0 k m)) (fun k m => x11 (ix3 0 k m)) (fun k => x12 (ix2 0 k))
        (fun k m => x13 (ix3 0 k m)) (fun k m => x14 (ix3 0 k m)) n := by
  have ey := merged_prompt x0 x2 x3 x8 b s
  have ez := fed_prompt x0 x2 x3 x8 x9 x10 x11 b s _ _ ey (normed_prompt x0 x2 x3 x8 x9 b s _ ey)
  have eg := gate_prompt x0 x2 x3 x8 x9 x10 x11 x12 x13 b s _ ez
  pointwise [val_main_v51, val_main_v50, val_main_v49, val_main_v7, val_main_v6]
  simp only [ez, eg]
  rfl

end Prompt

section Sample

variable (x4 : (⟨S8x64x1024, .f32⟩ : BufTy).Contents (Elt Ideal)) (x5 : (⟨S1x8x64x256, .f32⟩ : BufTy).Contents (Elt Ideal))
  (x6 x7 : (⟨S8x64x512, .f32⟩ : BufTy).Contents (Elt Ideal)) (x8 : (⟨S1x1024x1024, .f32⟩ : BufTy).Contents (Elt Ideal))
  (x9 : (⟨S1x1024, .f32⟩ : BufTy).Contents (Elt Ideal)) (x10 : (⟨S1x1024x4096, .f32⟩ : BufTy).Contents (Elt Ideal))
  (x11 : (⟨S1x4096x1024, .f32⟩ : BufTy).Contents (Elt Ideal)) (x12 : (⟨S1x1024, .f32⟩ : BufTy).Contents (Elt Ideal))
  (x13 : (⟨S1x1024x1024, .f32⟩ : BufTy).Contents (Elt Ideal)) (x14 : (⟨S1x256x1024, .f32⟩ : BufTy).Contents (Elt Ideal))
  (b : Fin 8) (s : Fin 64)

theorem merged_sample (n : Fin 1024) : val_main_v55 x4 x6 x7 x8 (ix3 b s n)
    = MixRow.merged (fun k => x4 (ix3 b s k)) (fun k => x6 (ix3 b s k)) (fun k => x7 (ix3 b s k)) (fun k m => x8 (ix3 0 k m)) n := by
  rw [MixRow.merged_whole]
  pointwise [val_main_v55, val_main_v54, val_main_v53, fn_main_v53, val_main_v0]

theorem normed_sample (y : Fin 1024 → EReal) (hy : ∀ n, val_main_v55 x4 x6 x7 x8 (ix3 b s n) = y n) (n : Fin 1024) :
    val_main_v68 x4 x6 x7 x8 x9 (ix3 b s n) = MixRow.normed y (fun k => x9 (ix2 0 k)) n := by
  pointwise [val_main_v68, val_main_v67, val_main_v66, val_main_v65, val_main_v64, val_main_v63, val_main_v62, val_main_v61, val_main_v60,
    val_main_v59, val_main_v58, val_main_v57, val_main_v56, val_main_cst_7, val_main_cst_8, val_main_cst_9, val_main_v1]
  simp only [hy]
  rfl

theorem fed_sample (y g : Fin 1024 → EReal) (hy : ∀ n, val_main_v55 x4 x6 x7 x8 (ix3 b s n) = y n)
    (hh : ∀ n, val_main_v68 x4 x6 x7 x8 x9 (ix3 b s n) = MixRow.normed y g n) (n : Fin 1024) :
    val_main_v73 x4 x6 x7 x8 x9 x10 x11 (ix3 b s n) = MixRow.fed y g (fun k m => x10 (ix3 0 k m)) (fun k m => x11 (ix3 0 k m)) n := by
  pointwise [val_main_v73, val_main_v72, val_main_v71, val_main_v70, val_main_v69, val_main_v2, val_main_v3, val_main_call1_v0, val_main_call1_cst]
  simp only [hy, hh]
  rfl

theorem gate_sample (z : Fin 1024 → EReal) (hz : ∀ n, val_main_v73 x4 x6 x7 x8 x9 x10 x11 (ix3 b s n) = z n) (n : Fin 1024) :
    val_main_v93 x4 x6 x7 x8 x9 x10 x11 x12 x13 (ix3 b s n) = MixRow.gate z (fun k => x12 (ix2 0 k)) (fun k m => x13 (ix3 0 k m)) n := by
  pointwise [val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_cst_10, val_main_cst_11, val_main_cst_12, val_main_cst_13, val_main_cst_14, val_main_v4, val_main_v5]
  simp only [hz]
  rfl

/-- One row of the sample's result. -/
theorem out_sample (n : Fin 1024) : val_main_v96 x4 x5 x6 x7 x8 x9 x10 x11 x12 x13 x14 (ix3 b s n)
    = MixRow.out (fun k => x4 (ix3 b s k)) (fun k => x5 (ix4 0 b s k)) (fun k => x6 (ix3 b s k)) (fun k => x7 (ix3 b s k))
        (fun k m => x8 (ix3 0 k m)) (fun k => x9 (ix2 0 k)) (fun k m => x10 (ix3 0 k m)) (fun k m => x11 (ix3 0 k m)) (fun k => x12 (ix2 0 k))
        (fun k m => x13 (ix3 0 k m)) (fun k m => x14 (ix3 0 k m)) n := by
  have ey := merged_sample x4 x6 x7 x8 b s
  have ez := fed_sample x4 x6 x7 x8 x9 x10 x11 b s _ _ ey (normed_sample x4 x6 x7 x8 x9 b s _ ey)
  have eg := gate_sample x4 x6 x7 x8 x9 x10 x11 x12 x13 b s _ ez
  pointwise [val_main_v96, val_main_v95, val_main_v94, val_main_v52, val_main_v6]
  simp only [ez, eg]
  rfl

end Sample

end Cert.Reference2Ideal.Mix

end
-- ==== Proof.MixValue.lean ====
/- The mixing stage's two output arrays: index by index the row's mathematics of the arguments, which are the reference's two results. -/
module

public import proofs.«01_k».proof.Proof.MixHost
public import proofs.«01_k».proof.Proof.MixBlock
public import proofs.«01_k».proof.Proof.MixRef

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The prompt group's result, of the arguments: the reference's stage. -/
def promptOut : Buf (Elt Ideal) ((c : Thread nD τ).loc main_v24_0) :=
  Cert.Reference2Ideal.Read.val_main_v51 (F := Ideal) (m ((c : Thread nD τ).loc main_arg0)) (m ((c : Thread nD τ).loc main_arg1)) (m ((c : Thread nD τ).loc main_arg2))
    (m ((c : Thread nD τ).loc main_arg3)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))

/-- The sample group's, -/
def sampleOut : Buf (Elt Ideal) ((c : Thread nD τ).loc main_v24_1) :=
  Cert.Reference2Ideal.Read.val_main_v97 (F := Ideal) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))

theorem promptAt_apply (t : Fin cfg0.N) (b : Fin 8) (s : Fin 2048) (r : Fin 512) (hb : min t.val 31 / 4 = b.val) (hs : min t.val 31 % 4 * 512 + r.val = s.val)
    (n : Fin 1024) : promptAt m c t (ix3 0 r n) = promptOut m c (ix3 b s n) := by
  refine (mixBlk_apply (iblk m c 0 t) (iblk m c 1 t) (iblk m c 2 t) (iblk m c 3 t) (iblk m c 8 t) (iblk m c 9 t) (iblk m c 10 t) (iblk m c 11 t) (iblk m c 12 t)
    (iblk m c 13 t) (iblk m c 14 t) r n).trans (Eq.trans ?_ (Cert.Reference2Ideal.Mix.out_prompt _ _ _ _ _ _ _ _ _ _ _ b s n).symm)
  simp only [blk_0 m c t b s r hb hs, blk_1 m c t b s r hb hs, blk_2 m c t b s r hb hs, blk_3 m c t b s r hb hs, blk_8, blk_9, blk_10, blk_11, blk_12, blk_13, blk_14]

theorem sampleAt_apply (t : Fin cfg0.N) (r : Fin 512) (n : Fin 1024) : sampleAt m c t (ix3 0 r n) = sampleOut m c (ix3 0 r n) := by
  have hr := r.isLt
  obtain ⟨b, hb⟩ : ∃ b : Fin 8, b.val = r.val / 64 := ⟨⟨r.val / 64, by omega⟩, rfl⟩
  obtain ⟨s, hs⟩ : ∃ s : Fin 64, s.val = r.val % 64 := ⟨⟨r.val % 64, by omega⟩, rfl⟩
  have e : b.val * 64 + s.val = r.val := by omega
  refine (mixBlk_apply (iblk m c 4 t) (iblk m c 5 t) (iblk m c 6 t) (iblk m c 7 t) (iblk m c 8 t) (iblk m c 9 t) (iblk m c 10 t) (iblk m c 11 t) (iblk m c 12 t)
    (iblk m c 13 t) (iblk m c 14 t) r n).trans (Eq.trans ?_ ((sample_apply _ _ r b s e n).trans (Cert.Reference2Ideal.Mix.out_sample _ _ _ _ _ _ _ _ _ _ _ b s n)).symm)
  simp only [blk_4 m c t b s r e, blk_5 m c t b s r e, blk_6 m c t b s r e, blk_7 m c t b s r e, blk_8, blk_9, blk_10, blk_11, blk_12, blk_13, blk_14]

/-- What is written back of the first output is the result's block, -/
theorem flushed_15 (t : Fin cfg0.N) : (dats m 0 c).flushed 15 t = ((cfg0.win 15).blk t).view.read (Elt Ideal) (promptOut m c) := by
  show (cfg0.win 15).cut (grid0.coords t) ((dats m 0 c).after 15 t) = _
  rw [after_15]
  funext j
  obtain ⟨b, hb⟩ : ∃ b : Fin 8, min t.val 31 / 4 = b.val := ⟨⟨min t.val 31 / 4, by omega⟩, rfl⟩
  have h0 : (j 0).val < 1 := (j 0).isLt
  have h1 : (j 1).val < 512 := (j 1).isLt
  have h2 : (j 2).val < 1024 := (j 2).isLt
  obtain ⟨s, hs⟩ : ∃ s : Fin 2048, min t.val 31 % 4 * 512 + (j 1).val = s.val := ⟨⟨min t.val 31 % 4 * 512 + (j 1).val, by omega⟩, rfl⟩
  have ej : j = ix3 (n0 := 1) (n1 := 512) (n2 := 1024) 0 ⟨(j 1).val, h1⟩ ⟨(j 2).val, h2⟩ := by
    funext a
    match a with
    | ⟨0, _⟩ => exact Fin.ext (Nat.lt_one_iff.mp h0)
    | ⟨1, _⟩ => rfl
    | ⟨2, _⟩ => rfl
  rw [ej]
  have hu : min (upTo t).val 31 = min t.val 31 := by show min (min t.val 31) 31 = _; omega
  refine (promptAt_apply m c (upTo t) b s ⟨(j 1).val, h1⟩ (by rw [hu]; exact hb) (by rw [hu]; exact hs) ⟨(j 2).val, h2⟩).trans ?_
  exact congrArg (promptOut m c) (emb_15 t b s ⟨(j 1).val, h1⟩ hb hs ⟨(j 2).val, h2⟩).symm

/-- and of the second. -/
theorem flushed_16 (t : Fin cfg0.N) : (dats m 0 c).flushed 16 t = ((cfg0.win 16).blk t).view.read (Elt Ideal) (sampleOut m c) := by
  show (cfg0.win 16).cut (grid0.coords t) ((dats m 0 c).after 16 t) = _
  rw [after_16]
  funext j
  have h0 : (j 0).val < 1 := (j 0).isLt
  have h1 : (j 1).val < 512 := (j 1).isLt
  have h2 : (j 2).val < 1024 := (j 2).isLt
  have ej : j = ix3 (n0 := 1) (n1 := 512) (n2 := 1024) 0 ⟨(j 1).val, h1⟩ ⟨(j 2).val, h2⟩ := by
    funext a
    match a with
    | ⟨0, _⟩ => exact Fin.ext (Nat.lt_one_iff.mp h0)
    | ⟨1, _⟩ => rfl
    | ⟨2, _⟩ => rfl
  rw [ej]
  refine (sampleAt_apply m c t ⟨(j 1).val, h1⟩ ⟨(j 2).val, h2⟩).trans ?_
  exact congrArg (sampleOut m c) (emb_16 t _).symm

/-- Every row of the first output is written back: by its own point, or, for the last 512 rows, by the sample point. -/
theorem cover_15 (i : S8x2048x1024.Idx) : ∃ t : Fin cfg0.N, (cfg0.win 15).flush t = true ∧ i ∈ ((cfg0.win 15).blk t).view.set := by
  have h0 : (i 0).val < 8 := (i 0).isLt
  have h1 : (i 1).val < 2048 := (i 1).isLt
  have h2 : (i 2).val < 1024 := (i 2).isLt
  have hN : cfg0.N = 33 := N_0
  obtain ⟨t, ht, hf⟩ : ∃ t : Fin cfg0.N, min t.val 31 = (i 0).val * 4 + (i 1).val / 512 ∧ t.val ≠ 31 := by
    by_cases h : (i 0).val * 4 + (i 1).val / 512 = 31
    · exact ⟨⟨32, by omega⟩, by show min 32 31 = _; omega, by show (32 : Nat) ≠ 31; decide⟩
    · exact ⟨⟨(i 0).val * 4 + (i 1).val / 512, by omega⟩, by show min ((i 0).val * 4 + (i 1).val / 512) 31 = _; omega, h⟩
  refine ⟨t, by rw [flush15]; simp [hf], ?_⟩
  have e := emb_15 t (i 0) (i 1) ⟨(i 1).val % 512, by omega⟩ (by rw [ht]; omega) (by rw [ht]; show _ % 4 * 512 + (i 1).val % 512 = _; omega) (i 2)
  have ei : i = ix3 (n0 := 8) (n1 := 2048) (n2 := 1024) (i 0) (i 1) (i 2) := by
    funext a
    match a with
    | ⟨0, _⟩ => rfl
    | ⟨1, _⟩ => rfl
    | ⟨2, _⟩ => rfl
  rw [ei, ← e]
  exact View.emb_mem_set ((cfg0.win 15).blk t).view _

theorem cover_16 (i : S1x512x1024.Idx) : ∃ t : Fin cfg0.N, (cfg0.win 16).flush t = true ∧ i ∈ ((cfg0.win 16).blk t).view.set := by
  have hN : cfg0.N = 33 := N_0
  refine ⟨⟨32, by omega⟩, by rw [flush16]; simp, ?_⟩
  have e := emb_16 ⟨32, by omega⟩ i
  rw [← e]
  exact View.emb_mem_set ((cfg0.win 16).blk _).view _

theorem final_15 : (dats m 0 c).arrAt 15 cfg0.N = promptOut m c :=
  (dats m 0 c).arrAt_eq_of_cover 15 (promptOut m c) (fun t _ => flushed_15 m c t) cover_15

theorem final_16 : (dats m 0 c).arrAt 16 cfg0.N = sampleOut m c :=
  (dats m 0 c).arrAt_eq_of_cover 16 (sampleOut m c) (fun t _ => flushed_16 m c t) cover_16

end Cert.Kernel2Ideal.Mix

end
-- ==== Proof.MixClaim.lean ====
/- The mixing stage's claims: both programs' runs, and the equality of their results. -/
module

public import proofs.«01_k».proof.Defs
public import proofs.«01_k».proof.Proof.MixValue
public import proofs.«01_k».proof.Proof.Gen.Kernel2.Frame
public import proofs.«01_k».proof.Proof.Gen.Reference2Ideal.Run

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic Idealize.SL.Sem

section Kept

variable {F : FTy → Type} [FloatOps F]
variable (m : (ℓ : Loc nD τ sig) → Buf (Elt F) ℓ) (ρ : Dev nD → PrngReg)

/-- No argument is written: the first is an input's array, the others the pipeline does not touch. -/
theorem kept {r} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  have rest {b : Ref sig .tc} (hb : b ∈ Pipeline.restRefs sig (cfgs 0).spec) (e : V m c b = m ((c : Thread nD τ).loc b)) :
      r.2.mem ((c : Thread nD τ).loc b) = m ((c : Thread nD τ).loc b) := ((h c).2 b hb).trans e
  ⟨((h c).1 0).trans (((dats m 0 c).arrAt_in 0 rfl _).trans ((A_eq m c 0).trans (V_main_arg0 m c))),
   rest (Pipeline.mem_restRefs_of main_arg1 (by decide) (by decide)) (V_main_arg1 m c),
   rest (Pipeline.mem_restRefs_of main_arg2 (by decide) (by decide)) (V_main_arg2 m c),
   rest (Pipeline.mem_restRefs_of main_arg3 (by decide) (by decide)) (V_main_arg3 m c),
   rest (Pipeline.mem_restRefs_of main_arg4 (by decide) (by decide)) (V_main_arg4 m c),
   rest (Pipeline.mem_restRefs_of main_arg5 (by decide) (by decide)) (V_main_arg5 m c),
   rest (Pipeline.mem_restRefs_of main_arg6 (by decide) (by decide)) (V_main_arg6 m c),
   rest (Pipeline.mem_restRefs_of main_arg7 (by decide) (by decide)) (V_main_arg7 m c),
   rest (Pipeline.mem_restRefs_of main_arg8 (by decide) (by decide)) (V_main_arg8 m c),
   rest (Pipeline.mem_restRefs_of main_arg9 (by decide) (by decide)) (V_main_arg9 m c),
   rest (Pipeline.mem_restRefs_of main_arg10 (by decide) (by decide)) (V_main_arg10 m c),
   rest (Pipeline.mem_restRefs_of main_arg11 (by decide) (by decide)) (V_main_arg11 m c),
   rest (Pipeline.mem_restRefs_of main_arg12 (by decide) (by decide)) (V_main_arg12 m c),
   rest (Pipeline.mem_restRefs_of main_arg13 (by decide) (by decide)) (V_main_arg13 m c),
   rest (Pipeline.mem_restRefs_of main_arg14 (by decide) (by decide)) (V_main_arg14 m c)⟩

end Kept

variable [hK : Cert.Kernel2Ideal.Facts] [hR : Cert.Reference2Ideal.Facts]

theorem quiescent : Cert.quiescent_Kernel2Ideal := fun m ρ _ =>
  (θ_run defs _ _).mono (fun _ h => ⟨fun c => kept m h.1 c, h.2⟩) (run_quiescent m ρ)

theorem quiescent_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Both programs leave the reference's two stages of the arguments. -/
theorem algebraic : Cert.algebraic_Kernel2Ideal_Reference2Ideal := fun m ρ m' ρ' _ hm => by
  refine ⟨fun c => promptOut m c, fun c => sampleOut m c, ?_, ?_⟩
  · exact (θ_run defs _ _).mono (fun _ h c => ⟨((h c).1 15).trans (final_15 m c), ((h c).1 16).trans (final_16 m c), kept m h c⟩) (run_post m ρ)
  · refine (θ_run Cert.Reference2Ideal.defs _ _).mono (fun _ h c => ⟨(h c).1.trans ?_, (h c).2.1.trans ?_, (h c).2.2⟩)
      (Cert.Reference2Ideal.Value.run (F := Ideal) m' ρ')
    · obtain ⟨h0, h1, h2, h3, h4, h5, h6, h7, h8, h9, h10, h11, h12, h13, h14⟩ := hm c
      rw [Cert.Reference2Ideal.Read.val_main_v51_eq]
      unfold promptOut
      exact congr (congr (congr (congr (congr (congr (congr (congr (congr (congr (congrArg (Cert.Reference2Ideal.Read.val_main_v51 (F := Ideal)) h0) h1) h2) h3) h8) h9) h10) h11) h12) h13) h14
    · obtain ⟨h0, h1, h2, h3, h4, h5, h6, h7, h8, h9, h10, h11, h12, h13, h14⟩ := hm c
      rw [Cert.Reference2Ideal.Read.val_main_v97_eq]
      unfold sampleOut
      exact congr (congr (congr (congr (congr (congr (congr (congr (congr (congr (congrArg (Cert.Reference2Ideal.Read.val_main_v97 (F := Ideal)) h4) h5) h6) h7) h8) h9) h10) h11) h12) h13) h14

end Cert.Kernel2Ideal.Mix

end
-- ==== Proof.ProjRun.lean ====
/- What the input projection's one point leaves in its three 32-bit outputs. -/
module

public import proofs.«01_k».proof.Proof.Gen.Kernel3Ideal.Frame
public import Idealize.ShloMosaic.Lib.VecWindow

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

variable {F : FTy → Type} [FloatOps F]
variable (m : (ℓ : Loc nD τ sig) → Buf (Elt F) ℓ) (c : Dev nD) (t : Fin cfg0.N)

/-- The rows, the gain, the keys' gain and the weight's four blocks of columns as the point reads them. -/
abbrev xs : Vec F S1x512x1024 .f32 := View.ld (iblk m c 0 t) (Rect.unit (s := S1x512x1024) ![0, 0, 0] S1x512x1024.size inb_S1x512x1024_S1x512x1024_0_0_0)
abbrev gm : Vec F S1x1024 .f32 := View.ld (iblk m c 1 t) (Rect.unit (s := S1x1024) ![0, 0] S1x1024.size inb_S1x1024_S1x1024_0_0)
abbrev gks : Vec F S1x64 .f32 := View.ld (iblk m c 4 t) (Rect.unit (s := S1x64) ![0, 0] S1x64.size inb_S1x64_S1x64_0_0)
abbrev w0 : Vec F S1024x512 .bf16 := View.ld (iblk m c 2 t) (Rect.unit (s := S1024x2560) ![0, 0] S1024x512.size inb_S1024x2560_S1024x512_0_0)
abbrev w1 : Vec F S1024x512 .bf16 := View.ld (iblk m c 2 t) (Rect.unit (s := S1024x2560) ![0, 512] S1024x512.size inb_S1024x2560_S1024x512_0_512)
abbrev w3 : Vec F S1024x512 .bf16 := View.ld (iblk m c 2 t) (Rect.unit (s := S1024x2560) ![0, 1536] S1024x512.size inb_S1024x2560_S1024x512_0_1536)
abbrev w4 : Vec F S1024x512 .bf16 := View.ld (iblk m c 2 t) (Rect.unit (s := S1024x2560) ![0, 2048] S1024x512.size inb_S1024x2560_S1024x512_0_2048)

theorem out_u : (outsAt0 m c t).2.1 = k0_pay46 (k0_pay43 (xs m c t) (gm m c t)) (k0_pay44 (xs m c t) (gm m c t) (w0 m c t)) (w1 m c t) := by
  dsimp only [outsAt0]
  unfold out0_A_15
  refine (View.read_writes_full _ _ _ _ _).trans ?_
  sl_unfold_words
  simp only [View.readAt_eq_ld, (hs0_0 t).read_unread, (hs0_1 t).read_unread, (hs0_2 t).read_unread]
  rfl

theorem out_k : (outsAt0 m c t).2.2.2.1 = k0_pay1 (k0_pay114 (F := F)) (k0_pay118 (k0_pay43 (xs m c t) (gm m c t)) (w3 m c t)) (gks m c t) := by
  dsimp only [outsAt0]
  unfold out0_A_17
  refine (View.read_writes_full _ _ _ _ _).trans ?_
  sl_unfold_words
  simp only [View.readAt_eq_ld, (hs0_0 t).read_unread, (hs0_1 t).read_unread, (hs0_2 t).read_unread, (hs0_4 t).read_unread]
  rfl

theorem out_v : (outsAt0 m c t).2.2.2.2 = k0_pay2 (k0_pay43 (xs m c t) (gm m c t)) (w4 m c t) := by
  dsimp only [outsAt0]
  unfold out0_A_18
  refine (View.read_writes_full _ _ _ _ _).trans ?_
  sl_unfold_words
  simp only [View.readAt_eq_ld, (hs0_0 t).read_unread, (hs0_1 t).read_unread, (hs0_2 t).read_unread]
  rfl

end Cert.Kernel3Ideal.Proj

end
-- ==== Proof.ProjHost.lean ====
/- What the input projection's windows read: the arguments, through the host's reshapes and casts. -/
module

public import proofs.«01_k».proof.Proof.ProjRun
public import Idealize.ShloMosaic.Lib.Pointwise
public import Idealize.ShloMosaic.Lib.StableHlo.Run

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

section Host

variable {F : FTy → Type} [FloatOps F]
variable (m : (ℓ : Loc nD τ sig) → Buf (Elt F) ℓ) (c : Dev nD)

theorem V_main_v9 : V m c main_v9 = shapeCast S1x512x1024 (m ((c : Thread nD τ).loc main_arg0)) shapeCasts_S8x64x1024_S1x512x1024 := by
  simp only [V, hostOps0]; after_results_simp <;> rfl
theorem V_main_v11 : V m c main_v11 = shapeCast S1x1024 (shapeCast S1024 (m ((c : Thread nD τ).loc main_arg2)) shapeCasts_S1x1024_S1024) shapeCasts_S1024_S1x1024 := by
  simp only [V, hostOps0]; after_results_simp <;> rfl
theorem V_main_v13 : V m c main_v13 = truncf .bf16 (shapeCast S1024x2560 (m ((c : Thread nD τ).loc main_arg3)) shapeCasts_S1x1024x2560_S1024x2560) bitsLt_bf16_f32 := by
  simp only [V, hostOps0]; after_results_simp <;> rfl
theorem V_main_v17 : V m c main_v17 = shapeCast S1x64 (shapeCast S64 (m ((c : Thread nD τ).loc main_arg9)) shapeCasts_S1x64_S64) shapeCasts_S64_S1x64 := by
  simp only [V, hostOps0]; after_results_simp <;> rfl

end Host

theorem weight_apply (x : FVec Ideal S1x1024x2560 .f32) (k : Fin 1024) (j : Fin 2560) :
    truncf .bf16 (shapeCast S1024x2560 x shapeCasts_S1x1024x2560_S1024x2560) bitsLt_bf16_f32 (ix2 k j) = x (ix3 0 k j) := by
  pointwise

theorem gain_apply (x : FVec Ideal S1x1024 .f32) (k : Fin 1024) :
    shapeCast S1x1024 (shapeCast S1024 x shapeCasts_S1x1024_S1024) shapeCasts_S1024_S1x1024 (ix2 0 k) = x (ix2 0 k) := by
  pointwise

theorem head_gain_apply (x : FVec Ideal S1x64 .f32) (k : Fin 64) :
    shapeCast S1x64 (shapeCast S64 x shapeCasts_S1x64_S64) shapeCasts_S64_S1x64 (ix2 0 k) = x (ix2 0 k) := by
  pointwise

/-- Row `r` of the merged rows is row `s` of batch entry `b`. -/
theorem sample_apply {N : Nat} (x : FVec Ideal ⟨3, ![8, 64, N]⟩ .f32) (h : (⟨3, ![8, 64, N]⟩ : Shape).ShapeCasts ⟨3, ![1, 512, N]⟩)
    (r : Fin 512) (b : Fin 8) (s : Fin 64) (e : b.val * 64 + s.val = r.val) (k : Fin N) :
    shapeCast (⟨3, ![1, 512, N]⟩ : Shape) x h (ix3 0 r k) = x (ix3 b s k) :=
  shapeCast_apply x h (ix3 0 r k) (ix3 b s k) (by
    rw [Shape.rowMajor_val_three, Shape.rowMajor_val_three]
    show (b.val * 64 + s.val) * N + k.val = (0 * 512 + r.val) * N + k.val
    rw [e, Nat.zero_mul, Nat.zero_add])

variable (m : (ℓ : Loc nD τ sig) → Buf (Elt Ideal) ℓ) (c : Dev nD) (t : Fin cfg0.N)

theorem blk_0 (r : Fin 512) (b : Fin 8) (s : Fin 64) (e : b.val * 64 + s.val = r.val) (k : Fin 1024) :
    iblk m c 0 t (ix3 0 r k) = m ((c : Thread nD τ).loc main_arg0) (ix3 b s k) :=
  (congrArg (V m c main_v9) (funext fun a => Fin.ext (Pipeline.Window.rect_emb_val_of_index_zero win0_0 t a
    ((by decide +kernel : ∀ (t : Fin grid0.N) (a : Fin 3), win0_0.index t a = 0) t a) (ix3 0 r k)))).trans
    ((congrFun (V_main_v9 m c) _).trans (sample_apply _ _ r b s e k))
theorem blk_1 (k : Fin 1024) : iblk m c 1 t (ix2 0 k) = m ((c : Thread nD τ).loc main_arg2) (ix2 0 k) :=
  (congrArg (V m c main_v11) (funext fun a => Fin.ext (Pipeline.Window.rect_emb_val_of_index_zero win0_1 t a (by fin_cases a <;> rfl) (ix2 0 k)))).trans
    ((congrFun (V_main_v11 m c) _).trans (gain_apply _ k))
theorem blk_2 (k : Fin 1024) (j : Fin 2560) : iblk m c 2 t (ix2 k j) = m ((c : Thread nD τ).loc main_arg3) (ix3 0 k j) :=
  (congrArg (V m c main_v13) (funext fun a => Fin.ext (Pipeline.Window.rect_emb_val_of_index_zero win0_2 t a (by fin_cases a <;> rfl) (ix2 k j)))).trans
    ((congrFun (V_main_v13 m c) _).trans (weight_apply _ k j))
theorem blk_4 (k : Fin 64) : iblk m c 4 t (ix2 0 k) = m ((c : Thread nD τ).loc main_arg9) (ix2 0 k) :=
  (congrArg (V m c main_v17) (funext fun a => Fin.ext (Pipeline.Window.rect_emb_val_of_index_zero win0_4 t a (by fin_cases a <;> rfl) (ix2 0 k)))).trans
    ((congrFun (V_main_v17 m c) _).trans (head_gain_apply _ k))

theorem xs_apply (r : Fin 512) (b : Fin 8) (s : Fin 64) (e : b.val * 64 + s.val = r.val) (k : Fin 1024) :
    xs m c t (ix3 0 r k) = m ((c : Thread nD τ).loc main_arg0) (ix3 b s k) :=
  Eq.trans ((fun x => by pointwise : ∀ x : Vec Ideal S1x512x1024 .f32,
    View.ld x (Rect.unit (s := S1x512x1024) ![0, 0, 0] S1x512x1024.size inb_S1x512x1024_S1x512x1024_0_0_0) (ix3 0 r k) = x (ix3 0 r k)) _) (blk_0 m c t r b s e k)
theorem gm_apply (k : Fin 1024) : gm m c t (ix2 0 k) = m ((c : Thread nD τ).loc main_arg2) (ix2 0 k) :=
  Eq.trans ((fun x => by pointwise : ∀ x : Vec Ideal S1x1024 .f32,
    View.ld x (Rect.unit (s := S1x1024) ![0, 0] S1x1024.size inb_S1x1024_S1x1024_0_0) (ix2 0 k) = x (ix2 0 k)) _) (blk_1 m c t k)
theorem gks_apply (k : Fin 64) : gks m c t (ix2 0 k) = m ((c : Thread nD τ).loc main_arg9) (ix2 0 k) :=
  Eq.trans ((fun x => by pointwise : ∀ x : Vec Ideal S1x64 .f32,
    View.ld x (Rect.unit (s := S1x64) ![0, 0] S1x64.size inb_S1x64_S1x64_0_0) (ix2 0 k) = x (ix2 0 k)) _) (blk_4 m c t k)
theorem w0_apply (k : Fin 1024) (n : Fin 512) : w0 m c t (ix2 k n) = m ((c : Thread nD τ).loc main_arg3) (ix3 0 k ⟨n.val, by omega⟩) :=
  Eq.trans ((fun x => by pointwise : ∀ x : Vec Ideal S1024x2560 .bf16,
    View.ld x (Rect.unit (s := S1024x2560) ![0, 0] S1024x512.size inb_S1024x2560_S1024x512_0_0) (ix2 k n) = x (ix2 k ⟨n.val, by omega⟩)) _) (blk_2 m c t k _)
theorem w1_apply (k : Fin 1024) (n : Fin 512) : w1 m c t (ix2 k n) = m ((c : Thread nD τ).loc main_arg3) (ix3 0 k ⟨512 + n.val, by omega⟩) :=
  Eq.trans ((fun x => by pointwise : ∀ x : Vec Ideal S1024x2560 .bf16,
    View.ld x (Rect.unit (s := S1024x2560) ![0, 512] S1024x512.size inb_S1024x2560_S1024x512_0_512) (ix2 k n) = x (ix2 k ⟨512 + n.val, by omega⟩)) _) (blk_2 m c t k _)
theorem w3_apply (k : Fin 1024) (n : Fin 512) : w3 m c t (ix2 k n) = m ((c : Thread nD τ).loc main_arg3) (ix3 0 k ⟨1536 + n.val, by omega⟩) :=
  Eq.trans ((fun x => by pointwise : ∀ x : Vec Ideal S1024x2560 .bf16,
    View.ld x (Rect.unit (s := S1024x2560) ![0, 1536] S1024x512.size inb_S1024x2560_S1024x512_0_1536) (ix2 k n) = x (ix2 k ⟨1536 + n.val, by omega⟩)) _) (blk_2 m c t k _)
theorem w4_apply (k : Fin 1024) (n : Fin 512) : w4 m c t (ix2 k n) = m ((c : Thread nD τ).loc main_arg3) (ix3 0 k ⟨2048 + n.val, by omega⟩) :=
  Eq.trans ((fun x => by pointwise : ∀ x : Vec Ideal S1024x2560 .bf16,
    View.ld x (Rect.unit (s := S1024x2560) ![0, 2048] S1024x512.size inb_S1024x2560_S1024x512_0_2048) (ix2 k n) = x (ix2 k ⟨2048 + n.val, by omega⟩)) _) (blk_2 m c t k _)

end Cert.Kernel3Ideal.Proj

end
-- ==== Proof.ProjRow.lean ====
/- One row of the input projection over the extended reals: the gated convolution inputs, the normed keys and the values. -/
module

public import proofs.«01_k».proof.Proof.MixRow

@[expose] public section

noncomputable section

namespace ProjRow

open Idealize.ShloMosaic

/-- One column of the projected row. -/
def proj (h : Fin 1024 → EReal) (W : Fin 1024 → Fin 2560 → EReal) (j : Fin 2560) : EReal := ∑ k, h k * W k j

/-- The gated linear unit: the first 512 columns times the logistic of the next 512. -/
def gated (h : Fin 1024 → EReal) (W : Fin 1024 → Fin 2560 → EReal) (j : Fin 512) : EReal :=
  proj h W ⟨j.val, by omega⟩ * Ideal.logistic (proj h W ⟨512 + j.val, by omega⟩)

/-- The root-mean-square normalisation of one head's 64 lanes, times the gain. -/
def headNorm (z g : Fin 64 → EReal) (d : Fin 64) : EReal :=
  z d * Ideal.rsqrt (Ideal.div (∑ e, z e * z e) (Ideal.ofBits .f32 0x42800000#32) + Ideal.ofBits .f32 0x358637BD#32) * g d

theorem ofBits_64 : Ideal.ofBits .f32 0x42800000#32 = ((64 : ℝ) : EReal) := by
  simp [Ideal.ofBits, Ideal.ieee]; rw [← EReal.coe_mul]; norm_num

theorem ofBits_64th : Ideal.ofBits .f32 0x3C800000#32 = (((1 / 64 : ℝ)) : EReal) := by
  simp [Ideal.ofBits, Ideal.ieee]; rw [← EReal.coe_mul]; norm_num

theorem sum_mul_const {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top _)]

/-- The product with one column of the block diagonal averaging matrix is the mean over that column's block of 64 lanes. -/
theorem block_mean (f : Fin 256 → EReal) (b : Fin 4) (j : Fin 256) (hj : j.val / 64 = b.val) :
    ∑ i : Fin 256, f i * (if i.val / 64 = j.val / 64 then Ideal.ofBits .f32 0x3C800000#32 else 0)
      = Ideal.div (∑ d : Fin 64, f ⟨b.val * 64 + d.val, by omega⟩) (Ideal.ofBits .f32 0x42800000#32) := by
  rw [ofBits_64, Ideal.div_coe (by norm_num), ofBits_64th, ← Equiv.sum_comp (finProdFinEquiv (m := 4) (n := 64)), Fintype.sum_prod_type,
    Finset.sum_eq_single b]
  · have h : ∀ d : Fin 64, f (finProdFinEquiv (b, d)) * (if (finProdFinEquiv (b, d) : Fin (4 * 64)).val / 64 = j.val / 64 then (((1 / 64 : ℝ)) : EReal) else 0)
        = f ⟨b.val * 64 + d.val, by omega⟩ * (((1 / 64 : ℝ)) : EReal) := fun d => by
      have e : (finProdFinEquiv (b, d) : Fin (4 * 64)) = ⟨b.val * 64 + d.val, by omega⟩ := Fin.ext (by simp [finProdFinEquiv]; omega)
      rw [e, if_pos (by show (b.val * 64 + d.val) / 64 = _; omega)]
    rw [Finset.sum_congr rfl fun d _ => h d, sum_mul_const _ _ _ (by norm_num)]
  · intro a _ ha
    refine Finset.sum_eq_zero fun d _ => ?_
    have e : (finProdFinEquiv (a, d) : Fin (4 * 64)).val / 64 = a.val := by simp [finProdFinEquiv]; omega
    rw [if_neg (by rw [e, hj]; exact fun h => ha (Fin.ext h)), mul_zero]
  · exact fun h => absurd (Finset.mem_univ _) h

end ProjRow

end
-- ==== Proof.ProjBlock.lean ====
/- What the input projection's one point computes, at an index. -/
module

public import proofs.«01_k».proof.Proof.Gen.Kernel3Ideal.Skeleton
public import proofs.«01_k».proof.Proof.ProjRow

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

variable (x : Vec Ideal S1x512x1024 .f32) (g : Vec Ideal S1x1024 .f32) (w : Vec Ideal S1024x2560 .bf16) (gk : Vec Ideal S1x64 .f32)

theorem pay43_apply (r : Fin 512) (n : Fin 1024) : k0_pay43 x g (ix2 r n) = MixRow.normed (fun k => x (ix3 0 r k)) (fun k => g (ix2 0 k)) n := by
  pointwise [k0_pay43]
  rfl

theorem pay46_apply (H : FVec Ideal S512x1024 .bf16) (A : FVec Ideal S512x512 .f32) (a1 : Vec Ideal S1024x512 .bf16) (r : Fin 512) (n : Fin 512) :
    k0_pay46 H A a1 (ix3 0 r n) = A (ix2 r n) * Ideal.logistic (∑ k, H (ix2 r k) * a1 (ix2 k n)) := by
  pointwise [k0_pay46, k0_pay45]

theorem pay44_apply (a0 : Vec Ideal S1024x512 .bf16) (r : Fin 512) (n : Fin 512) :
    k0_pay44 x g a0 (ix2 r n) = ∑ k, k0_pay43 x g (ix2 r k) * a0 (ix2 k n) := by
  pointwise [k0_pay44]

theorem pay118_apply (H : FVec Ideal S512x1024 .bf16) (a : Vec Ideal S1024x512 .bf16) (r : Fin 512) (n : Fin 512) :
    k0_pay118 H a (ix2 r n) = ∑ k, H (ix2 r k) * a (ix2 k n) := by
  pointwise [k0_pay118]

theorem pay2_apply (H : FVec Ideal S512x1024 .bf16) (a : Vec Ideal S1024x512 .bf16) (r : Fin 512) (n : Fin 512) :
    k0_pay2 H a (ix3 0 r n) = ∑ k, H (ix2 r k) * a (ix2 k n) := by
  pointwise [k0_pay2]

theorem shr_six : ∀ i : Fin 256, IntOp.shrui ArithUnit.vector (BitVec.ofNat 32 i.val) 6#32 = BitVec.ofNat 32 (i.val / 64) := by decide +kernel

theorem same_block : ∀ a b : Fin 4, IntOp.cmpi CmpIPredicate.eq (BitVec.ofNat 32 a.val) (BitVec.ofNat 32 b.val) = if a.val = b.val then 1#1 else 0#1 := by
  decide +kernel

/-- The averaging matrix: a 64th where row and column lie in the same block of 64. -/
theorem pay114_apply (i j : Fin 256) : (k0_pay114 (F := Ideal)) (ix2 i j) = if i.val / 64 = j.val / 64 then Ideal.ofBits .f32 0x3C800000#32 else 0 := by
  pointwise [k0_pay114]
  rw [shr_six, shr_six, same_block ⟨i.val / 64, by omega⟩ ⟨j.val / 64, by omega⟩]
  by_cases h : i.val / 64 = j.val / 64
  · rw [if_pos h, if_pos h]; rfl
  · rw [if_neg h, if_neg h]; rfl

/-- The normed keys: lane `d` of head `a` of a row. -/
theorem pay1_apply (Z : FVec Ideal S512x512 .f32) (r : Fin 512) (a : Fin 8) (d : Fin 64) :
    k0_pay1 (k0_pay114 (F := Ideal)) Z gk (ix3 0 r ⟨a.val * 64 + d.val, by omega⟩)
      = ProjRow.headNorm (fun e => Z (ix2 r ⟨a.val * 64 + e.val, by omega⟩)) (fun e => gk (ix2 0 e)) d := by
  pointwise [k0_pay1]
  simp only [pay114_apply]
  unfold ProjRow.headNorm
  congr 1
  · congr 3
    by_cases h : a.val * 64 + d.val < 256
    · rw [dif_pos h]
      exact ProjRow.block_mean (fun i => Z (ix2 r ⟨i.val, by omega⟩) * Z (ix2 r ⟨i.val, by omega⟩)) ⟨a.val, by omega⟩ ⟨a.val * 64 + d.val, h⟩ (by
        show (a.val * 64 + d.val) / 64 = a.val; omega)
    · rw [dif_neg h]
      refine (ProjRow.block_mean (fun i => Z (ix2 r ⟨256 + i.val, by omega⟩) * Z (ix2 r ⟨256 + i.val, by omega⟩)) ⟨a.val - 4, by omega⟩
        ⟨a.val * 64 + d.val - 256, by omega⟩ (by show (a.val * 64 + d.val - 256) / 64 = a.val - 4; omega)).trans ?_
      congr 1
      refine Finset.sum_congr rfl fun e _ => ?_
      have ee : (⟨256 + ((a.val - 4) * 64 + e.val), by omega⟩ : Fin 512) = ⟨a.val * 64 + e.val, by omega⟩ := Fin.ext (by show 256 + ((a.val - 4) * 64 + e.val) = a.val * 64 + e.val; omega)
      show Z (ix2 r ⟨256 + ((a.val - 4) * 64 + e.val), _⟩) * Z (ix2 r ⟨256 + ((a.val - 4) * 64 + e.val), _⟩) = _
      rw [ee]
  · split_ifs <;> exact congrArg (fun k => gk (ix2 0 k)) (Fin.ext (by dsimp only; omega))

end Cert.Kernel3Ideal.Proj

end
-- ==== Proof.ProjRef.lean ====
/- The input projection's reference at an index: the row's mathematics of that row. -/
module

public import proofs.«01_k».proof.Proof.Gen.Reference3Ideal.Read
public import proofs.«01_k».proof.Proof.ProjRow

@[expose] public section

set_option maxRecDepth 16384

noncomputable section

namespace Cert.Reference3Ideal.Proj

open Cert.Reference3Ideal Cert.Reference3Ideal.Gen Cert.Reference3Ideal.Read Cert.Reference3Ideal.Value
open Idealize.ShloMosaic Idealize.ShloMosaic.TcCoe Idealize.ShloMosaic.Tactic

variable (x0 : (⟨S8x64x1024, .f32⟩ : BufTy).Contents (Elt Ideal)) (x2 : (⟨S1x1024, .f32⟩ : BufTy).Contents (Elt Ideal))
  (x3 : (⟨S1x1024x2560, .f32⟩ : BufTy).Contents (Elt Ideal)) (x9 : (⟨S1x64, .f32⟩ : BufTy).Contents (Elt Ideal)) (b : Fin 8) (s : Fin 64)

/-- The normed row. -/
abbrev row : Fin 1024 → EReal := MixRow.normed (fun k => x0 (ix3 b s k)) (fun k => x2 (ix2 0 k))

/-- The projection's weights. -/
abbrev wts : Fin 1024 → Fin 2560 → EReal := fun k j => x3 (ix3 0 k j)

theorem row_apply (n : Fin 1024) : val_main_v16 x0 x2 (ix3 b s n) = row x0 x2 b s n := by
  pointwise [val_main_v16, val_main_v15, val_main_v14, val_main_v13, val_main_v12, val_main_v11, val_main_v10, val_main_v9, val_main_v8, val_main_v7,
    val_main_v6, val_main_v5, val_main_v4, val_main_v0, val_main_cst, val_main_cst_0, val_main_cst_1]
  rfl

theorem proj_apply (j : Fin 2560) : val_main_v17 x0 x2 x3 (ix3 b s j) = ProjRow.proj (row x0 x2 b s) (wts x3) j := by
  have h := row_apply x0 x2 b s
  pointwise [val_main_v17, val_main_v1]
  simp only [h]
  rfl

theorem gated_apply (j : Fin 512) : val_main_v26 x0 x2 x3 (ix3 b s j) = ProjRow.gated (row x0 x2 b s) (wts x3) j := by
  have h := proj_apply x0 x2 x3 b s
  pointwise [val_main_v26, val_main_v25, val_main_v24, val_main_v23, val_main_v22, val_main_v21, val_main_v20, val_main_v19, val_main_v18,
    val_main_cst_2, val_main_cst_3]
  simp only [h]
  rfl

theorem value_apply (a : Fin 8) (d : Fin 64) : val_main_v30 x0 x2 x3 (ix4 b s a d)
    = ProjRow.proj (row x0 x2 b s) (wts x3) ⟨2048 + (a.val * 64 + d.val), by omega⟩ := by
  have h := proj_apply x0 x2 x3 b s
  pointwise [val_main_v30, val_main_v29]
  simp only [h]

theorem key_apply (a : Fin 8) (d : Fin 64) : val_main_v28 x0 x2 x3 (ix4 b s a d)
    = ProjRow.proj (row x0 x2 b s) (wts x3) ⟨1536 + (a.val * 64 + d.val), by omega⟩ := by
  have h := proj_apply x0 x2 x3 b s
  pointwise [val_main_v28, val_main_v27]
  simp only [h]

theorem normed_apply (a : Fin 8) (d : Fin 64) : val_main_v43 x0 x2 x3 x9 (ix4 b s a d)
    = ProjRow.headNorm (fun e => ProjRow.proj (row x0 x2 b s) (wts x3) ⟨1536 + (a.val * 64 + e.val), by omega⟩) (fun e => x9 (ix2 0 e)) d := by
  have h := key_apply x0 x2 x3 b s
  pointwise [val_main_v43, val_main_v42, val_main_v41, val_main_v40, val_main_v39, val_main_v38, val_main_v37, val_main_v36, val_main_v35, val_main_v34,
    val_main_v33, val_main_v32, val_main_v31, val_main_v3, val_main_cst_4, val_main_cst_5, val_main_cst_6]
  simp only [h]
  rfl

/-! ## The results, in the flat shape -/

theorem flat_gated (n : Fin 512) : val_main_v44 x0 x2 x3 (ix3 0 ⟨b.val * 64 + s.val, by omega⟩ n) = ProjRow.gated (row x0 x2 b s) (wts x3) n := by
  rw [← gated_apply]
  pointwise [val_main_v44]

theorem flat_key (a : Fin 8) (d : Fin 64) :
    val_main_v45 x0 x2 x3 x9 (ix3 0 ⟨b.val * 64 + s.val, by omega⟩ ⟨a.val * 64 + d.val, by omega⟩)
      = ProjRow.headNorm (fun e => ProjRow.proj (row x0 x2 b s) (wts x3) ⟨1536 + (a.val * 64 + e.val), by omega⟩) (fun e => x9 (ix2 0 e)) d := by
  rw [← normed_apply]
  pointwise [val_main_v45]

theorem flat_value (a : Fin 8) (d : Fin 64) :
    val_main_v46 x0 x2 x3 (ix3 0 ⟨b.val * 64 + s.val, by omega⟩ ⟨a.val * 64 + d.val, by omega⟩)
      = ProjRow.proj (row x0 x2 b s) (wts x3) ⟨2048 + (a.val * 64 + d.val), by omega⟩ := by
  rw [← value_apply]
  pointwise [val_main_v46]

end Cert.Reference3Ideal.Proj

end
-- ==== Proof.ProjValue.lean ====
/- The input projection's three 32-bit output arrays: the reference's results of the arguments. -/
module

public import proofs.«01_k».proof.Proof.ProjHost
public import proofs.«01_k».proof.Proof.ProjBlock
public import proofs.«01_k».proof.Proof.ProjRef
public import proofs.«01_k».proof.Proof.Gen.Kernel3Ideal.Value

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The gated convolution inputs, of the arguments, -/
def gatedOut : Buf (Elt Ideal) ((c : Thread nD τ).loc main_v19_1) :=
  Cert.Reference3Ideal.Read.val_main_v44 (F := Ideal) (m ((c : Thread nD τ).loc main_arg0)) (m ((c : Thread nD τ).loc main_arg2)) (m ((c : Thread nD τ).loc main_arg3))

/-- the normed keys -/
def keyOut : Buf (Elt Ideal) ((c : Thread nD τ).loc main_v19_3) :=
  Cert.Reference3Ideal.Read.val_main_v45 (F := Ideal) (m ((c : Thread nD τ).loc main_arg0)) (m ((c : Thread nD τ).loc main_arg2)) (m ((c : Thread nD τ).loc main_arg3))
    (m ((c : Thread nD τ).loc main_arg9))

/-- and the values. -/
def valueOut : Buf (Elt Ideal) ((c : Thread nD τ).loc main_v19_4) :=
  Cert.Reference3Ideal.Read.val_main_v46 (F := Ideal) (m ((c : Thread nD τ).loc main_arg0)) (m ((c : Thread nD τ).loc main_arg2)) (m ((c : Thread nD τ).loc main_arg3))

variable (t : Fin cfg0.N)

/-- The reference's row of the arguments. -/
abbrev argRow (b : Fin 8) (s : Fin 64) : Fin 1024 → EReal :=
  Cert.Reference3Ideal.Proj.row (m ((c : Thread nD τ).loc main_arg0)) (m ((c : Thread nD τ).loc main_arg2)) b s

theorem row_apply (b : Fin 8) (s : Fin 64) (k : Fin 1024) :
    k0_pay43 (xs m c t) (gm m c t) (ix2 ⟨b.val * 64 + s.val, by omega⟩ k) = argRow m c b s k := by
  refine (pay43_apply _ _ _ k).trans ?_
  simp only [xs_apply m c t ⟨b.val * 64 + s.val, by omega⟩ b s rfl, gm_apply]

theorem u_apply (b : Fin 8) (s : Fin 64) (n : Fin 512) :
    (outsAt0 m c t).2.1 (ix3 0 ⟨b.val * 64 + s.val, by omega⟩ n) = gatedOut m c (ix3 0 ⟨b.val * 64 + s.val, by omega⟩ n) := by
  refine (congrFun (out_u m c t) _).trans (Eq.trans ?_ (Cert.Reference3Ideal.Proj.flat_gated _ _ _ b s n).symm)
  refine (pay46_apply _ _ _ _ n).trans ?_
  rw [pay44_apply]
  simp only [row_apply, w0_apply, w1_apply]
  rfl

theorem k_apply (b : Fin 8) (s : Fin 64) (a : Fin 8) (d : Fin 64) :
    (outsAt0 m c t).2.2.2.1 (ix3 0 ⟨b.val * 64 + s.val, by omega⟩ ⟨a.val * 64 + d.val, by omega⟩)
      = keyOut m c (ix3 0 ⟨b.val * 64 + s.val, by omega⟩ ⟨a.val * 64 + d.val, by omega⟩) := by
  refine (congrFun (out_k m c t) _).trans (Eq.trans ?_ (Cert.Reference3Ideal.Proj.flat_key _ _ _ _ b s a d).symm)
  refine (pay1_apply _ _ _ a d).trans ?_
  simp only [pay118_apply, row_apply, w3_apply, gks_apply]
  rfl

theorem v_apply (b : Fin 8) (s : Fin 64) (a : Fin 8) (d : Fin 64) :
    (outsAt0 m c t).2.2.2.2 (ix3 0 ⟨b.val * 64 + s.val, by omega⟩ ⟨a.val * 64 + d.val, by omega⟩)
      = valueOut m c (ix3 0 ⟨b.val * 64 + s.val, by omega⟩ ⟨a.val * 64 + d.val, by omega⟩) := by
  refine (congrFun (out_v m c t) _).trans (Eq.trans ?_ (Cert.Reference3Ideal.Proj.flat_value _ _ _ b s a d).symm)
  refine (pay2_apply _ _ _ _).trans ?_
  simp only [row_apply, w4_apply]
  rfl

/-- An index of a flat result, by its row's entry and step and its lane's head. -/
theorem flat_cases (j : S1x512x512.Idx) : ∃ (b : Fin 8) (s : Fin 64) (a : Fin 8) (d : Fin 64),
    j = ix3 0 ⟨b.val * 64 + s.val, by omega⟩ ⟨a.val * 64 + d.val, by omega⟩ := by
  have h0 : (j 0).val < 1 := (j 0).isLt
  have h1 : (j 1).val < 512 := (j 1).isLt
  have h2 : (j 2).val < 512 := (j 2).isLt
  refine ⟨⟨(j 1).val / 64, by omega⟩, ⟨(j 1).val % 64, by omega⟩, ⟨(j 2).val / 64, by omega⟩, ⟨(j 2).val % 64, by omega⟩, ?_⟩
  funext a
  match a with
  | ⟨0, _⟩ => exact Fin.ext (Nat.lt_one_iff.mp h0)
  | ⟨1, _⟩ => exact Fin.ext (by show (j 1).val = (j 1).val / 64 * 64 + (j 1).val % 64; omega)
  | ⟨2, _⟩ => exact Fin.ext (by show (j 2).val = (j 2).val / 64 * 64 + (j 2).val % 64; omega)

theorem emb_15 (j : S1x512x512.Idx) : (win0_15.rect t).emb j = j :=
  funext fun a => Fin.ext (Pipeline.Window.rect_emb_val_of_index_zero win0_15 t a
    ((by decide +kernel : ∀ (t : Fin grid0.N) (a : Fin 3), win0_15.index t a = 0) t a) j)
theorem emb_17 (j : S1x512x512.Idx) : (win0_17.rect t).emb j = j :=
  funext fun a => Fin.ext (Pipeline.Window.rect_emb_val_of_index_zero win0_17 t a
    ((by decide +kernel : ∀ (t : Fin grid0.N) (a : Fin 3), win0_17.index t a = 0) t a) j)
theorem emb_18 (j : S1x512x512.Idx) : (win0_18.rect t).emb j = j :=
  funext fun a => Fin.ext (Pipeline.Window.rect_emb_val_of_index_zero win0_18 t a
    ((by decide +kernel : ∀ (t : Fin grid0.N) (a : Fin 3), win0_18.index t a = 0) t a) j)

theorem final_u : (dats m 0 c).arrAt 15 cfg0.N = gatedOut m c := by
  refine (dats m 0 c).arrAt_eq_of_cover 15 (gatedOut m c) (fun t _ => ?_) (fun i => ?_)
  · rw [Value.flushed15]
    funext j
    obtain ⟨b, s, a, d, rfl⟩ := flat_cases j
    exact (u_apply m c t b s _).trans (congrArg (gatedOut m c) (emb_15 t _).symm)
  · refine ⟨⟨0, by decide⟩, (by decide +kernel : ∀ t : Fin grid0.N, (cfg0.win 15).flush t = true) _, ?_⟩
    rw [← emb_15 ⟨0, by decide⟩ i]
    exact View.emb_mem_set ((cfg0.win 15).blk _).view _

theorem final_k : (dats m 0 c).arrAt 17 cfg0.N = keyOut m c := by
  refine (dats m 0 c).arrAt_eq_of_cover 17 (keyOut m c) (fun t _ => ?_) (fun i => ?_)
  · rw [Value.flushed17]
    funext j
    obtain ⟨b, s, a, d, rfl⟩ := flat_cases j
    exact (k_apply m c t b s a d).trans (congrArg (keyOut m c) (emb_17 t _).symm)
  · refine ⟨⟨0, by decide⟩, (by decide +kernel : ∀ t : Fin grid0.N, (cfg0.win 17).flush t = true) _, ?_⟩
    rw [← emb_17 ⟨0, by decide⟩ i]
    exact View.emb_mem_set ((cfg0.win 17).blk _).view _

theorem final_v : (dats m 0 c).arrAt 18 cfg0.N = valueOut m c := by
  refine (dats m 0 c).arrAt_eq_of_cover 18 (valueOut m c) (fun t _ => ?_) (fun i => ?_)
  · rw [Value.flushed18]
    funext j
    obtain ⟨b, s, a, d, rfl⟩ := flat_cases j
    exact (v_apply m c t b s a d).trans (congrArg (valueOut m c) (emb_18 t _).symm)
  · refine ⟨⟨0, by decide⟩, (by decide +kernel : ∀ t : Fin grid0.N, (cfg0.win 18).flush t = true) _, ?_⟩
    rw [← emb_18 ⟨0, by decide⟩ i]
    exact View.emb_mem_set ((cfg0.win 18).blk _).view _

end Cert.Kernel3Ideal.Proj

end
-- ==== Proof.ProjClaim.lean ====
/- The input projection's claims: both programs' runs, and the equality of their results. -/
module

public import proofs.«01_k».proof.Defs
public import proofs.«01_k».proof.Proof.ProjValue
public import proofs.«01_k».proof.Proof.Gen.Reference3Ideal.Run

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic Idealize.SL.Sem

variable [hK : Cert.Kernel3Ideal.Facts] [hR : Cert.Reference3Ideal.Facts]

theorem quiescent_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Both programs leave the reference's three results of the arguments. -/
theorem algebraic : Cert.algebraic_Kernel3Ideal_Reference3Ideal := fun m ρ m' ρ' _ hm => by
  refine ⟨fun c => gatedOut m c, fun c => keyOut m c, fun c => valueOut m c, ?_, ?_⟩
  · exact (θ_run defs _ _).mono (fun _ h c =>
      ⟨(h c).2.1.trans (final_u m c), (h c).2.2.2.1.trans (final_k m c), (h c).2.2.2.2.1.trans (final_v m c), (h c).2.2.2.2.2⟩) (Value.run_blocks m ρ)
  · refine (θ_run Cert.Reference3Ideal.defs _ _).mono (fun _ h c => ⟨(h c).1.trans ?_, (h c).2.1.trans ?_, (h c).2.2.1.trans ?_, (h c).2.2.2⟩)
      (Cert.Reference3Ideal.Value.run (F := Ideal) m' ρ')
    all_goals obtain ⟨h0, h1, h2, h3, h4, h5, h6, h7, h8, h9, h10⟩ := hm c
    · rw [Cert.Reference3Ideal.Read.val_main_v44_eq]
      unfold gatedOut
      exact congr (congr (congrArg (Cert.Reference3Ideal.Read.val_main_v44 (F := Ideal)) h0) h2) h3
    · rw [Cert.Reference3Ideal.Read.val_main_v45_eq]
      unfold keyOut
      exact congr (congr (congr (congrArg (Cert.Reference3Ideal.Read.val_main_v45 (F := Ideal)) h0) h2) h3) h9
    · rw [Cert.Reference3Ideal.Read.val_main_v46_eq]
      unfold valueOut
      exact congr (congr (congrArg (Cert.Reference3Ideal.Read.val_main_v46 (F := Ideal)) h0) h2) h3

end Cert.Kernel3Ideal.Proj

end
-- ==== Proof.AttKeys.lean ====
/- The keys and values as the attention's scratch memory holds them. -/
module

public import proofs.«01_k».proof.Proof.Gen.Kernel4Ideal.Frame
public import Idealize.ShloMosaic.Lib.VecWindow
public import Idealize.ShloMosaic.Lib.Ring
public import Idealize.ShloMosaic.Lib.Pointwise
public import Idealize.ShloMosaic.Lib.Pipeline.Value

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

variable (a : Vec Ideal S1x512x512 .bf16) (b : Vec Ideal S1x64x512 .f32)

/-- Row `j` of the cached rows `a`, then of the new rows `b`, then of rows of zeros. -/
def rowAt (j : ℕ) (d : Fin 512) : EReal :=
  if h : j < 512 then a (ix3 0 ⟨j, h⟩ d) else if h' : j < 576 then b (ix3 0 ⟨j - 512, by omega⟩ d) else 0

/-- The keys, transposed and cut into slabs of 128 keys; plane `e` keeps the heads of parity `e`. -/
def KT : S2x5x512x128.Idx → EReal := fun y =>
  if (y 2).val / 64 % 2 = (y 0).val then rowAt a b ((y 1).val * 128 + (y 3).val) (y 2) else 0

/-- The values; plane `e` keeps the heads of parity `e`. -/
def VT : S2x640x512.Idx → EReal := fun y =>
  if (y 2).val / 64 % 2 = (y 0).val then rowAt a b (y 1).val (y 2) else 0

theorem parity (d : Fin 512) : IntOp.cmpi CmpIPredicate.eq (IntOp.andi (BitVec.ofNat 32 d.val) 64#32) 0#32 = if d.val / 64 % 2 = 0 then 1#1 else 0#1 := by
  revert d; decide +kernel

theorem pay3_apply (j : Fin 640) (d : Fin 512) : k0_pay3 a b (ix2 j d) = rowAt a b j.val d := by
  unfold rowAt
  pointwise [k0_pay3, k0_pay2]
  by_cases h : j.val < 512
  · rw [dif_pos h, dif_pos h]
  · by_cases h' : j.val < 576
    · rw [dif_neg h, dif_neg h, dif_pos (by omega), dif_pos h']
    · rw [dif_neg h, dif_neg h, dif_neg (by omega), dif_neg h']

theorem pay4_apply (d : Fin 512) (j : Fin 128) : k0_pay4 (ix2 d j) = if d.val / 64 % 2 = 0 then 1#1 else 0#1 := by
  rw [← parity]
  pointwise [k0_pay4]

/-- A select by the parity of the head. -/
theorem pick (d : Fin 512) (j : Fin 128) (u v : EReal) : Scalar.select (k0_pay4 (ix2 d j)) u v = if d.val / 64 % 2 = 0 then u else v := by
  rw [pay4_apply]
  split_ifs <;> rfl

theorem at_zero (y : S2x5x512x128.Idx) (h : (y 0).val = 0) :
    KT a b y = if (y 2).val / 64 % 2 = 0 then rowAt a b ((y 1).val * 128 + (y 3).val) (y 2) else 0 := by
  unfold KT; rw [h]

theorem at_one (y : S2x5x512x128.Idx) (h : (y 0).val = 1) :
    KT a b y = if (y 2).val / 64 % 2 = 0 then 0 else rowAt a b ((y 1).val * 128 + (y 3).val) (y 2) := by
  unfold KT; rw [h]
  split_ifs <;> first | rfl | omega

section
variable (d : Fin 512) (j : Fin 128)
theorem slab00 : (k0_pay6 a b) (ix4 0 0 d j) = KT a b (ix4 0 0 d j) := by
  rw [at_zero _ _ _ rfl]
  pointwise [k0_pay6, k0_pay5]
  rw [pick, pay3_apply]
theorem slab10 : (k0_pay7 a b) (ix4 0 0 d j) = KT a b (ix4 1 0 d j) := by
  rw [at_one _ _ _ rfl]
  pointwise [k0_pay7, k0_pay5]
  rw [pick, pay3_apply]
theorem slab01 : (k0_pay10 (k0_pay9 a b)) (ix4 0 0 d j) = KT a b (ix4 0 1 d j) := by
  rw [at_zero _ _ _ rfl]
  pointwise [k0_pay10, k0_pay9, k0_pay8]
  rw [pick, pay3_apply]
theorem slab11 : (k0_pay11 k0_pay4 (k0_pay8 a b)) (ix4 0 0 d j) = KT a b (ix4 1 1 d j) := by
  rw [at_one _ _ _ rfl]
  pointwise [k0_pay11, k0_pay8]
  rw [pick, pay3_apply]
theorem slab02 : (k0_pay13 (k0_pay3 a b) k0_pay4) (ix4 0 0 d j) = KT a b (ix4 0 2 d j) := by
  rw [at_zero _ _ _ rfl]
  pointwise [k0_pay13, k0_pay12]
  rw [pick, pay3_apply]
theorem slab12 : (k0_pay14 (k0_pay3 a b) k0_pay4) (ix4 0 0 d j) = KT a b (ix4 1 2 d j) := by
  rw [at_one _ _ _ rfl]
  pointwise [k0_pay14, k0_pay12]
  rw [pick, pay3_apply]
theorem slab03 : (k0_pay16 (k0_pay3 a b) k0_pay4) (ix4 0 0 d j) = KT a b (ix4 0 3 d j) := by
  rw [at_zero _ _ _ rfl]
  pointwise [k0_pay16, k0_pay15]
  rw [pick, pay3_apply]
theorem slab13 : (k0_pay18 (k0_pay17 (k0_pay3 a b) k0_pay4)) (ix4 0 0 d j) = KT a b (ix4 1 3 d j) := by
  rw [at_one _ _ _ rfl]
  pointwise [k0_pay18, k0_pay17, k0_pay15]
  rw [pick, pay3_apply]
theorem slab04 : (k0_pay20 (k0_pay3 a b) k0_pay4) (ix4 0 0 d j) = KT a b (ix4 0 4 d j) := by
  rw [at_zero _ _ _ rfl]
  pointwise [k0_pay20, k0_pay19]
  rw [pick, pay3_apply]
theorem slab14 : (k0_pay21 (k0_pay3 a b) k0_pay4) (ix4 0 0 d j) = KT a b (ix4 1 4 d j) := by
  rw [at_one _ _ _ rfl]
  pointwise [k0_pay21, k0_pay19]
  rw [pick, pay3_apply]
end

theorem pay23_apply (j : Fin 640) (d : Fin 512) : k0_pay23 (ix2 j d) = if d.val / 64 % 2 = 0 then 1#1 else 0#1 := by
  rw [← parity]
  pointwise [k0_pay23]

theorem pay22_apply (j : Fin 640) (d : Fin 512) : k0_pay22 (k0_pay2 (F := Ideal)) a b (ix2 j d) = rowAt a b j.val d := by
  unfold rowAt
  pointwise [k0_pay22, k0_pay2]
  by_cases h : j.val < 512
  · rw [dif_pos h, dif_pos h]
  · by_cases h' : j.val < 576
    · rw [dif_neg h, dif_neg h, dif_pos (by omega), dif_pos h']
    · rw [dif_neg h, dif_neg h, dif_neg (by omega), dif_neg h']

theorem plane0 (j : Fin 640) (d : Fin 512) : k0_pay25 (k0_pay24 (k0_pay2 (F := Ideal)) a b) (ix3 0 j d) = VT a b (ix3 0 j d) := by
  pointwise [k0_pay25, k0_pay24]
  rw [pay23_apply, pay22_apply]
  show _ = if d.val / 64 % 2 = 0 then rowAt a b j.val d else 0
  split_ifs <;> rfl

theorem plane1 (j : Fin 640) (d : Fin 512) : k0_pay26 (k0_pay22 (k0_pay2 (F := Ideal)) a b) k0_pay23 (ix3 0 j d) = VT a b (ix3 1 j d) := by
  pointwise [k0_pay26]
  rw [pay23_apply, pay22_apply]
  show _ = if d.val / 64 % 2 = 1 then rowAt a b j.val d else 0
  split_ifs <;> first | rfl | omega

/-- A slab stored at plane `e`, slab `c` of the keys' scratch. -/
theorem slab_at (e : Fin 2) (c : Fin 5) (inb : ∀ i, ![e.val, c.val, 0, 0] i + S1x1x512x128.size i ≤ S2x5x512x128.size i) (w : Vec Ideal S1x1x512x128 .bf16)
    (h : ∀ d j, w (ix4 0 0 d j) = KT a b (ix4 e c d j)) (x : S1x1x512x128.Idx) :
    w x = KT a b ((Rect.unit (s := S2x5x512x128) ![e.val, c.val, 0, 0] S1x1x512x128.size inb).emb x) := by
  have e0 : (Rect.unit (s := S2x5x512x128) ![e.val, c.val, 0, 0] S1x1x512x128.size inb).emb x = (ix4 e c (x 2 : Fin 512) (x 3 : Fin 128) : S2x5x512x128.Idx) := by
    funext i; apply Fin.ext
    match i with
    | 0 => have := (x 0).isLt; show e.val + 1 * (x 0).val = e.val; change (x 0).val < 1 at this; omega
    | 1 => have := (x 1).isLt; show c.val + 1 * (x 1).val = c.val; change (x 1).val < 1 at this; omega
    | 2 => show 0 + 1 * (x 2).val = (x 2).val; omega
    | 3 => show 0 + 1 * (x 3).val = (x 3).val; omega
  have e1 : x = (ix4 0 0 (x 2 : Fin 512) (x 3 : Fin 128) : S1x1x512x128.Idx) := by
    funext i; apply Fin.ext
    match i with
    | 0 => have := (x 0).isLt; change (x 0).val < 1 at this; show (x 0).val = 0; omega
    | 1 => have := (x 1).isLt; change (x 1).val < 1 at this; show (x 1).val = 0; omega
    | 2 => rfl
    | 3 => rfl
  exact (congrArg w e1).trans ((h _ _).trans (congrArg (KT a b) e0.symm))

/-- The same for a plane of the values' scratch. -/
theorem plane_at (e : Fin 2) (inb : ∀ i, ![e.val, 0, 0] i + S1x640x512.size i ≤ S2x640x512.size i) (w : Vec Ideal S1x640x512 .bf16)
    (h : ∀ j d, w (ix3 0 j d) = VT a b (ix3 e j d)) (x : S1x640x512.Idx) :
    w x = VT a b ((Rect.unit (s := S2x640x512) ![e.val, 0, 0] S1x640x512.size inb).emb x) := by
  have e0 : (Rect.unit (s := S2x640x512) ![e.val, 0, 0] S1x640x512.size inb).emb x = (ix3 e (x 1 : Fin 640) (x 2 : Fin 512) : S2x640x512.Idx) := by
    funext i; apply Fin.ext
    match i with
    | 0 => have := (x 0).isLt; show e.val + 1 * (x 0).val = e.val; change (x 0).val < 1 at this; omega
    | 1 => show 0 + 1 * (x 1).val = (x 1).val; omega
    | 2 => show 0 + 1 * (x 2).val = (x 2).val; omega
  have e1 : x = (ix3 0 (x 1 : Fin 640) (x 2 : Fin 512) : S1x640x512.Idx) := by
    funext i; apply Fin.ext
    match i with
    | 0 => have := (x 0).isLt; change (x 0).val < 1 at this; show (x 0).val = 0; omega
    | 1 => rfl
    | 2 => rfl
  exact (congrArg w e1).trans ((h _ _).trans (congrArg (VT a b) e0.symm))

theorem ld_cache (x : Vec Ideal S1x512x512 .bf16) : View.ld x (Rect.unit (s := S1x512x512) ![0, 0, 0] S1x512x512.size inb_S1x512x512_S1x512x512_0_0_0) = x := by
  funext i
  refine congrArg x (funext fun k => Fin.ext ?_)
  match k with
  | 0 | 1 | 2 => show 0 + 1 * _ = _; omega

theorem ld_new (x : Vec Ideal S1x64x512 .f32) : View.ld x (Rect.unit (s := S1x64x512) ![0, 0, 0] S1x64x512.size inb_S1x64x512_S1x64x512_0_0_0) = x := by
  funext i
  refine congrArg x (funext fun k => Fin.ext ?_)
  match k with
  | 0 | 1 | 2 => show 0 + 1 * _ = _; omega

variable (c : Dev nD) (arg2 : Memref sig .tc .vmem S1x512x512 .bf16) (harg2 : arg2.IsWhole) (arg4 : Memref sig .tc .vmem S1x64x512 .f32) (harg4 : arg4.IsWhole)

open kernelRun0_A in
theorem pieces_keys : ∀ p ∈ sl.HS0_10 (F := Ideal) c arg2 harg2 arg4 harg4 a b, ∀ x, p.2 x = KT a b (p.1.emb x) := by
  simp only [sl.HS0_10, sl.r, sl.r_1, sl.r_2, sl.r_3, View.readAt_eq_ld, harg2.read_unread, harg4.read_unread]
  rw [ld_cache, ld_new]
  refine List.forall_mem_cons.2 ⟨fun x => slab_at a b 1 4 (by decide) _ (slab14 a b) x, ?_⟩
  refine List.forall_mem_cons.2 ⟨fun x => slab_at a b 0 4 (by decide) _ (slab04 a b) x, ?_⟩
  refine List.forall_mem_cons.2 ⟨fun x => slab_at a b 1 3 (by decide) _ (slab13 a b) x, ?_⟩
  refine List.forall_mem_cons.2 ⟨fun x => slab_at a b 0 3 (by decide) _ (slab03 a b) x, ?_⟩
  refine List.forall_mem_cons.2 ⟨fun x => slab_at a b 1 2 (by decide) _ (slab12 a b) x, ?_⟩
  refine List.forall_mem_cons.2 ⟨fun x => slab_at a b 0 2 (by decide) _ (slab02 a b) x, ?_⟩
  refine List.forall_mem_cons.2 ⟨fun x => slab_at a b 1 1 (by decide) _ (slab11 a b) x, ?_⟩
  refine List.forall_mem_cons.2 ⟨fun x => slab_at a b 0 1 (by decide) _ (slab01 a b) x, ?_⟩
  refine List.forall_mem_cons.2 ⟨fun x => slab_at a b 1 0 (by decide) _ (slab10 a b) x, ?_⟩
  refine List.forall_mem_cons.2 ⟨fun x => slab_at a b 0 0 (by decide) _ (slab00 a b) x, ?_⟩
  exact fun p hp => absurd hp List.not_mem_nil

open kernelRun0_A in
theorem pieces_values : ∀ p ∈ sl.HS1_2 (F := Ideal) c arg2 harg2 arg4 harg4 a b, ∀ x, p.2 x = VT a b (p.1.emb x) := by
  simp only [sl.HS1_2, sl.r_4, sl.r_5, View.readAt_eq_ld, harg2.read_unread, harg4.read_unread]
  rw [ld_cache, ld_new]
  refine List.forall_mem_cons.2 ⟨fun x => plane_at a b 1 (by decide) _ (plane1 a b) x, ?_⟩
  refine List.forall_mem_cons.2 ⟨fun x => plane_at a b 0 (by decide) _ (plane0 a b) x, ?_⟩
  exact fun p hp => absurd hp List.not_mem_nil

/-- Every index of the keys' scratch lies in a stored slab. -/
theorem covered_keys (y : S2x5x512x128.Idx) : ∃ p ∈ kernelRun0_A.sl.HS0_10 (F := Ideal) c arg2 harg2 arg4 harg4 a b, y ∈ p.1.set :=
  View.cover_of_tiledL _ ![1, 1, 512, 128] (by sl_kernel_rfl) y

/-- Every index of the values' scratch lies in a stored plane. -/
theorem covered_values (y : S2x640x512.Idx) : ∃ p ∈ kernelRun0_A.sl.HS1_2 (F := Ideal) c arg2 harg2 arg4 harg4 a b, y ∈ p.1.set :=
  View.cover_of_tiledL _ ![1, 640, 512] (by sl_kernel_rfl) y

end Cert.Kernel4Ideal.Att

end
-- ==== Proof.AttLook.lean ====
/- A host gather that looks up one column of a matrix per index, and the columns the two programs' bias tables look up. -/
module

public import proofs.«01_k».proof.Proof.AttKeys
public import proofs.«01_k».proof.Proof.Gen.Reference4Ideal.Read
public import Idealize.ShloMosaic.Lib.ValueIdx

@[expose] public section

set_option maxRecDepth 16384

noncomputable section

namespace Cert.Att

open Idealize.ShloMosaic Idealize.ShloMosaic.TcCoe Idealize.ShloMosaic.Tactic

variable {α : Type}

/-- Columns of a matrix at an array of column numbers. -/
abbrev lookDims (H N R C : Nat) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

theorem look_apply {H N R C w : Nat} (hN : 0 < N) (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (j : Fin C) :
    Host.gather (lookDims H N R C wf) x idx (ix3 h r j) = x (ix2 h ⟨min (idx (ix3 r j 0)).toInt.toNat (N - 1), by omega⟩) := by
  unfold Host.gather
  refine congrArg x (funext fun a => Fin.ext ?_)
  show (lookDims H N R C wf).start (ix3 h r j) idx a + (lookDims H N R C wf).batchCoord (ix3 h r j) a + (lookDims H N R C wf).offCoord (ix3 h r j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show ¬(0 : Fin 2) ∈ (lookDims H N R C wf).startIndexMap from fun h => absurd (congrArg Fin.val (List.mem_singleton.mp h)) Nat.zero_ne_one)]
    rw [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (lookDims H N R C wf).startIndexMap from List.mem_singleton.mpr rfl)]
    have hsi : (lookDims H N R C wf).siIdx (ix3 h r j) ⟨List.idxOf (1 : Fin 2) (lookDims H N R C wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl

theorem ofNat_toInt (n : ℕ) (h : n < 2147483648) : (BitVec.ofNat 32 n).toInt.toNat = n := by
  have e : (BitVec.ofNat 32 n).toNat = n := by rw [BitVec.toNat_ofNat]; omega
  rw [BitVec.toInt_eq_toNat_of_lt (by rw [e]; omega), e]
  rfl

theorem look_at {H N R C : Nat} (hN : N ≤ 2147483648) (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ 32) (h : Fin H) (r : Fin R) (j : Fin C) (n : Fin N) (hn : idx (ix3 r j 0) = BitVec.ofNat 32 n.val) :
    Host.gather (lookDims H N R C wf) x idx (ix3 h r j) = x (ix2 h n) := by
  have hb := n.isLt
  refine (look_apply (by omega) wf x idx h r j).trans (congrArg (fun m => x (ix2 h m)) (Fin.ext ?_))
  show min (idx (ix3 r j 0)).toInt.toNat (N - 1) = n.val
  rw [hn, ofNat_toInt _ (by omega)]
  omega

end Cert.Att

namespace Cert.Reference4Ideal.Att

open Cert.Reference4Ideal Cert.Reference4Ideal.Gen Cert.Reference4Ideal.Read
open Idealize.ShloMosaic Idealize.ShloMosaic.TcCoe Idealize.ShloMosaic.Tactic

/-- The place of key `j` before row `r`, as a 32-bit number. -/
theorem key_place (r : Fin 64) (j : Fin 576) :
    IntOp.subi (if h : j.val < 512 then IntOp.subi (BitVec.ofNat 32 j.val) 512#32 else BitVec.ofNat 32 (j.val - 512)) (BitVec.ofNat 32 r.val)
      = BitVec.ofNat 32 (j.val + 63 - r.val) - 575#32 := by
  have hr := r.isLt
  have hj := j.isLt
  refine BitVec.eq_of_toNat_eq ?_
  unfold IntOp.subi
  by_cases h : j.val < 512
  · rw [dif_pos h]; simp only [BitVec.toNat_sub, BitVec.toNat_ofNat]; omega
  · rw [dif_neg h]; simp only [BitVec.toNat_sub, BitVec.toNat_ofNat]; omega

theorem clip_apply (k : Fin 640) : Scalar.select
      (IntOp.cmpi CmpIPredicate.slt (IntOp.addi (IntOp.minsi (id (constantI S_ 32 128#32) ix0) (IntOp.maxsi (id (constantI S_ 32 4294967168#32) ix0) (BitVec.ofNat 32 k.val - 575#32))) 128#32) 0#32)
      (IntOp.addi (IntOp.addi (IntOp.minsi (id (constantI S_ 32 128#32) ix0) (IntOp.maxsi (id (constantI S_ 32 4294967168#32) ix0) (BitVec.ofNat 32 k.val - 575#32))) 128#32) 257#32)
      (IntOp.addi (IntOp.minsi (id (constantI S_ 32 128#32) ix0) (IntOp.maxsi (id (constantI S_ 32 4294967168#32) ix0) (BitVec.ofNat 32 k.val - 575#32))) 128#32)
    = BitVec.ofNat 32 (k.val - 447) := by
  revert k
  decide +kernel

theorem column_apply (r : Fin 64) (j : Fin 576) : val_main_v27 (F := Ideal) (ix3 r j 0) = BitVec.ofNat 32 (j.val + 63 - r.val - 447) := by
  pointwise [val_main_v27, val_main_v26, val_main_v25, val_main_v24, val_main_c_4, val_main_v23, val_main_v22, val_main_c_3, val_main_v20, val_main_v19, val_main_c_2, val_main_v18, val_main_call0_v4, val_main_call0_v3, val_main_c_1, val_main_call0_v2, val_main_call0_v1, val_main_call0_v0, val_main_c_0, val_main_v17, val_main_v16, val_main_v15, val_main_v14, val_main_v13, val_main_v12, val_main_v11, val_main_v10, val_main_v9, val_main_v8, val_main_c, val_main_v7]
  rw [key_place]
  exact clip_apply ⟨j.val + 63 - r.val, by omega⟩

/-- The reference's bias of head `h` at row `r` and key `j`. -/
theorem bias_apply (x5 : (⟨S1x8x257, .f32⟩ : BufTy).Contents (Elt Ideal)) (h : Fin 8) (r : Fin 64) (j : Fin 576) :
    val_main_v28 (F := Ideal) x5 (ix3 h r j) = x5 (ix3 0 h ⟨j.val - r.val - 384, by omega⟩) := by
  refine (Cert.Att.look_at (by decide) _ (val_main_v21 (F := Ideal) x5) _ h r j ⟨j.val + 63 - r.val - 447, by omega⟩ (column_apply r j)).trans ?_
  generalize hn : (⟨j.val + 63 - r.val - 447, by omega⟩ : Fin 257) = n
  have hv : n.val = j.val - r.val - 384 := by rw [← hn]; show j.val + 63 - r.val - 447 = _; omega
  refine (show val_main_v21 (F := Ideal) x5 (ix2 h n) = x5 (ix3 0 h n) by pointwise [val_main_v21]).trans ?_
  exact congrArg (fun m => x5 (ix3 0 h m)) (Fin.ext hv)

end Cert.Reference4Ideal.Att

namespace Cert.Kernel4Ideal.Att

open Cert.Kernel4Ideal Cert.Kernel4Ideal.Gen
open Idealize.ShloMosaic Idealize.ShloMosaic.TcCoe Idealize.ShloMosaic.Tactic

/-- The columns of the strip that the host's bias table looks up. -/
def columns : IVec S128x640x1 32 :=
  have d : IVec S128x640 32 := subi (iotaInDim S128x640 32 1) (iotaInDim S128x640 32 0)
  have e : IVec S128x640 32 := select (cmpi .slt d (broadcastInDim S128x640 ![] bcast_S_S128x640 (constantI S_ 32 0#32))) (addi d (broadcastInDim S128x640 ![] bcast_S_S128x640 (constantI S_ 32 768#32))) d
  broadcastInDim S128x640x1 ![0, 1] bcast_S128x640_S128x640x1_0_1
    (select (cmpi .slt e (broadcastInDim S128x640 ![] bcast_S_S128x640 (constantI S_ 32 0#32))) (addi e (broadcastInDim S128x640 ![] bcast_S_S128x640 (constantI S_ 32 768#32))) e)

/-- The entries of the host's bias table that belong to a query's band. -/
def band : IVec S1x128x640 1 :=
  broadcastInDim S1x128x640 ![1, 2] bcast_S128x640_S1x128x640_1_2
    (ori (andi (cmpi .slt (iotaInDim S128x640 32 0) (broadcastInDim S128x640 ![] bcast_S_S128x640 (constantI S_ 32 64#32)))
        (cmpi .slt (iotaInDim S128x640 32 1) (broadcastInDim S128x640 ![] bcast_S_S128x640 (constantI S_ 32 576#32))))
      (andi (cmpi .sge (iotaInDim S128x640 32 0) (broadcastInDim S128x640 ![] bcast_S_S128x640 (constantI S_ 32 64#32)))
        (cmpi .sge (iotaInDim S128x640 32 1) (broadcastInDim S128x640 ![] bcast_S_S128x640 (constantI S_ 32 64#32)))))

section
variable {F : FTy → Type} [FloatOps F] (x5 : FVec F S1x8x257 .f32)

/-- The strip: the bias of the leftmost distance, then the distances in order, then the leftmost again. -/
def strip : FVec F S8x768 .f32 :=
  have b : FVec F S8x257 .f32 := shapeCast S8x257 x5 shapeCasts_S1x8x257_S8x257
  have b0 : FVec F S8x128 .f32 := broadcastInDim S8x128 ![0, 1] bcast_S8x1_S8x128_0_1 (extractStridedSlice S8x1 ![0, 0] b slices_S8x257_S8x1_0_0)
  have t4 : FVec F S8x128 .f32 := select (cmpi .slt (iotaInDim S8x128 32 1) (broadcastInDim S8x128 ![] bcast_S_S8x128 (constantI S_ 32 64#32))) (extractStridedSlice S8x128 ![0, 128] b slices_S8x257_S8x128_0_128) b0
  concatenate S8x768 1 [⟨S8x128, b0⟩, ⟨S8x128, b0⟩, ⟨S8x128, b0⟩, ⟨S8x128, extractStridedSlice S8x128 ![0, 0] b slices_S8x257_S8x128_0_0⟩, ⟨S8x128, t4⟩, ⟨S8x128, b0⟩] concatenates_S8x128_S8x128_S8x128_S8x128_S8x128_S8x128_S8x768_d1

/-- The table laid out, from the looked-up entries. -/
def laid (m : IVec S1x128x640 1) (g : FVec F S8x128x640 .f32) : FVec F S8x5x128x128 .f32 :=
  transpose S8x5x128x128 [0, 2, 1, 3] (shapeCast S8x128x5x128
    (select (broadcastInDim S8x128x640 ![0, 1, 2] bcast_S1x128x640_S8x128x640_0_1_2 m)
      (Host.divf g (broadcastInDim S8x128x640 ![] bcast_S_S8x128x640 (Host.log (constant S_ .f32 0x40000000#32))))
      (broadcastInDim S8x128x640 ![] bcast_S_S8x128x640 (id (constant S_ .f32 0xFF800000#32))))
    shapeCasts_S8x128x640_S8x128x5x128) transposes_S8x128x5x128_S8x5x128x128_0_2_1_3

/-- The host's bias table. -/
def table : FVec F S8x5x128x128 .f32 :=
  laid band (Host.gather gather_S8x768_S128x640x1_S8x128x640_0_1_n_n_1_2_81 (strip x5) columns)
end

theorem wrap_apply (k : Fin 640) :
    (fun d : BitVec 32 => (fun e : BitVec 32 => Scalar.select (IntOp.cmpi CmpIPredicate.slt e 0#32) (IntOp.addi e 768#32) e)
      (Scalar.select (IntOp.cmpi CmpIPredicate.slt d 0#32) (IntOp.addi d 768#32) d)) (BitVec.ofNat 32 k.val - 63#32)
    = BitVec.ofNat 32 (if 63 ≤ k.val then k.val - 63 else k.val + 705) := by
  revert k
  decide +kernel

theorem columns_apply (r : Fin 128) (hr : r.val < 64) (j : Fin 640) (hj : j.val < 576) : columns (ix3 r j 0)
    = BitVec.ofNat 32 (if 63 ≤ j.val + 63 - r.val then j.val + 63 - r.val - 63 else j.val + 63 - r.val + 705) := by
  pointwise [columns]
  have e : IntOp.subi (BitVec.ofNat 32 j.val) (BitVec.ofNat 32 r.val) = BitVec.ofNat 32 (j.val + 63 - r.val) - 63#32 := by
    refine BitVec.eq_of_toNat_eq ?_
    unfold IntOp.subi
    simp only [BitVec.toNat_sub, BitVec.toNat_ofNat]
    omega
  rw [e]
  exact wrap_apply ⟨j.val + 63 - r.val, by omega⟩

theorem row_lt (r : Fin 64) : IntOp.cmpi CmpIPredicate.slt (BitVec.ofNat 32 r.val) 64#32 = 1#1 ∧ IntOp.cmpi CmpIPredicate.sge (BitVec.ofNat 32 r.val) 64#32 = 0#1 := by
  revert r; decide +kernel

theorem key_lt (j : Fin 640) (u : BitVec 1) : IntOp.ori (IntOp.andi 1#1 (IntOp.cmpi CmpIPredicate.slt (BitVec.ofNat 32 j.val) 576#32)) (IntOp.andi 0#1 u) = if j.val < 576 then 1#1 else 0#1 := by
  revert j u; decide +kernel

theorem band_apply (r : Fin 64) (j : Fin 640) : band (ix3 0 (⟨r.val, by omega⟩ : Fin 128) j) = if j.val < 576 then 1#1 else 0#1 := by
  pointwise [band]
  rw [(row_lt r).1, (row_lt r).2]
  exact key_lt j _

theorem left_half {α : Type} (l : Fin 128) (x y : α) : Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = if l.val < 64 then 1#1 else 0#1 := by decide +kernel
  rw [h]
  rcases Nat.lt_or_ge l.val 64 with c | c
  · rw [if_pos c, if_pos c]; rfl
  · rw [if_neg (by omega), if_neg (by omega)]; rfl

theorem strip_apply (x5 : FVec Ideal S1x8x257 .f32) (h : Fin 8) (n : Fin 768) : strip x5 (ix2 h n) = x5 (ix3 0 h ⟨if n.val < 576 then n.val - 384 else 0, by split <;> omega⟩) := by
  pointwise [strip]
  have fin : ∀ (a : ℕ) (ha : a < 257), a = (if n.val < 576 then n.val - 384 else 0) → x5 (ix3 0 h ⟨a, ha⟩) = x5 (ix3 0 h ⟨if n.val < 576 then n.val - 384 else 0, by split <;> omega⟩) :=
    fun a ha e => congrArg (fun m => x5 (ix3 0 h m)) (Fin.ext e)
  have zero : ¬n.val < 576 ∨ n.val < 385 → x5 (ix3 0 h 0) = x5 (ix3 0 h ⟨if n.val < 576 then n.val - 384 else 0, by split <;> omega⟩) :=
    fun e => fin 0 (by decide) (by split <;> omega)
  rcases Nat.lt_or_ge n.val 128 with c | c
  · exact (dif_pos c).trans (zero (by omega))
  refine (dif_neg (by omega)).trans ?_
  rcases Nat.lt_or_ge n.val 256 with c | c
  · exact (dif_pos (by omega)).trans (zero (by omega))
  refine (dif_neg (by omega)).trans ?_
  rcases Nat.lt_or_ge n.val 384 with c | c
  · exact (dif_pos (by omega)).trans (zero (by omega))
  refine (dif_neg (by omega)).trans ?_
  rcases Nat.lt_or_ge n.val 512 with c | c
  · exact (dif_pos (by omega)).trans (fin _ _ (by rw [if_pos (by omega)]; omega))
  refine (dif_neg (by omega)).trans ?_
  rcases Nat.lt_or_ge n.val 640 with c | c
  · refine (dif_pos (by omega)).trans ((left_half ⟨n.val - 128 - 128 - 128 - 128, by omega⟩ _ _).trans ?_)
    rcases Nat.lt_or_ge n.val 576 with c | c
    · exact (if_pos (by show n.val - 128 - 128 - 128 - 128 < 64; omega)).trans (fin _ _ (by rw [if_pos (by omega)]; omega))
    · exact (if_neg (by show ¬n.val - 128 - 128 - 128 - 128 < 64; omega)).trans (zero (by omega))
  exact (dif_neg (by omega)).trans (zero (by omega))

theorem laid_apply (m : IVec S1x128x640 1) (g : FVec Ideal S8x128x640 .f32) (h : Fin 8) (s : Fin 5) (r l : Fin 128) :
    laid m g (ix4 h s r l) = Scalar.select (m (ix3 0 r ⟨s.val * 128 + l.val, by omega⟩))
      (Ideal.div (g (ix3 h r ⟨s.val * 128 + l.val, by omega⟩)) (Ideal.log (Ideal.ofBits FTy.f32 1073741824#32))) (Ideal.ofBits FTy.f32 4286578688#32) := by
  pointwise [laid]
  rfl

theorem select_one {α : Type} (x y : α) : Scalar.select 1#1 x y = x := rfl

theorem select_zero {α : Type} (x y : α) : Scalar.select 0#1 x y = y := rfl

/-- The bias table in the rows it is used at: the reference's bias over the logarithm of two, and minus infinity past the keys. -/
theorem table_apply (x5 : FVec Ideal S1x8x257 .f32) (h : Fin 8) (s : Fin 5) (r : Fin 64) (l : Fin 128) (j : Fin 640) (hj : s.val * 128 + l.val = j.val) :
    table x5 (ix4 h s (⟨r.val, by omega⟩ : Fin 128) l) = if hk : j.val < 576
      then Ideal.div (x5 (ix3 0 h ⟨j.val - r.val - 384, by omega⟩)) (Ideal.log (Ideal.ofBits FTy.f32 1073741824#32)) else Ideal.ofBits FTy.f32 4286578688#32 := by
  unfold table
  refine (laid_apply _ _ h s _ l).trans ?_
  have e : (⟨s.val * 128 + l.val, by omega⟩ : Fin 640) = j := Fin.ext hj
  rw [e, band_apply]
  rcases Nat.lt_or_ge j.val 576 with c | c
  · rw [if_pos c, dif_pos c, select_one]
    refine congrArg (fun y => Ideal.div y (Ideal.log (Ideal.ofBits FTy.f32 1073741824#32))) ?_
    generalize hr : (⟨r.val, by omega⟩ : Fin 128) = r'
    have hv : r'.val = r.val := by rw [← hr]
    have hi := columns_apply r' (by omega) j c
    rw [hv] at hi
    obtain ⟨n, hn⟩ : ∃ n : Fin 768, (⟨if 63 ≤ j.val + 63 - r.val then j.val + 63 - r.val - 63 else j.val + 63 - r.val + 705, by split <;> omega⟩ : Fin 768) = n := ⟨_, rfl⟩
    have nv : n.val = if 63 ≤ j.val + 63 - r.val then j.val + 63 - r.val - 63 else j.val + 63 - r.val + 705 := by rw [← hn]
    rw [← nv] at hi
    refine (Cert.Att.look_at (by decide) _ (strip x5) columns h r' j n hi).trans ((strip_apply x5 h _).trans ?_)
    refine congrArg (fun m => x5 (ix3 0 h m)) (Fin.ext ?_)
    show (if n.val < 576 then n.val - 384 else 0) = j.val - r.val - 384
    rcases Nat.lt_or_ge j.val r.val with d | d
    · rw [if_neg (by omega)] at nv
      rw [if_neg (by omega)]; omega
    · rw [if_pos (by omega)] at nv
      rw [if_pos (by omega)]; omega
  · rw [if_neg (by omega), dif_neg (by omega), select_zero]

end Cert.Kernel4Ideal.Att

end
-- ==== Proof.AttScores.lean ====
/- The scores as the attention's scratch memory holds them. -/
module

public import proofs.«01_k».proof.Proof.AttKeys

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

variable (q : Vec Ideal S1x64x512 .bf16) (a : Vec Ideal S1x512x512 .bf16) (b : Vec Ideal S1x64x512 .f32)

/-- The key lane `k` of the score rows, at entry `d` of head pair `hp`'s 128. -/
def keyLane (hp : Fin 4) (k : ℕ) (hk : k < 1280) (d : Fin 128) : EReal :=
  KT a b (ix4 (⟨k / 640, by omega⟩ : Fin 2) (⟨k % 640 / 128, by omega⟩ : Fin 5) (⟨hp.val * 128 + d.val, by omega⟩ : Fin 512) (⟨k % 128, by omega⟩ : Fin 128))

/-- The score of query row `r` of head pair `hp` at lane `k`. -/
def score (hp : Fin 4) (r : Fin 64) (k : Fin 1280) : EReal :=
  ∑ d : Fin 128, q (ix3 0 r ⟨hp.val * 128 + d.val, by omega⟩) * keyLane a b hp k.val k.isLt d

/-- The scores' scratch (its upper 64 rows are never read). -/
def ST : S1x4x128x1280.Idx → EReal := fun y => if h : (y 2).val < 64 then score q a b (y 1) ⟨(y 2).val, h⟩ (y 3) else 0

theorem keyLane_of (hp : Fin 4) (e : Fin 2) (c : Fin 5) (n : Fin 128) (k : ℕ) (hk : k < 1280) (he : k = e.val * 640 + c.val * 128 + n.val) (d : Fin 128) :
    KT a b (ix4 e c (⟨hp.val * 128 + d.val, by omega⟩ : Fin 512) n) = keyLane a b hp k hk d := by
  unfold keyLane
  refine congrArg (KT a b) ?_
  have h1 : (⟨k / 640, by omega⟩ : Fin 2) = e := Fin.ext (by show k / 640 = e.val; omega)
  have h2 : (⟨k % 640 / 128, by omega⟩ : Fin 5) = c := Fin.ext (by show k % 640 / 128 = c.val; omega)
  have h3 : (⟨k % 128, by omega⟩ : Fin 128) = n := Fin.ext (by show k % 128 = n.val; omega)
  rw [h1, h2, h3]

theorem either {α : Type} {p : Prop} [Decidable p] {t : p → α} {e : ¬ p → α} {v : α} (ht : ∀ h, t h = v) (he : ∀ h, e h = v) : dite p t e = v := by
  split_ifs with h
  · exact ht h
  · exact he h

theorem pay35_apply (hp : Fin 4) (qs : Vec Ideal S1x64x128 .bf16) (w0 w1 w2 w3 w4 w5 w6 w7 w8 w9 : Vec Ideal S1x1x128x128 .bf16)
    (hq : ∀ r d, qs (ix3 0 r d) = q (ix3 0 r ⟨hp.val * 128 + d.val, by omega⟩))
    (h0 : ∀ d n, w0 (ix4 0 0 d n) = KT a b (ix4 0 0 (⟨hp.val * 128 + d.val, by omega⟩ : Fin 512) n))
    (h1 : ∀ d n, w1 (ix4 0 0 d n) = KT a b (ix4 0 1 (⟨hp.val * 128 + d.val, by omega⟩ : Fin 512) n))
    (h2 : ∀ d n, w2 (ix4 0 0 d n) = KT a b (ix4 0 2 (⟨hp.val * 128 + d.val, by omega⟩ : Fin 512) n))
    (h3 : ∀ d n, w3 (ix4 0 0 d n) = KT a b (ix4 0 3 (⟨hp.val * 128 + d.val, by omega⟩ : Fin 512) n))
    (h4 : ∀ d n, w4 (ix4 0 0 d n) = KT a b (ix4 0 4 (⟨hp.val * 128 + d.val, by omega⟩ : Fin 512) n))
    (h5 : ∀ d n, w5 (ix4 0 0 d n) = KT a b (ix4 1 0 (⟨hp.val * 128 + d.val, by omega⟩ : Fin 512) n))
    (h6 : ∀ d n, w6 (ix4 0 0 d n) = KT a b (ix4 1 1 (⟨hp.val * 128 + d.val, by omega⟩ : Fin 512) n))
    (h7 : ∀ d n, w7 (ix4 0 0 d n) = KT a b (ix4 1 2 (⟨hp.val * 128 + d.val, by omega⟩ : Fin 512) n))
    (h8 : ∀ d n, w8 (ix4 0 0 d n) = KT a b (ix4 1 3 (⟨hp.val * 128 + d.val, by omega⟩ : Fin 512) n))
    (h9 : ∀ d n, w9 (ix4 0 0 d n) = KT a b (ix4 1 4 (⟨hp.val * 128 + d.val, by omega⟩ : Fin 512) n))
    (r : Fin 64) (k : Fin 1280) :
    k0_pay35 (k0_pay27 qs) (k0_pay28 w0) (k0_pay29 w1) (k0_pay30 w2) (k0_pay31 w3) (k0_pay32 w4) (k0_pay33 w5) (k0_pay34 w6) w7 w8 w9 (ix3 0 r k) = score q a b hp r k := by
  unfold score
  pointwise [k0_pay35, k0_pay27, k0_pay28, k0_pay29, k0_pay30, k0_pay31, k0_pay32, k0_pay33, k0_pay34]
  refine Finset.sum_congr rfl fun x _ => congrArg₂ (· * ·) (hq r x) ?_
  refine either (fun _ => (h0 _ _).trans (keyLane_of a b hp 0 0 _ _ _ (by show k.val = 0 * 640 + 0 * 128 + k.val; omega) x)) (fun _ => ?_)
  refine either (fun _ => (h1 _ _).trans (keyLane_of a b hp 0 1 _ _ _ (by show k.val = 0 * 640 + 1 * 128 + (k.val - 128); omega) x)) (fun _ => ?_)
  refine either (fun _ => (h2 _ _).trans (keyLane_of a b hp 0 2 _ _ _ (by show k.val = 0 * 640 + 2 * 128 + (k.val - 128 - 128); omega) x)) (fun _ => ?_)
  refine either (fun _ => (h3 _ _).trans (keyLane_of a b hp 0 3 _ _ _ (by show k.val = 0 * 640 + 3 * 128 + (k.val - 128 - 128 - 128); omega) x)) (fun _ => ?_)
  refine either (fun _ => (h4 _ _).trans (keyLane_of a b hp 0 4 _ _ _ (by show k.val = 0 * 640 + 4 * 128 + (k.val - 128 - 128 - 128 - 128); omega) x)) (fun _ => ?_)
  refine either (fun _ => (h5 _ _).trans (keyLane_of a b hp 1 0 _ _ _ (by show k.val = 1 * 640 + 0 * 128 + (k.val - 128 - 128 - 128 - 128 - 128); omega) x)) (fun _ => ?_)
  refine either (fun _ => (h6 _ _).trans (keyLane_of a b hp 1 1 _ _ _ (by show k.val = 1 * 640 + 1 * 128 + (k.val - 128 - 128 - 128 - 128 - 128 - 128); omega) x)) (fun _ => ?_)
  refine either (fun _ => (h7 _ _).trans (keyLane_of a b hp 1 2 _ _ _ (by show k.val = 1 * 640 + 2 * 128 + (k.val - 128 - 128 - 128 - 128 - 128 - 128 - 128); omega) x)) (fun _ => ?_)
  refine either (fun _ => (h8 _ _).trans (keyLane_of a b hp 1 3 _ _ _ (by show k.val = 1 * 640 + 3 * 128 + (k.val - 128 - 128 - 128 - 128 - 128 - 128 - 128 - 128); omega) x)) (fun _ => ?_)
  exact (h9 _ _).trans (keyLane_of a b hp 1 4 _ _ _ (by show k.val = 1 * 640 + 4 * 128 + (k.val - 128 - 128 - 128 - 128 - 128 - 128 - 128 - 128 - 128); omega) x)

theorem lift_unit : (![1, 4, 128, 1280] : Fin 4 → ℕ) 0 = 1 := rfl
theorem lift_sizes : ∀ i : Fin 3, (![1, 4, 128, 1280] : Fin 4 → ℕ) i.succ = S4x128x1280.size i := by decide
theorem lift_inb : ∀ i, (![0, 0, 0, 0] : Fin 4 → ℕ) i + S1x4x128x1280.size i ≤ S1x4x128x1280.size i := by decide

/-- The rectangle of a scores' scratch at a rectangle of the shape without its unit axis. -/
abbrev lifted (r : Rect S4x128x1280) : Rect S1x4x128x1280 :=
  (Rect.unit (s := S1x4x128x1280) ![0, 0, 0, 0] S1x4x128x1280.size lift_inb).within (r.consLift ![1, 4, 128, 1280] lift_unit lift_sizes) (fun _ => rfl)

/-- A piece of the scores' scratch: 64 rows of head pair `hp`. -/
theorem rows_at (hp : Fin 4) (inb : ∀ i, ![hp.val, 0, 0] i + S1x64x1280.size i ≤ S4x128x1280.size i) (w : Vec Ideal S1x64x1280 .f32)
    (hw : ∀ r k, w (ix3 0 r k) = score q a b hp r k) (x : (lifted (Rect.unit (s := S4x128x1280) ![hp.val, 0, 0] S1x64x1280.size inb)).shape.Idx) :
    Rect.payAlong (r := Rect.unit (s := S4x128x1280) ![hp.val, 0, 0] S1x64x1280.size inb) (R := lifted (Rect.unit (s := S4x128x1280) ![hp.val, 0, 0] S1x64x1280.size inb))
      (Rect.numel_consLift _ _ lift_unit lift_sizes) w x = ST q a b ((lifted (Rect.unit (s := S4x128x1280) ![hp.val, 0, 0] S1x64x1280.size inb)).emb x) := by
  have x1 := (x 1).isLt
  change (x 1).val < 1 at x1
  have x2 := (x 2).isLt
  change (x 2).val < 64 at x2
  refine (Rect.payAlong_consLift (Rect.unit (s := S4x128x1280) ![hp.val, 0, 0] S1x64x1280.size inb) ![1, 4, 128, 1280] lift_unit lift_sizes w _ x
    (ix3 0 (x 2 : Fin 64) (x 3 : Fin 1280)) (fun i => ?_)).trans ?_
  · match i with
    | 0 => show 0 = (x 1).val; omega
    | 1 => rfl
    | 2 => rfl
  · refine (hw _ _).trans ?_
    generalize hy : (lifted (Rect.unit (s := S4x128x1280) ![hp.val, 0, 0] S1x64x1280.size inb)).emb x = y
    have y1 : (y 1) = hp := Fin.ext (by rw [← hy]; show 0 + hp.val + 1 * (x 1).val = hp.val; omega)
    have y2 : (y 2).val = (x 2).val := by rw [← hy]; show 0 + 0 + 1 * (x 2).val = (x 2).val; omega
    have y3 : (y 3) = (x 3 : Fin 1280) := Fin.ext (by rw [← hy]; show 0 + 0 + 1 * (x 3).val = (x 3).val; omega)
    unfold ST
    rw [dif_pos (by rw [y2]; exact x2), y1, y3]
    exact congrArg (fun r => score q a b hp r _) (Fin.ext y2.symm)

variable (c : Dev nD) (arg1 : Memref sig .tc .vmem S1x64x512 .bf16) (harg1 : arg1.IsWhole) (arg2 : Memref sig .tc .vmem S1x512x512 .bf16) (harg2 : arg2.IsWhole)
  (arg4 : Memref sig .tc .vmem S1x64x512 .f32) (harg4 : arg4.IsWhole) (arg9 : Memref sig .tc .vmem S2x5x512x128 .bf16)

theorem q_read (hp : Fin 4) (inb : ∀ i, ![0, 0, hp.val * 128] i + S1x64x128.size i ≤ S1x64x512.size i) (r : Fin 64) (d : Fin 128) :
    View.readAt (Elt Ideal) arg1.view (Rect.unit (s := S1x64x512) ![0, 0, hp.val * 128] S1x64x128.size inb).toLoadRect (harg1.unread q) (ix3 0 r d)
      = q (ix3 0 r ⟨hp.val * 128 + d.val, by omega⟩) := by
  rw [View.readAt_eq_ld, harg1.read_unread]
  refine congrArg q (funext fun i => Fin.ext ?_)
  match i with
  | 0 => rfl
  | 1 => show 0 + 1 * r.val = r.val; omega
  | 2 => show hp.val * 128 + 1 * d.val = hp.val * 128 + d.val; omega

theorem key_read (hp : Fin 4) (e : Fin 2) (s : Fin 5) (inb : ∀ i, ![e.val, s.val, hp.val * 128, 0] i + S1x1x128x128.size i ≤ S2x5x512x128.size i) (d n : Fin 128) :
    arg9.view.readCov (kernelRun0_A.sl.HS0_10 (F := Ideal) c arg2 harg2 arg4 harg4 a b) (Rect.unit (s := S2x5x512x128) ![e.val, s.val, hp.val * 128, 0] S1x1x128x128.size inb).toLoadRect (ix4 0 0 d n)
      = KT a b (ix4 e s (⟨hp.val * 128 + d.val, by omega⟩ : Fin 512) n) := by
  rw [View.readCov_eq_canon']
  refine (View.canon_apply_of_pieces (KT a b) _ (pieces_keys a b c arg2 harg2 arg4 harg4) _ (covered_keys a b c arg2 harg2 arg4 harg4 _)).trans ?_
  refine congrArg (KT a b) (funext fun i => Fin.ext ?_)
  match i with
  | 0 => show e.val + 1 * 0 = e.val; omega
  | 1 => show s.val + 1 * 0 = s.val; omega
  | 2 => show hp.val * 128 + 1 * d.val = hp.val * 128 + d.val; omega
  | 3 => show 0 + 1 * n.val = n.val; omega

section
open kernelRun0_A
theorem rows0 (r : Fin 64) (k : Fin 1280) : (k0_pay35 (sl.r_6 c arg1 harg1 q) (sl.r_7 c arg2 harg2 arg4 harg4 arg9 a b) (sl.r_8 c arg2 harg2 arg4 harg4 arg9 a b) (sl.r_9 c arg2 harg2 arg4 harg4 arg9 a b) (sl.r_10 c arg2 harg2 arg4 harg4 arg9 a b) (sl.r_11 c arg2 harg2 arg4 harg4 arg9 a b) (sl.r_12 c arg2 harg2 arg4 harg4 arg9 a b) (sl.r_13 c arg2 harg2 arg4 harg4 arg9 a b) (sl.v121 c arg2 harg2 arg4 harg4 arg9 a b) (sl.v123 c arg2 harg2 arg4 harg4 arg9 a b) (sl.v125 c arg2 harg2 arg4 harg4 arg9 a b)) (ix3 0 r k) = score q a b 0 r k :=
  pay35_apply q a b 0 _ _ _ _ _ _ _ _ _ _ _ (q_read q arg1 harg1 0 (by decide))
    (key_read a b c arg2 harg2 arg4 harg4 arg9 0 0 0 (by decide))
    (key_read a b c arg2 harg2 arg4 harg4 arg9 0 0 1 (by decide))
    (key_read a b c arg2 harg2 arg4 harg4 arg9 0 0 2 (by decide))
    (key_read a b c arg2 harg2 arg4 harg4 arg9 0 0 3 (by decide))
    (key_read a b c arg2 harg2 arg4 harg4 arg9 0 0 4 (by decide))
    (key_read a b c arg2 harg2 arg4 harg4 arg9 0 1 0 (by decide))
    (key_read a b c arg2 harg2 arg4 harg4 arg9 0 1 1 (by decide))
    (key_read a b c arg2 harg2 arg4 harg4 arg9 0 1 2 (by decide))
    (key_read a b c arg2 harg2 arg4 harg4 arg9 0 1 3 (by decide))
    (key_read a b c arg2 harg2 arg4 harg4 arg9 0 1 4 (by decide)) r k
theorem rows1 (r : Fin 64) (k : Fin 1280) : (k0_pay40 (sl.r_14 c arg1 harg1 q) (sl.r_15 c arg2 harg2 arg4 harg4 arg9 a b) (sl.r_16 c arg2 harg2 arg4 harg4 arg9 a b) (sl.r_17 c arg2 harg2 arg4 harg4 arg9 a b) (sl.v142 c arg2 harg2 arg4 harg4 arg9 a b) (sl.v144 c arg2 harg2 arg4 harg4 arg9 a b) (sl.v146 c arg2 harg2 arg4 harg4 arg9 a b) (sl.v148 c arg2 harg2 arg4 harg4 arg9 a b) (sl.v150 c arg2 harg2 arg4 harg4 arg9 a b) (sl.v152 c arg2 harg2 arg4 harg4 arg9 a b) (sl.v154 c arg2 harg2 arg4 harg4 arg9 a b)) (ix3 0 r k) = score q a b 1 r k :=
  pay35_apply q a b 1 _ _ _ _ _ _ _ _ _ _ _ (q_read q arg1 harg1 1 (by decide))
    (key_read a b c arg2 harg2 arg4 harg4 arg9 1 0 0 (by decide))
    (key_read a b c arg2 harg2 arg4 harg4 arg9 1 0 1 (by decide))
    (key_read a b c arg2 harg2 arg4 harg4 arg9 1 0 2 (by decide))
    (key_read a b c arg2 harg2 arg4 harg4 arg9 1 0 3 (by decide))
    (key_read a b c arg2 harg2 arg4 harg4 arg9 1 0 4 (by decide))
    (key_read a b c arg2 harg2 arg4 harg4 arg9 1 1 0 (by decide))
    (key_read a b c arg2 harg2 arg4 harg4 arg9 1 1 1 (by decide))
    (key_read a b c arg2 harg2 arg4 harg4 arg9 1 1 2 (by decide))
    (key_read a b c arg2 harg2 arg4 harg4 arg9 1 1 3 (by decide))
    (key_read a b c arg2 harg2 arg4 harg4 arg9 1 1 4 (by decide)) r k
theorem rows2 (r : Fin 64) (k : Fin 1280) : (k0_pay52 (sl.r_18 c arg1 harg1 q) (sl.r_19 c arg2 harg2 arg4 harg4 arg9 a b) (sl.r_20 c arg2 harg2 arg4 harg4 arg9 a b) (sl.r_21 c arg2 harg2 arg4 harg4 arg9 a b) (sl.r_22 c arg2 harg2 arg4 harg4 arg9 a b) (sl.r_23 c arg2 harg2 arg4 harg4 arg9 a b) (sl.r_24 c arg2 harg2 arg4 harg4 arg9 a b) (sl.r_25 c arg2 harg2 arg4 harg4 arg9 a b) (sl.r_26 c arg2 harg2 arg4 harg4 arg9 a b) (sl.r_27 c arg2 harg2 arg4 harg4 arg9 a b) (sl.r_28 c arg2 harg2 arg4 harg4 arg9 a b)) (ix3 0 r k) = score q a b 2 r k :=
  pay35_apply q a b 2 _ _ _ _ _ _ _ _ _ _ _ (q_read q arg1 harg1 2 (by decide))
    (key_read a b c arg2 harg2 arg4 harg4 arg9 2 0 0 (by decide))
    (key_read a b c arg2 harg2 arg4 harg4 arg9 2 0 1 (by decide))
    (key_read a b c arg2 harg2 arg4 harg4 arg9 2 0 2 (by decide))
    (key_read a b c arg2 harg2 arg4 harg4 arg9 2 0 3 (by decide))
    (key_read a b c arg2 harg2 arg4 harg4 arg9 2 0 4 (by decide))
    (key_read a b c arg2 harg2 arg4 harg4 arg9 2 1 0 (by decide))
    (key_read a b c arg2 harg2 arg4 harg4 arg9 2 1 1 (by decide))
    (key_read a b c arg2 harg2 arg4 harg4 arg9 2 1 2 (by decide))
    (key_read a b c arg2 harg2 arg4 harg4 arg9 2 1 3 (by decide))
    (key_read a b c arg2 harg2 arg4 harg4 arg9 2 1 4 (by decide)) r k
theorem rows3 (r : Fin 64) (k : Fin 1280) : (k0_pay60 (sl.r_29 c arg1 harg1 q) (sl.r_30 c arg2 harg2 arg4 harg4 arg9 a b) (sl.r_31 c arg2 harg2 arg4 harg4 arg9 a b) (sl.r_32 c arg2 harg2 arg4 harg4 arg9 a b) (sl.r_33 c arg2 harg2 arg4 harg4 arg9 a b) (sl.r_34 c arg2 harg2 arg4 harg4 arg9 a b) (sl.r_35 c arg2 harg2 arg4 harg4 arg9 a b) (sl.v206 c arg2 harg2 arg4 harg4 arg9 a b) (sl.v208 c arg2 harg2 arg4 harg4 arg9 a b) (sl.v210 c arg2 harg2 arg4 harg4 arg9 a b) (sl.v212 c arg2 harg2 arg4 harg4 arg9 a b)) (ix3 0 r k) = score q a b 3 r k :=
  pay35_apply q a b 3 _ _ _ _ _ _ _ _ _ _ _ (q_read q arg1 harg1 3 (by decide))
    (key_read a b c arg2 harg2 arg4 harg4 arg9 3 0 0 (by decide))
    (key_read a b c arg2 harg2 arg4 harg4 arg9 3 0 1 (by decide))
    (key_read a b c arg2 harg2 arg4 harg4 arg9 3 0 2 (by decide))
    (key_read a b c arg2 harg2 arg4 harg4 arg9 3 0 3 (by decide))
    (key_read a b c arg2 harg2 arg4 harg4 arg9 3 0 4 (by decide))
    (key_read a b c arg2 harg2 arg4 harg4 arg9 3 1 0 (by decide))
    (key_read a b c arg2 harg2 arg4 harg4 arg9 3 1 1 (by decide))
    (key_read a b c arg2 harg2 arg4 harg4 arg9 3 1 2 (by decide))
    (key_read a b c arg2 harg2 arg4 harg4 arg9 3 1 3 (by decide))
    (key_read a b c arg2 harg2 arg4 harg4 arg9 3 1 4 (by decide)) r k

theorem pieces_scores : ∀ p ∈ sl.HS2_4 (F := Ideal) c arg1 harg1 arg2 harg2 arg4 harg4 arg9 q a b, ∀ x, p.2 x = ST q a b (p.1.emb x) := by
  unfold sl.HS2_4
  refine List.forall_mem_cons.2 ⟨fun x => rows_at q a b 3 (by decide) _ (rows3 q a b c arg1 harg1 arg2 harg2 arg4 harg4 arg9) x, ?_⟩
  refine List.forall_mem_cons.2 ⟨fun x => rows_at q a b 2 (by decide) _ (rows2 q a b c arg1 harg1 arg2 harg2 arg4 harg4 arg9) x, ?_⟩
  refine List.forall_mem_cons.2 ⟨fun x => rows_at q a b 1 (by decide) _ (rows1 q a b c arg1 harg1 arg2 harg2 arg4 harg4 arg9) x, ?_⟩
  refine List.forall_mem_cons.2 ⟨fun x => rows_at q a b 0 (by decide) _ (rows0 q a b c arg1 harg1 arg2 harg2 arg4 harg4 arg9) x, ?_⟩
  exact fun p hp => absurd hp List.not_mem_nil
end

/-- An index inside a box that some piece of the list occupies. -/
theorem mem_of_box {s : Shape} {e : EltTy} {Val : EltTy → Type} (L : List (View.Piece Val s e)) (o z : Fin s.rank → ℕ)
    (h : (L.any fun p => decide (∀ i, p.1.off i = o i ∧ p.1.size i = z i ∧ p.1.stride i = 1)) = true) (y : s.Idx)
    (hy : ∀ i, o i ≤ (y i).val ∧ (y i).val < o i + z i) : ∃ p ∈ L, y ∈ p.1.set := by
  obtain ⟨p, hp, hd⟩ := List.any_eq_true.1 h
  refine ⟨p, hp, p.1.mem_set.2 fun i => ?_⟩
  obtain ⟨h1, h2, h3⟩ := of_decide_eq_true hd i
  obtain ⟨y1, y2⟩ := hy i
  exact ⟨(y i).val - o i, by rw [h2]; omega, by rw [h1, h3]; omega⟩

theorem boxes_scores : ((List.finRange 4).all fun hp : Fin 4 => (kernelRun0_A.sl.HS2_4 (F := Ideal) c arg1 harg1 arg2 harg2 arg4 harg4 arg9 q a b).any
    fun p => decide (∀ i, p.1.off i = ![0, hp.val, 0, 0] i ∧ p.1.size i = ![1, 1, 64, 1280] i ∧ p.1.stride i = 1)) = true := by
  sl_kernel_rfl

/-- Every index of the scores' scratch in its lower 64 rows lies in a stored piece. -/
theorem covered_scores (y : S1x4x128x1280.Idx) (h : (y 2).val < 64) : ∃ p ∈ kernelRun0_A.sl.HS2_4 (F := Ideal) c arg1 harg1 arg2 harg2 arg4 harg4 arg9 q a b, y ∈ p.1.set := by
  refine mem_of_box _ ![0, (y 1).val, 0, 0] ![1, 1, 64, 1280] (List.all_eq_true.1 (boxes_scores q a b c arg1 harg1 arg2 harg2 arg4 harg4 arg9) (y 1) (List.mem_finRange _)) y fun i => ?_
  have y0 := (y 0).isLt
  have y3 := (y 3).isLt
  match i with
  | 0 => exact ⟨Nat.zero_le _, y0⟩
  | 1 => exact ⟨le_refl _, by show (y 1).val < (y 1).val + 1; omega⟩
  | 2 => exact ⟨Nat.zero_le _, by show (y 2).val < 0 + 64; omega⟩
  | 3 => exact ⟨Nat.zero_le _, by show (y 3).val < 0 + 1280; change (y 3).val < 1280 at y3; omega⟩

end Cert.Kernel4Ideal.Att

end
-- ==== Proof.AttProbs.lean ====
/- The exponentials as the attention's scratch memory holds them. -/
module

public import proofs.«01_k».proof.Proof.AttScores

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

variable (q : Vec Ideal S1x64x512 .bf16) (a : Vec Ideal S1x512x512 .bf16) (b : Vec Ideal S1x64x512 .f32) (g : Vec Ideal S8x5x128x128 .f32)

/-- A score with its bias: head `2 * hp + k / 640`, row `r`, key `k % 640`. -/
def biased (hp : Fin 4) (r : Fin 64) (k : Fin 1280) : EReal :=
  score q a b hp r k + g (ix4 (⟨hp.val * 2 + k.val / 640, by omega⟩ : Fin 8) (⟨k.val % 640 / 128, by omega⟩ : Fin 5) (⟨r.val, by omega⟩ : Fin 128) (⟨k.val % 128, by omega⟩ : Fin 128))

/-- The exponential of a biased score, less the largest one of its row and head. -/
def weight (hp : Fin 4) (r : Fin 64) (k : Fin 1280) : EReal :=
  FloatOps.exp2 (F := Ideal) (φ := .f32) (biased q a b g hp r k - Finset.fold max (Ideal.ofBits FTy.f32 4286578688#32)
    (fun j : Fin 640 => biased q a b g hp r ⟨k.val / 640 * 640 + j.val, by omega⟩) Finset.univ)

/-- The exponentials' scratch, in its lower 64 rows. -/
def PT (y : S1x4x128x1280.Idx) : EReal :=
  if h : (y 2).val < 64 then weight q a b g (y 1) ⟨(y 2).val, h⟩ (y 3) else 0

theorem biased_of (hp : Fin 4) (half sub : Fin 2) (r : Fin 32) (k : Fin 640) (s : Fin 5) (l : ℕ) (hl : l < 128) (h : k.val = s.val * 128 + l) (x z : EReal)
    (hx : x = score q a b hp ⟨half.val * 32 + r.val, by omega⟩ ⟨sub.val * 640 + k.val, by omega⟩)
    (hz : z = g (ix4 (⟨hp.val * 2 + sub.val, by omega⟩ : Fin 8) s (⟨half.val * 32 + r.val, by omega⟩ : Fin 128) (⟨l, hl⟩ : Fin 128))) :
    x + z = biased q a b g hp ⟨half.val * 32 + r.val, by omega⟩ ⟨sub.val * 640 + k.val, by omega⟩ := by
  subst hx hz
  unfold biased
  refine congrArg (_ + g ·) ?_
  refine funext fun i => Fin.ext ?_
  match i with
  | 0 => show hp.val * 2 + sub.val = hp.val * 2 + (sub.val * 640 + k.val) / 640; omega
  | 1 => show s.val = (sub.val * 640 + k.val) % 640 / 128; omega
  | 2 => rfl
  | 3 => show l = (sub.val * 640 + k.val) % 128; omega

theorem pay72_apply (hp : Fin 4) (half sub : Fin 2) (s : Vec Ideal S1x32x640 .f32) (w0 w1 w2 w3 w4 : Vec Ideal S1x1x32x128 .f32)
    (hs : ∀ r k, s (ix3 0 r k) = score q a b hp ⟨half.val * 32 + r.val, by omega⟩ ⟨sub.val * 640 + k.val, by omega⟩)
    (h0 : ∀ r l, w0 (ix4 0 0 r l) = g (ix4 (⟨hp.val * 2 + sub.val, by omega⟩ : Fin 8) (0 : Fin 5) (⟨half.val * 32 + r.val, by omega⟩ : Fin 128) l))
    (h1 : ∀ r l, w1 (ix4 0 0 r l) = g (ix4 (⟨hp.val * 2 + sub.val, by omega⟩ : Fin 8) (1 : Fin 5) (⟨half.val * 32 + r.val, by omega⟩ : Fin 128) l))
    (h2 : ∀ r l, w2 (ix4 0 0 r l) = g (ix4 (⟨hp.val * 2 + sub.val, by omega⟩ : Fin 8) (2 : Fin 5) (⟨half.val * 32 + r.val, by omega⟩ : Fin 128) l))
    (h3 : ∀ r l, w3 (ix4 0 0 r l) = g (ix4 (⟨hp.val * 2 + sub.val, by omega⟩ : Fin 8) (3 : Fin 5) (⟨half.val * 32 + r.val, by omega⟩ : Fin 128) l))
    (h4 : ∀ r l, w4 (ix4 0 0 r l) = g (ix4 (⟨hp.val * 2 + sub.val, by omega⟩ : Fin 8) (4 : Fin 5) (⟨half.val * 32 + r.val, by omega⟩ : Fin 128) l))
    (r : Fin 32) (k : Fin 640) :
    k0_pay72 s w0 w1 w2 w3 w4 (ix4 0 0 r k) = weight q a b g hp ⟨half.val * 32 + r.val, by omega⟩ ⟨sub.val * 640 + k.val, by omega⟩ := by
  have row : ∀ x : Fin 640, _ = biased q a b g hp ⟨half.val * 32 + r.val, by omega⟩ ⟨sub.val * 640 + x.val, by omega⟩ := fun x =>
    (show (s (ix3 0 r x) +
              if h : x.val < 128 then w0 (ix4 0 0 r ⟨x.val, h⟩)
              else
                if h : x.val - 128 < 128 then w1 (ix4 0 0 r ⟨x.val - 128, h⟩)
                else
                  if h : x.val - 128 - 128 < 128 then w2 (ix4 0 0 r ⟨x.val - 128 - 128, h⟩)
                  else
                    if h : x.val - 128 - 128 - 128 < 128 then w3 (ix4 0 0 r ⟨x.val - 128 - 128 - 128, h⟩)
                    else w4 (ix4 0 0 r ⟨x.val - 128 - 128 - 128 - 128, by omega⟩)) = _ by
      rcases Nat.lt_or_ge x.val 128 with c | c
      · rw [dif_pos c]; exact biased_of q a b g hp half sub r x 0 _ _ (by show x.val = 0 * 128 + x.val; omega) _ _ (hs r x) (h0 _ _)
      rw [dif_neg (by omega)]
      rcases Nat.lt_or_ge (x.val - 128) 128 with c | c
      · rw [dif_pos c]; exact biased_of q a b g hp half sub r x 1 _ _ (by show x.val = 1 * 128 + (x.val - 128); omega) _ _ (hs r x) (h1 _ _)
      rw [dif_neg (by omega)]
      rcases Nat.lt_or_ge (x.val - 128 - 128) 128 with c | c
      · rw [dif_pos c]; exact biased_of q a b g hp half sub r x 2 _ _ (by show x.val = 2 * 128 + (x.val - 128 - 128); omega) _ _ (hs r x) (h2 _ _)
      rw [dif_neg (by omega)]
      rcases Nat.lt_or_ge (x.val - 128 - 128 - 128) 128 with c | c
      · rw [dif_pos c]; exact biased_of q a b g hp half sub r x 3 _ _ (by show x.val = 3 * 128 + (x.val - 128 - 128 - 128); omega) _ _ (hs r x) (h3 _ _)
      rw [dif_neg (by omega)]
      exact biased_of q a b g hp half sub r x 4 _ _ (by show x.val = 4 * 128 + (x.val - 128 - 128 - 128 - 128); omega) _ _ (hs r x) (h4 _ _))
  unfold weight
  pointwise [k0_pay72]
  refine congrArg (FloatOps.exp2 (F := Ideal) (φ := .f32)) (congrArg₂ (· - ·) (row k) ?_)
  refine congrArg (fun f => Finset.fold max _ f Finset.univ) (funext fun x => (row x).trans ?_)
  refine congrArg (biased q a b g hp _) (Fin.ext ?_)
  show sub.val * 640 + x.val = (sub.val * 640 + k.val) / 640 * 640 + x.val
  omega

/-- The box of a scratch at a box of the shape without its unit axis. -/
abbrev liftedL (r : Rect S4x128x1280) : LoadRect S1x4x128x1280 :=
  (Rect.unit (s := S1x4x128x1280) ![0, 0, 0, 0] S1x4x128x1280.size lift_inb).withinL (r.toLoadRect.consLift ![1, 4, 128, 1280] lift_unit lift_sizes) (fun _ => rfl)

theorem along_at (r : Rect S4x128x1280) {V : Type} (hR : r.toLoadRect.shape.numel = (liftedL r).shape.numel) (v : (liftedL r).shape.Idx → V) (x : r.shape.Idx) :
    LoadRect.valAlong (lr := r.toLoadRect) (LR := liftedL r) hR v x = v (Fin.cons ⟨0, Nat.one_pos⟩ x) :=
  congrArg v (Shape.reshapeEquiv_cons_one (d := r.size) _ x)

variable (c : Dev nD) (arg1 : Memref sig .tc .vmem S1x64x512 .bf16) (harg1 : arg1.IsWhole) (arg2 : Memref sig .tc .vmem S1x512x512 .bf16) (harg2 : arg2.IsWhole)
  (arg4 : Memref sig .tc .vmem S1x64x512 .f32) (harg4 : arg4.IsWhole) (arg6 : Memref sig .tc .vmem S8x5x128x128 .f32) (harg6 : arg6.IsWhole)
  (arg9 : Memref sig .tc .vmem S2x5x512x128 .bf16) (arg11 : Memref sig .tc .vmem S1x4x128x1280 .f32)

theorem score_read (hp : Fin 4) (half sub : Fin 2) (inb : ∀ i, ![hp.val, half.val * 32, sub.val * 640] i + S1x32x640.size i ≤ S4x128x1280.size i)
    (hR : (Rect.unit (s := S4x128x1280) ![hp.val, half.val * 32, sub.val * 640] S1x32x640.size inb).toLoadRect.shape.numel = (liftedL (Rect.unit (s := S4x128x1280) ![hp.val, half.val * 32, sub.val * 640] S1x32x640.size inb)).shape.numel)
    (r : Fin 32) (k : Fin 640) :
    LoadRect.valAlong hR (arg11.view.readCov (kernelRun0_A.sl.HS2_4 (F := Ideal) c arg1 harg1 arg2 harg2 arg4 harg4 arg9 q a b) (liftedL (Rect.unit (s := S4x128x1280) ![hp.val, half.val * 32, sub.val * 640] S1x32x640.size inb))) (ix3 0 r k)
      = score q a b hp ⟨half.val * 32 + r.val, by omega⟩ ⟨sub.val * 640 + k.val, by omega⟩ := by
  refine (along_at _ hR _ _).trans ?_
  rw [View.readCov_eq_canon']
  have y1 : ∀ y, y = (liftedL (Rect.unit (s := S4x128x1280) ![hp.val, half.val * 32, sub.val * 640] S1x32x640.size inb)).idx (Fin.cons ⟨0, Nat.one_pos⟩ (ix3 0 r k)) →
      y = (ix4 0 hp (⟨half.val * 32 + r.val, by omega⟩ : Fin 128) (⟨sub.val * 640 + k.val, by omega⟩ : Fin 1280) : S1x4x128x1280.Idx) := by
    rintro y rfl
    refine funext fun i => Fin.ext ?_
    match i with
    | 0 => rfl
    | 1 => show 0 + hp.val + 1 * 0 = hp.val; omega
    | 2 => show 0 + half.val * 32 + 1 * r.val = half.val * 32 + r.val; omega
    | 3 => show 0 + sub.val * 640 + 1 * k.val = sub.val * 640 + k.val; omega
  refine (congrArg _ (y1 _ rfl)).trans ?_
  refine (View.canon_apply_of_pieces (ST q a b) _ (pieces_scores q a b c arg1 harg1 arg2 harg2 arg4 harg4 arg9) _ (covered_scores q a b c arg1 harg1 arg2 harg2 arg4 harg4 arg9 _ (by show half.val * 32 + r.val < 64; omega))).trans ?_
  unfold ST
  exact dif_pos _

theorem bias_read (hp : Fin 4) (half sub : Fin 2) (s : Fin 5) (inb : ∀ i, ![hp.val * 2 + sub.val, s.val, half.val * 32, 0] i + S1x1x32x128.size i ≤ S8x5x128x128.size i)
    (r : Fin 32) (l : Fin 128) :
    View.readAt (Elt Ideal) arg6.view (Rect.unit (s := S8x5x128x128) ![hp.val * 2 + sub.val, s.val, half.val * 32, 0] S1x1x32x128.size inb).toLoadRect (harg6.unread g) (ix4 0 0 r l)
      = g (ix4 (⟨hp.val * 2 + sub.val, by omega⟩ : Fin 8) s (⟨half.val * 32 + r.val, by omega⟩ : Fin 128) l) := by
  rw [View.readAt_eq_ld, harg6.read_unread]
  refine congrArg g (funext fun i => Fin.ext ?_)
  match i with
  | 0 => show hp.val * 2 + sub.val + 1 * 0 = hp.val * 2 + sub.val; omega
  | 1 => show s.val + 1 * 0 = s.val; omega
  | 2 => show half.val * 32 + 1 * r.val = half.val * 32 + r.val; omega
  | 3 => show 0 + 1 * l.val = l.val; omega

/-- A piece of the exponentials' scratch: 32 rows of one head. -/
theorem block_at (hp : Fin 4) (half sub : Fin 2) (inb : ∀ i, ![0, hp.val, half.val * 32, sub.val * 640] i + S1x1x32x640.size i ≤ S1x4x128x1280.size i) (w : Vec Ideal S1x1x32x640 .bf16)
    (hw : ∀ r k, w (ix4 0 0 r k) = weight q a b g hp ⟨half.val * 32 + r.val, by omega⟩ ⟨sub.val * 640 + k.val, by omega⟩)
    (x : (Rect.unit (s := S1x4x128x1280) ![0, hp.val, half.val * 32, sub.val * 640] S1x1x32x640.size inb).shape.Idx) :
    w x = PT q a b g ((Rect.unit (s := S1x4x128x1280) ![0, hp.val, half.val * 32, sub.val * 640] S1x1x32x640.size inb).emb x) := by
  have x0 := (x 0).isLt
  change (x 0).val < 1 at x0
  have x1 := (x 1).isLt
  change (x 1).val < 1 at x1
  have x2 := (x 2).isLt
  change (x 2).val < 32 at x2
  have hx : x = (ix4 0 0 (x 2 : Fin 32) (x 3 : Fin 640) : S1x1x32x640.Idx) := by
    refine funext fun i => Fin.ext ?_
    match i with
    | 0 => show (x 0).val = 0; omega
    | 1 => show (x 1).val = 0; omega
    | 2 => rfl
    | 3 => rfl
  refine (congrArg w hx).trans ((hw _ _).trans ?_)
  generalize hy : (Rect.unit (s := S1x4x128x1280) ![0, hp.val, half.val * 32, sub.val * 640] S1x1x32x640.size inb).emb x = y
  have y1 : (y 1) = hp := Fin.ext (by rw [← hy]; show hp.val + 1 * (x 1).val = hp.val; omega)
  have y2 : (y 2).val = half.val * 32 + (x 2).val := by rw [← hy]; show half.val * 32 + 1 * (x 2).val = _; omega
  have y3 : (y 3).val = sub.val * 640 + (x 3).val := by rw [← hy]; show sub.val * 640 + 1 * (x 3).val = _; omega
  unfold PT
  rw [dif_pos (by rw [y2]; omega), y1]
  exact congrArg₂ (weight q a b g hp) (Fin.ext y2.symm) (Fin.ext y3.symm)

/-- The exponentials' block of 32 rows of one head, from the scores and the biases read back. -/
theorem block (hp : Fin 4) (half sub : Fin 2) (inb : ∀ i, ![hp.val, half.val * 32, sub.val * 640] i + S1x32x640.size i ≤ S4x128x1280.size i)
    (hR : (Rect.unit (s := S4x128x1280) ![hp.val, half.val * 32, sub.val * 640] S1x32x640.size inb).toLoadRect.shape.numel = (liftedL (Rect.unit (s := S4x128x1280) ![hp.val, half.val * 32, sub.val * 640] S1x32x640.size inb)).shape.numel)
    (inb0 : ∀ i, ![hp.val * 2 + sub.val, 0, half.val * 32, 0] i + S1x1x32x128.size i ≤ S8x5x128x128.size i)
    (inb1 : ∀ i, ![hp.val * 2 + sub.val, 1, half.val * 32, 0] i + S1x1x32x128.size i ≤ S8x5x128x128.size i)
    (inb2 : ∀ i, ![hp.val * 2 + sub.val, 2, half.val * 32, 0] i + S1x1x32x128.size i ≤ S8x5x128x128.size i)
    (inb3 : ∀ i, ![hp.val * 2 + sub.val, 3, half.val * 32, 0] i + S1x1x32x128.size i ≤ S8x5x128x128.size i)
    (inb4 : ∀ i, ![hp.val * 2 + sub.val, 4, half.val * 32, 0] i + S1x1x32x128.size i ≤ S8x5x128x128.size i) (r : Fin 32) (k : Fin 640) :
    k0_pay72 (LoadRect.valAlong hR (arg11.view.readCov (kernelRun0_A.sl.HS2_4 (F := Ideal) c arg1 harg1 arg2 harg2 arg4 harg4 arg9 q a b) (liftedL (Rect.unit (s := S4x128x1280) ![hp.val, half.val * 32, sub.val * 640] S1x32x640.size inb))))
      (View.readAt (Elt Ideal) arg6.view (Rect.unit (s := S8x5x128x128) ![hp.val * 2 + sub.val, 0, half.val * 32, 0] S1x1x32x128.size inb0).toLoadRect (harg6.unread g))
      (View.readAt (Elt Ideal) arg6.view (Rect.unit (s := S8x5x128x128) ![hp.val * 2 + sub.val, 1, half.val * 32, 0] S1x1x32x128.size inb1).toLoadRect (harg6.unread g))
      (View.readAt (Elt Ideal) arg6.view (Rect.unit (s := S8x5x128x128) ![hp.val * 2 + sub.val, 2, half.val * 32, 0] S1x1x32x128.size inb2).toLoadRect (harg6.unread g))
      (View.readAt (Elt Ideal) arg6.view (Rect.unit (s := S8x5x128x128) ![hp.val * 2 + sub.val, 3, half.val * 32, 0] S1x1x32x128.size inb3).toLoadRect (harg6.unread g))
      (View.readAt (Elt Ideal) arg6.view (Rect.unit (s := S8x5x128x128) ![hp.val * 2 + sub.val, 4, half.val * 32, 0] S1x1x32x128.size inb4).toLoadRect (harg6.unread g)) (ix4 0 0 r k)
      = weight q a b g hp ⟨half.val * 32 + r.val, by omega⟩ ⟨sub.val * 640 + k.val, by omega⟩ :=
  pay72_apply q a b g hp half sub _ _ _ _ _ _ (score_read q a b c arg1 harg1 arg2 harg2 arg4 harg4 arg9 arg11 hp half sub inb hR)
    (bias_read g arg6 harg6 hp half sub 0 inb0) (bias_read g arg6 harg6 hp half sub 1 inb1) (bias_read g arg6 harg6 hp half sub 2 inb2)
    (bias_read g arg6 harg6 hp half sub 3 inb3) (bias_read g arg6 harg6 hp half sub 4 inb4) r k

theorem boxes_probs : ((List.finRange 4).all fun hp : Fin 4 => (List.finRange 2).all fun half : Fin 2 => (List.finRange 2).all fun sub : Fin 2 =>
    (kernelRun0_A.sl.HS3_16 (F := Ideal) c arg1 harg1 arg2 harg2 arg4 harg4 arg6 harg6 arg9 arg11 q a b g).any
    fun p => decide (∀ i, p.1.off i = ![0, hp.val, half.val * 32, sub.val * 640] i ∧ p.1.size i = ![1, 1, 32, 640] i ∧ p.1.stride i = 1)) = true := by
  sl_kernel_rfl

/-- Every index of the exponentials' scratch in its lower 64 rows lies in a stored piece. -/
theorem covered_probs (y : S1x4x128x1280.Idx) (h : (y 2).val < 64) :
    ∃ p ∈ kernelRun0_A.sl.HS3_16 (F := Ideal) c arg1 harg1 arg2 harg2 arg4 harg4 arg6 harg6 arg9 arg11 q a b g, y ∈ p.1.set := by
  have y0 := (y 0).isLt
  have y3 := (y 3).isLt
  change (y 3).val < 1280 at y3
  have box := boxes_probs q a b g c arg1 harg1 arg2 harg2 arg4 harg4 arg6 harg6 arg9 arg11
  have box := List.all_eq_true.1 (List.all_eq_true.1 (List.all_eq_true.1 box (y 1) (List.mem_finRange _))
    (⟨(y 2).val / 32, by omega⟩ : Fin 2) (List.mem_finRange _)) (⟨(y 3).val / 640, by omega⟩ : Fin 2) (List.mem_finRange _)
  refine mem_of_box _ _ _ box y fun i => ?_
  match i with
  | 0 => exact ⟨Nat.zero_le _, y0⟩
  | 1 => exact ⟨le_refl _, by show (y 1).val < (y 1).val + 1; omega⟩
  | 2 => exact ⟨by show (y 2).val / 32 * 32 ≤ (y 2).val; omega, by show (y 2).val < (y 2).val / 32 * 32 + 32; omega⟩
  | 3 => exact ⟨by show (y 3).val / 640 * 640 ≤ (y 3).val; omega, by show (y 3).val < (y 3).val / 640 * 640 + 640; omega⟩

end Cert.Kernel4Ideal.Att

end
-- ==== Proof.AttPieces.lean ====
/- The exponentials the attention stores, piece by piece. -/
module

public import proofs.«01_k».proof.Proof.AttProbs

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

section
theorem pay73_eq (s : Vec Ideal S1x32x640 .f32) (w0 w1 w2 w3 w4 : Vec Ideal S1x1x32x128 .f32) :
    k0_pay73 s w0 w1 w2 w3 w4 = k0_pay72 s w0 w1 w2 w3 w4 := by
  unfold k0_pay73 k0_pay72
  rfl

theorem pay75_eq (s : Vec Ideal S1x32x640 .f32) (w0 w1 w2 w3 w4 : Vec Ideal S1x1x32x128 .f32) :
    k0_pay75 (k0_pay74 s w0 w1 w2 w3 w4) = k0_pay72 s w0 w1 w2 w3 w4 := by
  unfold k0_pay75 k0_pay74 k0_pay72
  rfl

theorem pay77_eq (s : Vec Ideal S1x32x640 .f32) (w0 w1 w2 w3 w4 : Vec Ideal S1x1x32x128 .f32) :
    k0_pay77 (k0_pay76 s w0 w1 w2 w3 w4) = k0_pay72 s w0 w1 w2 w3 w4 := by
  unfold k0_pay77 k0_pay76 k0_pay72
  rfl

theorem pay79_eq (s : Vec Ideal S1x32x640 .f32) (w0 w1 w2 w3 w4 : Vec Ideal S1x1x32x128 .f32) :
    k0_pay79 (k0_pay78 s w0 w1 w2 w3 w4) = k0_pay72 s w0 w1 w2 w3 w4 := by
  unfold k0_pay79 k0_pay78 k0_pay72
  rfl

theorem pay82_eq (s : Vec Ideal S1x32x640 .f32) (w0 w1 w2 w3 w4 : Vec Ideal S1x1x32x128 .f32) :
    k0_pay82 (k0_pay80 s w0 w1 w2 w3 w4) (k0_pay81 s w0 w1 w2 w3 w4) = k0_pay72 s w0 w1 w2 w3 w4 := by
  unfold k0_pay82 k0_pay81 k0_pay80 k0_pay72
  rfl

theorem pay84_eq (s : Vec Ideal S1x32x640 .f32) (w0 w1 w2 w3 w4 : Vec Ideal S1x1x32x128 .f32) :
    k0_pay84 (k0_pay83 s w0 w1 w2 w3 w4) = k0_pay72 s w0 w1 w2 w3 w4 := by
  unfold k0_pay84 k0_pay83 k0_pay72
  rfl

end

variable (q : Vec Ideal S1x64x512 .bf16) (a : Vec Ideal S1x512x512 .bf16) (b : Vec Ideal S1x64x512 .f32) (g : Vec Ideal S8x5x128x128 .f32)

variable (c : Dev nD) (arg1 : Memref sig .tc .vmem S1x64x512 .bf16) (harg1 : arg1.IsWhole) (arg2 : Memref sig .tc .vmem S1x512x512 .bf16) (harg2 : arg2.IsWhole)
  (arg4 : Memref sig .tc .vmem S1x64x512 .f32) (harg4 : arg4.IsWhole) (arg6 : Memref sig .tc .vmem S8x5x128x128 .f32) (harg6 : arg6.IsWhole)
  (arg9 : Memref sig .tc .vmem S2x5x512x128 .bf16) (arg11 : Memref sig .tc .vmem S1x4x128x1280 .f32)

section
open kernelRun0_A

theorem piece_2_1_0 (r : Fin 32) (k : Fin 640) : (k0_pay82 (sl.r_47 (F := Ideal) c arg1 harg1 arg2 harg2 arg4 harg4 arg6 harg6 arg9 arg11 q a b g) (sl.r_48 (F := Ideal) c arg1 harg1 arg2 harg2 arg4 harg4 arg6 harg6 arg9 arg11 q a b g)) (ix4 0 0 r k)
      = weight q a b g 2 ⟨((1 : Fin 2)).val * 32 + r.val, by omega⟩ ⟨((0 : Fin 2)).val * 640 + k.val, by omega⟩ := by
  unfold sl.r_47 sl.r_48 sl.v466
  refine (congrFun (pay82_eq _ _ _ _ _ _) _).trans ?_
  exact block q a b g c arg1 harg1 arg2 harg2 arg4 harg4 arg6 harg6 arg9 arg11 2 1 0 (by decide) (by decide) (by decide) (by decide) (by decide) (by decide) (by decide) r k

theorem piece_2_0_1 (r : Fin 32) (k : Fin 640) : (k0_pay84 (sl.r_49 (F := Ideal) c arg1 harg1 arg2 harg2 arg4 harg4 arg6 harg6 arg9 arg11 q a b g)) (ix4 0 0 r k)
      = weight q a b g 2 ⟨((0 : Fin 2)).val * 32 + r.val, by omega⟩ ⟨((1 : Fin 2)).val * 640 + k.val, by omega⟩ := by
  unfold sl.r_49 sl.v493
  refine (congrFun (pay84_eq _ _ _ _ _ _) _).trans ?_
  exact block q a b g c arg1 harg1 arg2 harg2 arg4 harg4 arg6 harg6 arg9 arg11 2 0 1 (by decide) (by decide) (by decide) (by decide) (by decide) (by decide) (by decide) r k

theorem piece_2_0_0 (r : Fin 32) (k : Fin 640) : (k0_pay79 (sl.r_46 (F := Ideal) c arg1 harg1 arg2 harg2 arg4 harg4 arg6 harg6 arg9 arg11 q a b g)) (ix4 0 0 r k)
      = weight q a b g 2 ⟨((0 : Fin 2)).val * 32 + r.val, by omega⟩ ⟨((0 : Fin 2)).val * 640 + k.val, by omega⟩ := by
  unfold sl.r_46 sl.v439
  refine (congrFun (pay79_eq _ _ _ _ _ _) _).trans ?_
  exact block q a b g c arg1 harg1 arg2 harg2 arg4 harg4 arg6 harg6 arg9 arg11 2 0 0 (by decide) (by decide) (by decide) (by decide) (by decide) (by decide) (by decide) r k

theorem piece_1_1_1 (r : Fin 32) (k : Fin 640) : (k0_pay77 (sl.r_45 (F := Ideal) c arg1 harg1 arg2 harg2 arg4 harg4 arg6 harg6 arg9 arg11 q a b g)) (ix4 0 0 r k)
      = weight q a b g 1 ⟨((1 : Fin 2)).val * 32 + r.val, by omega⟩ ⟨((1 : Fin 2)).val * 640 + k.val, by omega⟩ := by
  unfold sl.r_45 sl.v412
  refine (congrFun (pay77_eq _ _ _ _ _ _) _).trans ?_
  exact block q a b g c arg1 harg1 arg2 harg2 arg4 harg4 arg6 harg6 arg9 arg11 1 1 1 (by decide) (by decide) (by decide) (by decide) (by decide) (by decide) (by decide) r k

theorem piece_1_0_1 (r : Fin 32) (k : Fin 640) : (k0_pay75 (sl.r_44 (F := Ideal) c arg1 harg1 arg2 harg2 arg4 harg4 arg6 harg6 arg9 arg11 q a b g)) (ix4 0 0 r k)
      = weight q a b g 1 ⟨((0 : Fin 2)).val * 32 + r.val, by omega⟩ ⟨((1 : Fin 2)).val * 640 + k.val, by omega⟩ := by
  unfold sl.r_44 sl.v385
  refine (congrFun (pay75_eq _ _ _ _ _ _) _).trans ?_
  exact block q a b g c arg1 harg1 arg2 harg2 arg4 harg4 arg6 harg6 arg9 arg11 1 0 1 (by decide) (by decide) (by decide) (by decide) (by decide) (by decide) (by decide) r k

theorem piece_1_1_0 (r : Fin 32) (k : Fin 640) : (sl.r_43 (F := Ideal) c arg1 harg1 arg2 harg2 arg4 harg4 arg6 harg6 arg9 arg11 q a b g) (ix4 0 0 r k)
      = weight q a b g 1 ⟨((1 : Fin 2)).val * 32 + r.val, by omega⟩ ⟨((0 : Fin 2)).val * 640 + k.val, by omega⟩ := by
  unfold sl.r_43 sl.v358
  refine (congrFun (pay73_eq _ _ _ _ _ _) _).trans ?_
  exact block q a b g c arg1 harg1 arg2 harg2 arg4 harg4 arg6 harg6 arg9 arg11 1 1 0 (by decide) (by decide) (by decide) (by decide) (by decide) (by decide) (by decide) r k

set_option maxHeartbeats 1000000 in
theorem pieces_probs : ∀ p ∈ sl.HS3_16 (F := Ideal) c arg1 harg1 arg2 harg2 arg4 harg4 arg6 harg6 arg9 arg11 q a b g, ∀ x, p.2 x = PT q a b g (p.1.emb x) := by
  unfold sl.HS3_16
  have blk := fun (hp : Fin 4) (half sub : Fin 2) inb hR => block q a b g c arg1 harg1 arg2 harg2 arg4 harg4 arg6 harg6 arg9 arg11 hp half sub inb hR
  refine List.forall_mem_cons.2 ⟨fun x => block_at q a b g 3 1 1 (by decide) _ (fun r k => blk 3 1 1 (by decide) (by decide) (by decide) (by decide) (by decide) (by decide) (by decide) r k) x, ?_⟩
  refine List.forall_mem_cons.2 ⟨fun x => block_at q a b g 3 0 1 (by decide) _ (fun r k => blk 3 0 1 (by decide) (by decide) (by decide) (by decide) (by decide) (by decide) (by decide) r k) x, ?_⟩
  refine List.forall_mem_cons.2 ⟨fun x => block_at q a b g 3 1 0 (by decide) _ (fun r k => blk 3 1 0 (by decide) (by decide) (by decide) (by decide) (by decide) (by decide) (by decide) r k) x, ?_⟩
  refine List.forall_mem_cons.2 ⟨fun x => block_at q a b g 3 0 0 (by decide) _ (fun r k => blk 3 0 0 (by decide) (by decide) (by decide) (by decide) (by decide) (by decide) (by decide) r k) x, ?_⟩
  refine List.forall_mem_cons.2 ⟨fun x => block_at q a b g 2 1 1 (by decide) _ (fun r k => blk 2 1 1 (by decide) (by decide) (by decide) (by decide) (by decide) (by decide) (by decide) r k) x, ?_⟩
  refine List.forall_mem_cons.2 ⟨fun x => block_at q a b g 2 0 1 (by decide) _ (fun r k => piece_2_0_1 q a b g c arg1 harg1 arg2 harg2 arg4 harg4 arg6 harg6 arg9 arg11 r k) x, ?_⟩
  refine List.forall_mem_cons.2 ⟨fun x => block_at q a b g 2 1 0 (by decide) _ (fun r k => piece_2_1_0 q a b g c arg1 harg1 arg2 harg2 arg4 harg4 arg6 harg6 arg9 arg11 r k) x, ?_⟩
  refine List.forall_mem_cons.2 ⟨fun x => block_at q a b g 2 0 0 (by decide) _ (fun r k => piece_2_0_0 q a b g c arg1 harg1 arg2 harg2 arg4 harg4 arg6 harg6 arg9 arg11 r k) x, ?_⟩
  refine List.forall_mem_cons.2 ⟨fun x => block_at q a b g 1 1 1 (by decide) _ (fun r k => piece_1_1_1 q a b g c arg1 harg1 arg2 harg2 arg4 harg4 arg6 harg6 arg9 arg11 r k) x, ?_⟩
  refine List.forall_mem_cons.2 ⟨fun x => block_at q a b g 1 0 1 (by decide) _ (fun r k => piece_1_0_1 q a b g c arg1 harg1 arg2 harg2 arg4 harg4 arg6 harg6 arg9 arg11 r k) x, ?_⟩
  refine List.forall_mem_cons.2 ⟨fun x => block_at q a b g 1 1 0 (by decide) _ (fun r k => piece_1_1_0 q a b g c arg1 harg1 arg2 harg2 arg4 harg4 arg6 harg6 arg9 arg11 r k) x, ?_⟩
  refine List.forall_mem_cons.2 ⟨fun x => block_at q a b g 1 0 0 (by decide) _ (fun r k => blk 1 0 0 (by decide) (by decide) (by decide) (by decide) (by decide) (by decide) (by decide) r k) x, ?_⟩
  refine List.forall_mem_cons.2 ⟨fun x => block_at q a b g 0 1 1 (by decide) _ (fun r k => blk 0 1 1 (by decide) (by decide) (by decide) (by decide) (by decide) (by decide) (by decide) r k) x, ?_⟩
  refine List.forall_mem_cons.2 ⟨fun x => block_at q a b g 0 0 1 (by decide) _ (fun r k => blk 0 0 1 (by decide) (by decide) (by decide) (by decide) (by decide) (by decide) (by decide) r k) x, ?_⟩
  refine List.forall_mem_cons.2 ⟨fun x => block_at q a b g 0 1 0 (by decide) _ (fun r k => blk 0 1 0 (by decide) (by decide) (by decide) (by decide) (by decide) (by decide) (by decide) r k) x, ?_⟩
  refine List.forall_mem_cons.2 ⟨fun x => block_at q a b g 0 0 0 (by decide) _ (fun r k => blk 0 0 0 (by decide) (by decide) (by decide) (by decide) (by decide) (by decide) (by decide) r k) x, ?_⟩
  exact fun p hp => absurd hp List.not_mem_nil
end

end Cert.Kernel4Ideal.Att

end
-- ==== Proof.AttOut.lean ====
/- The attention's output block. -/
module

public import proofs.«01_k».proof.Proof.AttProbs

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

theorem below (l : Fin 128) : IntOp.cmpi CmpIPredicate.slt (BitVec.ofNat 32 l.val) 64#32 = if l.val / 64 = 0 then 1#1 else 0#1 := by
  revert l; decide +kernel

theorem pay110_apply (k : Fin 1280) (l : Fin 128) : k0_pay110 (F := Ideal) (ix2 k l) = if k.val / 640 = l.val / 64 then 1 else 0 := by
  pointwise [k0_pay110]
  rw [below]
  have hl := l.isLt
  rcases Nat.lt_or_ge k.val 640 with h | h <;> rcases Nat.lt_or_ge l.val 64 with h' | h'
  · rw [dif_pos h, if_pos (show l.val / 64 = 0 by omega), if_pos (show k.val / 640 = l.val / 64 by omega)]; rfl
  · rw [dif_pos h, if_neg (show ¬l.val / 64 = 0 by omega), if_neg (show ¬k.val / 640 = l.val / 64 by omega)]; rfl
  · rw [dif_neg (by omega), if_pos (show l.val / 64 = 0 by omega), if_neg (show ¬k.val / 640 = l.val / 64 by omega)]; rfl
  · rw [dif_neg (by omega), if_neg (show ¬l.val / 64 = 0 by omega), if_pos (show k.val / 640 = l.val / 64 by omega)]; rfl

variable (q : Vec Ideal S1x64x512 .bf16) (a a' : Vec Ideal S1x512x512 .bf16) (b b' : Vec Ideal S1x64x512 .f32) (g : Vec Ideal S8x5x128x128 .f32)

/-- The sum of a function of the 1280 keys that vanishes off the keys of one head. -/
theorem sum_half (f : Fin 1280 → EReal) (e : Fin 2) (h : ∀ k : Fin 1280, ¬k.val / 640 = e.val → f k = 0) :
    ∑ k, f k = ∑ j : Fin 640, f ⟨e.val * 640 + j.val, by omega⟩ := by
  have hs : ∑ k, f k = ∑ j : Fin 640, f ⟨j.val, by omega⟩ + ∑ j : Fin 640, f ⟨640 + j.val, by omega⟩ := Fin.sum_univ_add (a := 640) (b := 640) f
  rw [hs]
  match e with
  | 0 =>
    rw [Finset.sum_eq_zero (s := Finset.univ) (f := fun j : Fin 640 => f ⟨640 + j.val, by omega⟩) (fun j _ => h _ (by show ¬(640 + j.val) / 640 = 0; omega)), add_zero]
    exact Finset.sum_congr rfl fun j _ => congrArg f (Fin.ext (by show j.val = 0 * 640 + j.val; omega))
  | 1 =>
    rw [Finset.sum_eq_zero (s := Finset.univ) (f := fun j : Fin 640 => f ⟨j.val, by omega⟩) (fun j _ => h _ (by show ¬j.val / 640 = 1; omega)), zero_add]
    exact Finset.sum_congr rfl fun j _ => congrArg f (Fin.ext (by show 640 + j.val = 1 * 640 + j.val; omega))

/-- One lane of the attention before its normalization: the weighted values of its head, over the sum of the weights. -/
def attended (r : Fin 64) (n : Fin 512) : EReal :=
  (∑ j : Fin 640, weight q a b g ⟨n.val / 128, by omega⟩ r ⟨n.val / 64 % 2 * 640 + j.val, by omega⟩ * rowAt a' b' j.val n)
    * Ideal.div 1 (∑ j : Fin 640, weight q a b g ⟨n.val / 128, by omega⟩ r ⟨n.val / 64 % 2 * 640 + j.val, by omega⟩)

theorem lane_lt (hp : Fin 4) (l : Fin 128) : hp.val * 128 + l.val < 512 := by omega

theorem pay111_apply (hp : Fin 4) (p : Vec Ideal S1x64x1280 .bf16) (v0 v1 : Vec Ideal S1x640x128 .bf16)
    (hw : ∀ r k, p (ix3 0 r k) = weight q a b g hp r k)
    (h0 : ∀ j l, v0 (ix3 0 j l) = VT a' b' (ix3 0 j (⟨hp.val * 128 + l.val, by omega⟩ : Fin 512)))
    (h1 : ∀ j l, v1 (ix3 0 j l) = VT a' b' (ix3 1 j (⟨hp.val * 128 + l.val, by omega⟩ : Fin 512)))
    (r : Fin 64) (l : Fin 128) (n : Fin 512) (hn : n.val = hp.val * 128 + l.val) :
    k0_pay111 k0_pay110 p v0 v1 (ix2 r l) = attended q a a' b b' g r n := by
  obtain rfl : n = ⟨hp.val * 128 + l.val, lane_lt hp l⟩ := Fin.ext hn
  have hl := l.isLt
  have hd : (hp.val * 128 + l.val) / 128 = hp.val := by omega
  have hm : (hp.val * 128 + l.val) / 64 % 2 = l.val / 64 := by omega
  have hq : (⟨(hp.val * 128 + l.val) / 128, by omega⟩ : Fin 4) = hp := Fin.ext hd
  have he : l.val / 64 = (⟨l.val / 64, by omega⟩ : Fin 2).val := rfl
  have hden : ∑ x, p (ix3 0 r x) * k0_pay110 (F := Ideal) (ix2 x l) = ∑ j : Fin 640, weight q a b g hp r ⟨l.val / 64 * 640 + j.val, by omega⟩ := by
    refine (sum_half _ ⟨l.val / 64, by omega⟩ fun k hk => ?_).trans (Finset.sum_congr rfl fun j _ => ?_)
    · rw [pay110_apply, if_neg hk, mul_zero]
    · rw [pay110_apply, if_pos (by show (l.val / 64 * 640 + j.val) / 640 = l.val / 64; omega), mul_one, hw]
  have hnum : ∑ x : Fin 640, p (ix3 0 r ⟨x.val, by omega⟩) * v0 (ix3 0 x l) + ∑ x : Fin 640, p (ix3 0 r ⟨640 + x.val, by omega⟩) * v1 (ix3 0 x l)
      = ∑ j : Fin 640, weight q a b g hp r ⟨l.val / 64 * 640 + j.val, by omega⟩ * rowAt a' b' j.val ⟨hp.val * 128 + l.val, by omega⟩ := by
    simp only [hw, h0, h1, VT]
    rcases Nat.lt_or_ge l.val 64 with c | c
    · have hz : l.val / 64 = 0 := by omega
      have t0 : ∀ x : Fin 640, (if (hp.val * 128 + l.val) / 64 % 2 = 0 then rowAt a' b' x.val ⟨hp.val * 128 + l.val, by omega⟩ else 0) = rowAt a' b' x.val ⟨hp.val * 128 + l.val, by omega⟩ := fun x => if_pos (by omega)
      have t1 : ∀ x : Fin 640, (if (hp.val * 128 + l.val) / 64 % 2 = 1 then rowAt a' b' x.val ⟨hp.val * 128 + l.val, by omega⟩ else 0) = 0 := fun x => if_neg (by omega)
      refine (congrArg₂ (· + ·) (Finset.sum_congr rfl fun x _ => congrArg (_ * ·) (t0 x)) (Finset.sum_eq_zero fun x _ => (congrArg (_ * ·) (t1 x)).trans (mul_zero _))).trans ?_
      rw [add_zero]
      exact Finset.sum_congr rfl fun x _ => congrArg (weight q a b g hp r · * _) (Fin.ext (by show x.val = l.val / 64 * 640 + x.val; omega))
    · have hz : l.val / 64 = 1 := by omega
      have t0 : ∀ x : Fin 640, (if (hp.val * 128 + l.val) / 64 % 2 = 0 then rowAt a' b' x.val ⟨hp.val * 128 + l.val, by omega⟩ else 0) = 0 := fun x => if_neg (by omega)
      have t1 : ∀ x : Fin 640, (if (hp.val * 128 + l.val) / 64 % 2 = 1 then rowAt a' b' x.val ⟨hp.val * 128 + l.val, by omega⟩ else 0) = rowAt a' b' x.val ⟨hp.val * 128 + l.val, by omega⟩ := fun x => if_pos (by omega)
      refine (congrArg₂ (· + ·) (Finset.sum_eq_zero fun x _ => (congrArg (_ * ·) (t0 x)).trans (mul_zero _)) (Finset.sum_congr rfl fun x _ => congrArg (_ * ·) (t1 x))).trans ?_
      rw [zero_add]
      exact Finset.sum_congr rfl fun x _ => congrArg (weight q a b g hp r · * _) (Fin.ext (by show 640 + x.val = l.val / 64 * 640 + x.val; omega))
  have hat : attended q a a' b b' g r ⟨hp.val * 128 + l.val, by omega⟩ = (∑ j : Fin 640, weight q a b g hp r ⟨l.val / 64 * 640 + j.val, by omega⟩ * rowAt a' b' j.val ⟨hp.val * 128 + l.val, by omega⟩)
      * Ideal.div 1 (∑ j : Fin 640, weight q a b g hp r ⟨l.val / 64 * 640 + j.val, by omega⟩) := by
    unfold attended
    simp only [hm, hq]
  rw [hat, ← hnum, ← hden]
  pointwise [k0_pay111]

/-- A lane's normalization by the root mean square of its row. -/
def normed (f : Fin 512 → EReal) (w : EReal) (n : Fin 512) : EReal :=
  f n * Ideal.rsqrt (Ideal.div (∑ x, f x * f x) (Ideal.ofBits FTy.f32 1140850688#32) + Ideal.ofBits FTy.f32 897988541#32) * w

theorem pay1_apply (f : Fin 512 → EReal) (v0 v1 v2 v3 v4 : FVec Ideal S64x128 .f32) (g : Vec Ideal S1x512 .f32) (r : Fin 64)
    (h0 : ∀ (l : Fin 128) (n : Fin 512), n.val = 0 * 128 + l.val → v0 (ix2 r l) = f n)
    (h1 : ∀ (l : Fin 128) (n : Fin 512), n.val = 1 * 128 + l.val → v1 (ix2 r l) = f n)
    (h2 : ∀ (l : Fin 128) (n : Fin 512), n.val = 2 * 128 + l.val → v2 (ix2 r l) = f n)
    (h3 : ∀ (l : Fin 128) (n : Fin 512), n.val = 3 * 128 + l.val → v3 (ix2 r l) * v4 (ix2 r l) = f n) (n : Fin 512) :
    k0_pay1 v0 v1 v2 v3 v4 g (ix3 0 r n) = normed f (g (ix2 0 n)) n := by
  have row : ∀ n : Fin 512, (if h : n.val < 128 then v0 (ix2 r ⟨n.val, h⟩)
        else
          if h : n.val - 128 < 128 then v1 (ix2 r ⟨n.val - 128, h⟩)
          else
            if h : n.val - 128 - 128 < 128 then v2 (ix2 r ⟨n.val - 128 - 128, h⟩)
            else v3 (ix2 r ⟨n.val - 128 - 128 - 128, by omega⟩) * v4 (ix2 r ⟨n.val - 128 - 128 - 128, by omega⟩)) = f n := fun n => by
    rcases Nat.lt_or_ge n.val 128 with c | c
    · rw [dif_pos c]; exact h0 _ n (by show n.val = 0 * 128 + n.val; omega)
    rw [dif_neg (by omega)]
    rcases Nat.lt_or_ge (n.val - 128) 128 with c | c
    · rw [dif_pos c]; exact h1 _ n (by show n.val = 1 * 128 + (n.val - 128); omega)
    rw [dif_neg (by omega)]
    rcases Nat.lt_or_ge (n.val - 128 - 128) 128 with c | c
    · rw [dif_pos c]; exact h2 _ n (by show n.val = 2 * 128 + (n.val - 128 - 128); omega)
    rw [dif_neg (by omega)]
    exact h3 _ n (by show n.val = 3 * 128 + (n.val - 128 - 128 - 128); omega)
  unfold normed
  pointwise [k0_pay1]
  simp only [row]

end Cert.Kernel4Ideal.Att

end
-- ==== Proof.AttBlock.lean ====
/- What one point of the attention leaves in its output block. -/
module

public import proofs.«01_k».proof.Proof.AttPieces
public import proofs.«01_k».proof.Proof.AttOut
public import proofs.«01_k».proof.Proof.Gen.Kernel4Ideal.Frame

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

section Read

variable (q : Vec Ideal S1x64x512 .bf16) (a a' : Vec Ideal S1x512x512 .bf16) (b b' : Vec Ideal S1x64x512 .f32) (g : Vec Ideal S8x5x128x128 .f32)
variable (c : Dev nD) (arg1 : Memref sig .tc .vmem S1x64x512 .bf16) (harg1 : arg1.IsWhole) (arg2 : Memref sig .tc .vmem S1x512x512 .bf16) (harg2 : arg2.IsWhole)
  (arg3 : Memref sig .tc .vmem S1x512x512 .bf16) (harg3 : arg3.IsWhole)
  (arg4 : Memref sig .tc .vmem S1x64x512 .f32) (harg4 : arg4.IsWhole) (arg5 : Memref sig .tc .vmem S1x64x512 .f32) (harg5 : arg5.IsWhole)
  (arg6 : Memref sig .tc .vmem S8x5x128x128 .f32) (harg6 : arg6.IsWhole)
  (arg9 : Memref sig .tc .vmem S2x5x512x128 .bf16) (arg10 : Memref sig .tc .vmem S2x640x512 .bf16)
  (arg11 : Memref sig .tc .vmem S1x4x128x1280 .f32) (arg12 : Memref sig .tc .vmem S1x4x128x1280 .bf16)

theorem probs_read (hp : Fin 4) (inb : ∀ i, ![hp.val, 0, 0] i + S1x64x1280.size i ≤ S4x128x1280.size i)
    (hR : (Rect.unit (s := S4x128x1280) ![hp.val, 0, 0] S1x64x1280.size inb).toLoadRect.shape.numel = (liftedL (Rect.unit (s := S4x128x1280) ![hp.val, 0, 0] S1x64x1280.size inb)).shape.numel)
    (r : Fin 64) (k : Fin 1280) :
    LoadRect.valAlong hR (arg12.view.readCov (kernelRun0_A.sl.HS3_16 (F := Ideal) c arg1 harg1 arg2 harg2 arg4 harg4 arg6 harg6 arg9 arg11 q a b g) (liftedL (Rect.unit (s := S4x128x1280) ![hp.val, 0, 0] S1x64x1280.size inb))) (ix3 0 r k)
      = weight q a b g hp r k := by
  refine (along_at _ hR _ _).trans ?_
  rw [View.readCov_eq_canon']
  have y1 : ∀ y, y = (liftedL (Rect.unit (s := S4x128x1280) ![hp.val, 0, 0] S1x64x1280.size inb)).idx (Fin.cons ⟨0, Nat.one_pos⟩ (ix3 0 r k)) →
      y = (ix4 0 hp (⟨r.val, by omega⟩ : Fin 128) k : S1x4x128x1280.Idx) := by
    rintro y rfl
    refine funext fun i => Fin.ext ?_
    match i with
    | 0 => rfl
    | 1 => show 0 + hp.val + 1 * 0 = hp.val; omega
    | 2 => show 0 + 0 + 1 * r.val = r.val; omega
    | 3 => show 0 + 0 + 1 * k.val = k.val; omega
  refine (congrArg _ (y1 _ rfl)).trans ?_
  refine (View.canon_apply_of_pieces (PT q a b g) _ (pieces_probs q a b g c arg1 harg1 arg2 harg2 arg4 harg4 arg6 harg6 arg9 arg11) _
    (covered_probs q a b g c arg1 harg1 arg2 harg2 arg4 harg4 arg6 harg6 arg9 arg11 _ r.isLt)).trans ?_
  unfold PT
  exact dif_pos _

theorem values_read (e : Fin 2) (hp : Fin 4) (inb : ∀ i, ![e.val, 0, hp.val * 128] i + S1x640x128.size i ≤ S2x640x512.size i) (j : Fin 640) (l : Fin 128) :
    arg10.view.readCov (kernelRun0_A.sl.HS1_2 (F := Ideal) c arg3 harg3 arg5 harg5 a' b') (Rect.unit (s := S2x640x512) ![e.val, 0, hp.val * 128] S1x640x128.size inb).toLoadRect (ix3 0 j l)
      = VT a' b' (ix3 e j (⟨hp.val * 128 + l.val, by omega⟩ : Fin 512)) := by
  rw [View.readCov_eq_canon']
  have y1 : ∀ y, y = (Rect.unit (s := S2x640x512) ![e.val, 0, hp.val * 128] S1x640x128.size inb).toLoadRect.idx (ix3 0 j l) →
      y = (ix3 e j (⟨hp.val * 128 + l.val, by omega⟩ : Fin 512) : S2x640x512.Idx) := by
    rintro y rfl
    refine funext fun i => Fin.ext ?_
    match i with
    | 0 => show e.val + 1 * 0 = e.val; omega
    | 1 => show 0 + 1 * j.val = j.val; omega
    | 2 => show hp.val * 128 + 1 * l.val = hp.val * 128 + l.val; omega
  refine (congrArg _ (y1 _ rfl)).trans ?_
  exact View.canon_apply_of_pieces (VT a' b') _ (pieces_values a' b' c arg3 harg3 arg5 harg5) _ (covered_values a' b' c arg3 harg3 arg5 harg5 _)

theorem pay112_eq (w : FVec Ideal S1280x128 .bf16) (p : Vec Ideal S1x64x1280 .bf16) (v0 v1 : Vec Ideal S1x640x128 .bf16) : k0_pay112 w p v0 v1 = k0_pay111 w p v0 v1 := by
  unfold k0_pay112 k0_pay111
  rfl

theorem pay113_eq (w : FVec Ideal S1280x128 .bf16) (p : Vec Ideal S1x64x1280 .bf16) (v0 v1 : Vec Ideal S1x640x128 .bf16) : k0_pay113 w p v0 v1 = k0_pay111 w p v0 v1 := by
  unfold k0_pay113 k0_pay111
  rfl

theorem pay116_eq (w : FVec Ideal S1280x128 .bf16) (p : Vec Ideal S1x64x1280 .bf16) (v0 v1 : Vec Ideal S1x640x128 .bf16) (i : S64x128.Idx) :
    k0_pay115 w p v0 v1 i * k0_pay116 w p v0 v1 i = k0_pay111 w p v0 v1 i := by
  unfold k0_pay115 k0_pay116 k0_pay114 k0_pay111
  rfl

/-- One of the four groups of 128 lanes. -/
theorem group (hp : Fin 4) (inb : ∀ i, ![hp.val, 0, 0] i + S1x64x1280.size i ≤ S4x128x1280.size i)
    (hR : (Rect.unit (s := S4x128x1280) ![hp.val, 0, 0] S1x64x1280.size inb).toLoadRect.shape.numel = (liftedL (Rect.unit (s := S4x128x1280) ![hp.val, 0, 0] S1x64x1280.size inb)).shape.numel)
    (inb0 : ∀ i, ![0, 0, hp.val * 128] i + S1x640x128.size i ≤ S2x640x512.size i) (inb1 : ∀ i, ![1, 0, hp.val * 128] i + S1x640x128.size i ≤ S2x640x512.size i)
    (r : Fin 64) (l : Fin 128) (n : Fin 512) (hn : n.val = hp.val * 128 + l.val) :
    k0_pay111 k0_pay110 (LoadRect.valAlong hR (arg12.view.readCov (kernelRun0_A.sl.HS3_16 (F := Ideal) c arg1 harg1 arg2 harg2 arg4 harg4 arg6 harg6 arg9 arg11 q a b g) (liftedL (Rect.unit (s := S4x128x1280) ![hp.val, 0, 0] S1x64x1280.size inb))))
      (arg10.view.readCov (kernelRun0_A.sl.HS1_2 (F := Ideal) c arg3 harg3 arg5 harg5 a' b') (Rect.unit (s := S2x640x512) ![0, 0, hp.val * 128] S1x640x128.size inb0).toLoadRect)
      (arg10.view.readCov (kernelRun0_A.sl.HS1_2 (F := Ideal) c arg3 harg3 arg5 harg5 a' b') (Rect.unit (s := S2x640x512) ![1, 0, hp.val * 128] S1x640x128.size inb1).toLoadRect) (ix2 r l)
      = attended q a a' b b' g r n :=
  pay111_apply q a a' b b' g hp _ _ _ (probs_read q a b g c arg1 harg1 arg2 harg2 arg4 harg4 arg6 harg6 arg9 arg11 arg12 hp inb hR)
    (values_read a' b' c arg3 harg3 arg5 harg5 arg10 0 hp inb0) (values_read a' b' c arg3 harg3 arg5 harg5 arg10 1 hp inb1) r l n hn

open kernelRun0_A in
theorem lanes (w : Vec Ideal S1x512 .f32) (r : Fin 64) (n : Fin 512) :
    k0_pay1 (sl.r_70 (F := Ideal) c arg1 harg1 arg2 harg2 arg3 harg3 arg4 harg4 arg5 harg5 arg6 harg6 arg9 arg10 arg11 arg12 q a a' b b' g)
      (sl.r_71 (F := Ideal) c arg1 harg1 arg2 harg2 arg3 harg3 arg4 harg4 arg5 harg5 arg6 harg6 arg9 arg10 arg11 arg12 q a a' b b' g)
      (sl.r_72 (F := Ideal) c arg1 harg1 arg2 harg2 arg3 harg3 arg4 harg4 arg5 harg5 arg6 harg6 arg9 arg10 arg11 arg12 q a a' b b' g)
      (sl.r_73 (F := Ideal) c arg1 harg1 arg2 harg2 arg3 harg3 arg4 harg4 arg5 harg5 arg6 harg6 arg9 arg10 arg11 arg12 q a a' b b' g)
      (sl.r_74 (F := Ideal) c arg1 harg1 arg2 harg2 arg3 harg3 arg4 harg4 arg5 harg5 arg6 harg6 arg9 arg10 arg11 arg12 q a a' b b' g) w (ix3 0 r n)
      = normed (attended q a a' b b' g r) (w (ix2 0 n)) n := by
  have grp := fun (hp : Fin 4) inb hR inb0 inb1 l n hn => group q a a' b b' g c arg1 harg1 arg2 harg2 arg3 harg3 arg4 harg4 arg5 harg5 arg6 harg6 arg9 arg10 arg11 arg12 hp inb hR inb0 inb1 r l n hn
  refine pay1_apply (attended q a a' b b' g r) _ _ _ _ _ w r (fun l n hn => ?_) (fun l n hn => ?_) (fun l n hn => ?_) (fun l n hn => ?_) n
  · unfold sl.r_70 sl.v666 sl.v668 sl.v670
    exact grp 0 (by decide) _ (by decide) (by decide) l n hn
  · unfold sl.r_71 sl.v682 sl.v684 sl.v686
    rw [pay112_eq]
    exact grp 1 (by decide) _ (by decide) (by decide) l n hn
  · unfold sl.r_72 sl.v698 sl.v700 sl.v702
    rw [pay113_eq]
    exact grp 2 (by decide) _ (by decide) (by decide) l n hn
  · unfold sl.r_73 sl.r_74 sl.v714 sl.v716 sl.v718
    rw [pay116_eq]
    exact grp 3 (by decide) _ (by decide) (by decide) l n hn

end Read

variable (m : (ℓ : Loc nD τ sig) → Buf (Elt Ideal) ℓ) (c : Dev nD) (t : Fin cfg0.N)

theorem ld_gain (x : Vec Ideal S1x512 .f32) : View.ld x (Rect.unit (s := S1x512) ![0, 0] S1x512.size inb_S1x512_S1x512_0_0) = x := by
  funext i
  refine congrArg x (funext fun k => Fin.ext ?_)
  match k with
  | 0 | 1 => show 0 + 1 * _ = _; omega

theorem out_apply (r : Fin 64) (n : Fin 512) :
    outsAt0 m c t (ix3 0 r n) = normed (attended (iblk m c 0 t) (iblk m c 1 t) (iblk m c 2 t) (iblk m c 3 t) (iblk m c 4 t) (iblk m c 5 t) r) ((iblk m c 6 t : Vec Ideal S1x512 .f32) (ix2 0 n)) n := by
  refine Eq.trans ?_ (lanes (iblk m c 0 t) (iblk m c 1 t) (iblk m c 2 t) (iblk m c 3 t) (iblk m c 4 t) (iblk m c 5 t) c (ms0_0 t) (hs0_0 t) (ms0_1 t) (hs0_1 t) (ms0_2 t) (hs0_2 t) (ms0_3 t) (hs0_3 t) (ms0_4 t) (hs0_4 t) (ms0_5 t) (hs0_5 t)
    scM0_0 scM0_1 scM0_2 scM0_3 (View.readAt (Elt Ideal) (ms0_6 t).view (Rect.unit (s := S1x512) ![0, 0] S1x512.size inb_S1x512_S1x512_0_0).toLoadRect ((hs0_6 t).unread (iblk m c 6 t))) r n |>.trans ?_)
  · dsimp only [outsAt0]
    unfold out0_A_7
    exact congrFun (View.read_writes_full _ _ _ _ _) _
  · rw [View.readAt_eq_ld, (hs0_6 t).read_unread, ld_gain]

end Cert.Kernel4Ideal.Att

end
-- ==== Proof.AttHost.lean ====
/- What the attention's windows read: the arguments, through the host's reshapes and casts. -/
module

public import proofs.«01_k».proof.Proof.AttLook
public import proofs.«01_k».proof.Proof.AttBlock
public import Idealize.ShloMosaic.Lib.StableHlo.Run

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

section Host

variable {F : FTy → Type} [FloatOps F]
variable (m : (ℓ : Loc nD τ sig) → Buf (Elt F) ℓ) (c : Dev nD)

theorem V_main_v6 : V m c main_v6 = truncf .bf16 (Host.divf (mulf (shapeCast S8x64x512 (m ((c : Thread nD τ).loc main_arg0)) shapeCasts_S8x64x8x64_S8x64x512)
    (broadcastInDim S8x64x512 ![] bcast_S_S8x64x512 (constant S_ .f32 0x3E000000#32))) (broadcastInDim S8x64x512 ![] bcast_S_S8x64x512 (Host.log (constant S_ .f32 0x40000000#32)))) bitsLt_bf16_f32 := by
  simp only [V, hostOps0, hostOps0_1, hostOps0_2, hostOps0_3, hostOps0_4, hostOps0_5, hostOps0_6, List.flatten_cons, List.flatten_nil, List.append_nil, List.cons_append, List.nil_append]
  after_results_simp <;> rfl
theorem V_main_v9 : V m c main_v9 = truncf .bf16 (shapeCast S8x512x512 (shapeCast S8x512x8x64 (m ((c : Thread nD τ).loc main_arg3)) shapeCasts_S1x8x512x8x64_S8x512x8x64) shapeCasts_S8x512x8x64_S8x512x512) bitsLt_bf16_f32 := by
  simp only [V, hostOps0, hostOps0_1, hostOps0_2, hostOps0_3, hostOps0_4, hostOps0_5, hostOps0_6, List.flatten_cons, List.flatten_nil, List.append_nil, List.cons_append, List.nil_append]
  after_results_simp <;> rfl
theorem V_main_v12 : V m c main_v12 = truncf .bf16 (shapeCast S8x512x512 (shapeCast S8x512x8x64 (m ((c : Thread nD τ).loc main_arg4)) shapeCasts_S1x8x512x8x64_S8x512x8x64) shapeCasts_S8x512x8x64_S8x512x512) bitsLt_bf16_f32 := by
  simp only [V, hostOps0, hostOps0_1, hostOps0_2, hostOps0_3, hostOps0_4, hostOps0_5, hostOps0_6, List.flatten_cons, List.flatten_nil, List.append_nil, List.cons_append, List.nil_append]
  after_results_simp <;> rfl
theorem V_main_v13 : V m c main_v13 = shapeCast S8x64x512 (m ((c : Thread nD τ).loc main_arg1)) shapeCasts_S8x64x8x64_S8x64x512 := by
  simp only [V, hostOps0, hostOps0_1, hostOps0_2, hostOps0_3, hostOps0_4, hostOps0_5, hostOps0_6, List.flatten_cons, List.flatten_nil, List.append_nil, List.cons_append, List.nil_append]
  after_results_simp <;> rfl
theorem V_main_v14 : V m c main_v14 = shapeCast S8x64x512 (m ((c : Thread nD τ).loc main_arg2)) shapeCasts_S8x64x8x64_S8x64x512 := by
  simp only [V, hostOps0, hostOps0_1, hostOps0_2, hostOps0_3, hostOps0_4, hostOps0_5, hostOps0_6, List.flatten_cons, List.flatten_nil, List.append_nil, List.cons_append, List.nil_append]
  after_results_simp <;> rfl
theorem V_main_v59 : V m c main_v59 = shapeCast S1x512 (shapeCast S512 (m ((c : Thread nD τ).loc main_arg6)) shapeCasts_S1x512_S512) shapeCasts_S512_S1x512 := by
  simp only [V, hostOps0, hostOps0_1, hostOps0_2, hostOps0_3, hostOps0_4, hostOps0_5, hostOps0_6, List.flatten_cons, List.flatten_nil, List.append_nil, List.cons_append, List.nil_append]
  after_results_simp <;> rfl

end Host

/-! ## The preparations at an index -/

theorem heads_apply (x : FVec Ideal S8x64x8x64 .f32) (b : Fin 8) (r : Fin 64) (h : Fin 8) (d : Fin 64) (n : Fin 512) (hn : n.val = h.val * 64 + d.val) :
    shapeCast S8x64x512 x shapeCasts_S8x64x8x64_S8x64x512 (ix3 b r n) = x (ix4 b r h d) :=
  shapeCast_apply x _ (ix3 b r n) (ix4 b r h d) (by
    rw [Shape.rowMajor_val_three, Shape.rowMajor_val_four]
    show ((b.val * 64 + r.val) * 8 + h.val) * 64 + d.val = (b.val * 64 + r.val) * 512 + n.val
    omega)

theorem scaled_apply (x : FVec Ideal S8x64x512 .f32) (i : S8x64x512.Idx) :
    truncf .bf16 (Host.divf (mulf x (broadcastInDim S8x64x512 ![] bcast_S_S8x64x512 (constant S_ .f32 0x3E000000#32)))
        (broadcastInDim S8x64x512 ![] bcast_S_S8x64x512 (Host.log (constant S_ .f32 0x40000000#32)))) bitsLt_bf16_f32 i
      = Ideal.div (x i * Ideal.ofBits FTy.f32 0x3E000000#32) (Ideal.log (Ideal.ofBits FTy.f32 1073741824#32)) := rfl

theorem cache_apply (x : FVec Ideal S1x8x512x8x64 .f32) (b : Fin 8) (r : Fin 512) (h : Fin 8) (d : Fin 64) (n : Fin 512) (hn : n.val = h.val * 64 + d.val) :
    truncf .bf16 (shapeCast S8x512x512 (shapeCast S8x512x8x64 x shapeCasts_S1x8x512x8x64_S8x512x8x64) shapeCasts_S8x512x8x64_S8x512x512) bitsLt_bf16_f32 (ix3 b r n) = x (ix5 0 b r h d) := by
  have e1 : ∀ y : FVec Ideal S8x512x8x64 .f32, truncf .bf16 (shapeCast S8x512x512 y shapeCasts_S8x512x8x64_S8x512x512) bitsLt_bf16_f32 (ix3 b r n) = y (ix4 b r h d) := fun y =>
    shapeCast_apply y _ (ix3 b r n) (ix4 b r h d) (by
      rw [Shape.rowMajor_val_three, Shape.rowMajor_val_four]
      show ((b.val * 512 + r.val) * 8 + h.val) * 64 + d.val = (b.val * 512 + r.val) * 512 + n.val
      omega)
  refine (e1 _).trans ?_
  pointwise

theorem gain_apply (x : FVec Ideal S1x512 .f32) (k : Fin 512) :
    shapeCast S1x512 (shapeCast S512 x shapeCasts_S1x512_S512) shapeCasts_S512_S1x512 (ix2 0 k) = x (ix2 0 k) := by
  pointwise

/-! ## The windows' blocks -/

/-- Point `t` has batch entry `t`. -/
theorem at_batch : ∀ t : Fin cfg0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = t.val ∧ win0_4.index t 1 = 0 ∧ win0_4.index t 2 = 0) ∧ (win0_7.index t 0 = t.val ∧ win0_7.index t 1 = 0 ∧ win0_7.index t 2 = 0) :=
  (by decide +kernel : ∀ t : Fin grid0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = t.val ∧ win0_4.index t 1 = 0 ∧ win0_4.index t 2 = 0) ∧ (win0_7.index t 0 = t.val ∧ win0_7.index t 1 = 0 ∧ win0_7.index t 2 = 0))

/-- The queries. -/
abbrev queries (m : (ℓ : Loc nD τ sig) → Buf (Elt Ideal) ℓ) (c : Dev nD) : FVec Ideal S8x64x8x64 .f32 := m ((c : Thread nD τ).loc main_arg0)

variable (m : (ℓ : Loc nD τ sig) → Buf (Elt Ideal) ℓ) (c : Dev nD) (t : Fin cfg0.N) (b : Fin 8) (hb : t.val = b.val)
include hb

theorem emb_0 (r : Fin 64) (n : Fin 512) : (win0_0.rect t).emb (ix3 0 r n) = ix3 b r n := by
  obtain ⟨h0, h1, h2⟩ := (at_batch t).1
  funext a
  apply Fin.ext
  rw [Pipeline.Window.rect_emb_val win0_0 t]
  match a with
  | ⟨0, _⟩ => show win0_0.index t 0 * 1 + 0 = b.val; omega
  | ⟨1, _⟩ => show win0_0.index t 1 * 64 + r.val = r.val; omega
  | ⟨2, _⟩ => show win0_0.index t 2 * 512 + n.val = n.val; omega
theorem emb_1 (r : Fin 512) (n : Fin 512) : (win0_1.rect t).emb (ix3 0 r n) = ix3 b r n := by
  obtain ⟨h0, h1, h2⟩ := (at_batch t).2.1
  funext a
  apply Fin.ext
  rw [Pipeline.Window.rect_emb_val win0_1 t]
  match a with
  | ⟨0, _⟩ => show win0_1.index t 0 * 1 + 0 = b.val; omega
  | ⟨1, _⟩ => show win0_1.index t 1 * 512 + r.val = r.val; omega
  | ⟨2, _⟩ => show win0_1.index t 2 * 512 + n.val = n.val; omega
theorem emb_2 (r : Fin 512) (n : Fin 512) : (win0_2.rect t).emb (ix3 0 r n) = ix3 b r n := by
  obtain ⟨h0, h1, h2⟩ := (at_batch t).2.2.1
  funext a
  apply Fin.ext
  rw [Pipeline.Window.rect_emb_val win0_2 t]
  match a with
  | ⟨0, _⟩ => show win0_2.index t 0 * 1 + 0 = b.val; omega
  | ⟨1, _⟩ => show win0_2.index t 1 * 512 + r.val = r.val; omega
  | ⟨2, _⟩ => show win0_2.index t 2 * 512 + n.val = n.val; omega
theorem emb_3 (r : Fin 64) (n : Fin 512) : (win0_3.rect t).emb (ix3 0 r n) = ix3 b r n := by
  obtain ⟨h0, h1, h2⟩ := (at_batch t).2.2.2.1
  funext a
  apply Fin.ext
  rw [Pipeline.Window.rect_emb_val win0_3 t]
  match a with
  | ⟨0, _⟩ => show win0_3.index t 0 * 1 + 0 = b.val; omega
  | ⟨1, _⟩ => show win0_3.index t 1 * 64 + r.val = r.val; omega
  | ⟨2, _⟩ => show win0_3.index t 2 * 512 + n.val = n.val; omega
theorem emb_4 (r : Fin 64) (n : Fin 512) : (win0_4.rect t).emb (ix3 0 r n) = ix3 b r n := by
  obtain ⟨h0, h1, h2⟩ := (at_batch t).2.2.2.2.1
  funext a
  apply Fin.ext
  rw [Pipeline.Window.rect_emb_val win0_4 t]
  match a with
  | ⟨0, _⟩ => show win0_4.index t 0 * 1 + 0 = b.val; omega
  | ⟨1, _⟩ => show win0_4.index t 1 * 64 + r.val = r.val; omega
  | ⟨2, _⟩ => show win0_4.index t 2 * 512 + n.val = n.val; omega
theorem emb_7 (r : Fin 64) (n : Fin 512) : (win0_7.rect t).emb (ix3 0 r n) = ix3 b r n := by
  obtain ⟨h0, h1, h2⟩ := (at_batch t).2.2.2.2.2
  funext a
  apply Fin.ext
  rw [Pipeline.Window.rect_emb_val win0_7 t]
  match a with
  | ⟨0, _⟩ => show win0_7.index t 0 * 1 + 0 = b.val; omega
  | ⟨1, _⟩ => show win0_7.index t 1 * 64 + r.val = r.val; omega
  | ⟨2, _⟩ => show win0_7.index t 2 * 512 + n.val = n.val; omega

theorem blk_0 (r : Fin 64) (h : Fin 8) (d : Fin 64) (n : Fin 512) (hn : n.val = h.val * 64 + d.val) : (iblk m c 0 t : Vec Ideal S1x64x512 .bf16) (ix3 0 r n)
    = Ideal.div (queries m c (ix4 b r h d) * Ideal.ofBits FTy.f32 0x3E000000#32) (Ideal.log (Ideal.ofBits FTy.f32 1073741824#32)) :=
  (congrArg (V m c main_v6) (emb_0 t b hb r n)).trans ((congrFun (V_main_v6 m c) _).trans ((scaled_apply _ _).trans
    (congrArg (fun y : EReal => Ideal.div (y * Ideal.ofBits FTy.f32 0x3E000000#32) (Ideal.log (Ideal.ofBits FTy.f32 1073741824#32))) (heads_apply (queries m c) b r h d n hn))))
theorem blk_1 (r : Fin 512) (h : Fin 8) (d : Fin 64) (n : Fin 512) (hn : n.val = h.val * 64 + d.val) : (iblk m c 1 t : Vec Ideal S1x512x512 .bf16) (ix3 0 r n) = m ((c : Thread nD τ).loc main_arg3) (ix5 0 b r h d) :=
  (congrArg (V m c main_v9) (emb_1 t b hb r n)).trans ((congrFun (V_main_v9 m c) _).trans (cache_apply _ b r h d n hn))
theorem blk_2 (r : Fin 512) (h : Fin 8) (d : Fin 64) (n : Fin 512) (hn : n.val = h.val * 64 + d.val) : (iblk m c 2 t : Vec Ideal S1x512x512 .bf16) (ix3 0 r n) = m ((c : Thread nD τ).loc main_arg4) (ix5 0 b r h d) :=
  (congrArg (V m c main_v12) (emb_2 t b hb r n)).trans ((congrFun (V_main_v12 m c) _).trans (cache_apply _ b r h d n hn))
theorem blk_3 (r : Fin 64) (h : Fin 8) (d : Fin 64) (n : Fin 512) (hn : n.val = h.val * 64 + d.val) : (iblk m c 3 t : Vec Ideal S1x64x512 .f32) (ix3 0 r n) = m ((c : Thread nD τ).loc main_arg1) (ix4 b r h d) :=
  (congrArg (V m c main_v13) (emb_3 t b hb r n)).trans ((congrFun (V_main_v13 m c) _).trans (heads_apply _ b r h d n hn))
theorem blk_4 (r : Fin 64) (h : Fin 8) (d : Fin 64) (n : Fin 512) (hn : n.val = h.val * 64 + d.val) : (iblk m c 4 t : Vec Ideal S1x64x512 .f32) (ix3 0 r n) = m ((c : Thread nD τ).loc main_arg2) (ix4 b r h d) :=
  (congrArg (V m c main_v14) (emb_4 t b hb r n)).trans ((congrFun (V_main_v14 m c) _).trans (heads_apply _ b r h d n hn))

omit hb in
theorem blk_6 (n : Fin 512) : (iblk m c 6 t : Vec Ideal S1x512 .f32) (ix2 0 n) = m ((c : Thread nD τ).loc main_arg6) (ix2 0 n) :=
  (congrArg (V m c main_v59) (funext fun a => Fin.ext (Pipeline.Window.rect_emb_val_of_index_zero win0_6 t a (by fin_cases a <;> rfl) (ix2 0 n)))).trans
    ((congrFun (V_main_v59 m c) _).trans (gain_apply _ n))

end Cert.Kernel4Ideal.Att

end
-- ==== Proof.AttTable.lean ====
/- The bias table the attention's windows read is the host's of the argument. -/
module

public import proofs.«01_k».proof.Proof.AttLook
public import proofs.«01_k».proof.Proof.Gen.Kernel4Ideal.Frame
public import Idealize.ShloMosaic.Lib.StableHlo.Run

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic

theorem V_main_v57 {F : FTy → Type} [FloatOps F] (m : (ℓ : Loc nD τ sig) → Buf (Elt F) ℓ) (c : Dev nD) : V m c main_v57 = table (m ((c : Thread nD τ).loc main_arg5)) := by
  simp only [V, hostOps0, hostOps0_1, hostOps0_2, hostOps0_3, hostOps0_4, hostOps0_5, hostOps0_6, List.flatten_cons, List.flatten_nil, List.append_nil, List.cons_append, List.nil_append]
  after_results_simp <;> rfl

theorem blk_5 (m : (ℓ : Loc nD τ sig) → Buf (Elt Ideal) ℓ) (c : Dev nD) (t : Fin cfg0.N) : (iblk m c 5 t : Vec Ideal S8x5x128x128 .f32) = (table (F := Ideal) (m ((c : Thread nD τ).loc main_arg5)) : Vec Ideal S8x5x128x128 .f32) :=
  funext fun i => (congrArg (V m c main_v57) (funext fun a => Fin.ext (Pipeline.Window.rect_emb_val_of_index_zero win0_5 t a (by fin_cases a <;> rfl) i))).trans
    (congrFun (V_main_v57 m c) i)

end Cert.Kernel4Ideal.Att

end
-- ==== Proof.AttSoft.lean ====
/- The softmax: exponentials to the base two of scores over the logarithm of two, with masked entries, against the exponentials of the scores. -/
module

public import Idealize.ShloMosaic.PureOps.Ideal
public import Mathlib.Analysis.SpecialFunctions.Pow.Real

@[expose] public section

noncomputable section

namespace Cert.Att

open Idealize.ShloMosaic

theorem exp2_scaled (x : ℝ) : Ideal.exp2 ((x / Real.log 2 : ℝ) : EReal) = ((Real.exp x : ℝ) : EReal) := by
  have h2 : Real.log 2 ≠ 0 := (Real.log_pos (by norm_num)).ne'
  rw [Ideal.exp2_coe]
  refine congrArg _ ?_
  show (2 : ℝ) ^ (x / Real.log 2) = Real.exp x
  rw [Real.rpow_def_of_pos (by norm_num), mul_div_cancel₀ _ h2]

theorem fold_max {n : ℕ} (f : Fin n → EReal) : Finset.fold max ⊥ f Finset.univ = Finset.univ.sup f := rfl

/-- The largest of finitely many reals is one of them. -/
theorem largest (S : Fin 576 → ℝ) : ∃ M : ℝ, Finset.fold max ⊥ (fun k => (S k : EReal)) Finset.univ = (M : EReal) ∧ (∀ k, S k ≤ M) ∧ ∃ k, S k = M := by
  obtain ⟨i, -, hi⟩ := Finset.exists_mem_eq_sup Finset.univ ⟨(0 : Fin 576), Finset.mem_univ _⟩ (fun k => (S k : EReal))
  refine ⟨S i, (fold_max _).trans hi, fun k => ?_, i, rfl⟩
  have := Finset.le_sup (f := fun k => (S k : EReal)) (Finset.mem_univ k)
  rw [hi] at this
  exact EReal.coe_le_coe_iff.1 this

/-- A masked score over the logarithm of two. -/
def scaled (S : Fin 576 → ℝ) (j : Fin 640) : EReal := if h : j.val < 576 then ((S ⟨j.val, h⟩ / Real.log 2 : ℝ) : EReal) else ⊥

theorem largest_scaled (S : Fin 576 → ℝ) (M : ℝ) (hM : ∀ k, S k ≤ M) (k : Fin 576) (hk : S k = M) :
    Finset.fold max ⊥ (scaled S) Finset.univ = ((M / Real.log 2 : ℝ) : EReal) := by
  have h2 : 0 < Real.log 2 := Real.log_pos (by norm_num)
  rw [fold_max]
  refine le_antisymm (Finset.sup_le fun j _ => ?_) ?_
  · unfold scaled
    rcases Nat.lt_or_ge j.val 576 with c | c
    · rw [dif_pos c]
      exact EReal.coe_le_coe_iff.2 (div_le_div_of_nonneg_right (hM _) h2.le)
    · rw [dif_neg (by omega)]; exact bot_le
  · have h := Finset.le_sup (f := scaled S) (Finset.mem_univ (⟨k.val, by omega⟩ : Fin 640))
    refine le_trans (le_of_eq ?_) h
    unfold scaled
    rw [dif_pos (show (⟨k.val, by omega⟩ : Fin 640).val < 576 from k.isLt), ← hk]

theorem sum_masked (f : Fin 640 → EReal) (g : Fin 576 → EReal) (h : ∀ j : Fin 640, f j = if c : j.val < 576 then g ⟨j.val, c⟩ else 0) :
    ∑ j, f j = ∑ k, g k := by
  have hs : ∑ j, f j = ∑ k : Fin 576, f ⟨k.val, by omega⟩ + ∑ k : Fin 64, f ⟨576 + k.val, by omega⟩ := Fin.sum_univ_add (a := 576) (b := 64) f
  rw [hs, Finset.sum_eq_zero (s := (Finset.univ : Finset (Fin 64))) (fun k _ => (h _).trans (dif_neg (by show ¬576 + k.val < 576; omega))), add_zero]
  exact Finset.sum_congr rfl fun k _ => (h _).trans (dif_pos k.isLt)

theorem sum_mul_coe {n : ℕ} (f : Fin n → EReal) (x : ℝ) (hx : 0 ≤ x) : (∑ k, f k) * (x : EReal) = ∑ k, f k * (x : EReal) := by
  have h : ∀ s : Finset (Fin n), (∑ k ∈ s, f k) * (x : EReal) = ∑ k ∈ s, f k * (x : EReal) := fun s => by
    induction s using Finset.induction_on with
    | empty => simp
    | insert a s ha ih =>
      rw [Finset.sum_insert ha, Finset.sum_insert ha, ← ih]
      exact EReal.right_distrib_of_nonneg_of_ne_top (EReal.coe_nonneg.2 hx) (EReal.coe_ne_top x) _ _
  exact h _

theorem coe_sum {n : ℕ} (f : Fin n → ℝ) : ((∑ k, f k : ℝ) : EReal) = ∑ k, (f k : EReal) := by
  have h : ∀ s : Finset (Fin n), ((∑ k ∈ s, f k : ℝ) : EReal) = ∑ k ∈ s, (f k : EReal) := fun s => by
    induction s using Finset.induction_on with
    | empty => simp
    | insert a s ha ih => rw [Finset.sum_insert ha, Finset.sum_insert ha, EReal.coe_add, ih]
  exact h _

/-- The kernel's softmax-weighted sum is the reference's. -/
theorem softmax (S : Fin 576 → ℝ) (v : Fin 640 → EReal) (w : Fin 576 → EReal) (hv : ∀ k : Fin 576, v ⟨k.val, by omega⟩ = w k) :
    (∑ j : Fin 640, Ideal.exp2 (scaled S j - Finset.fold max ⊥ (scaled S) Finset.univ) * v j)
        * Ideal.div 1 (∑ j : Fin 640, Ideal.exp2 (scaled S j - Finset.fold max ⊥ (scaled S) Finset.univ))
      = ∑ k : Fin 576, w k * Ideal.div (Ideal.exp ((S k : EReal) - Finset.fold max ⊥ (fun i => (S i : EReal)) Finset.univ))
          (∑ i : Fin 576, Ideal.exp ((S i : EReal) - Finset.fold max ⊥ (fun i => (S i : EReal)) Finset.univ)) := by
  obtain ⟨M, hf, hM, k, hk⟩ := largest S
  rw [hf, largest_scaled S M hM k hk]
  have he : ∀ i, Ideal.exp ((S i : EReal) - (M : EReal)) = ((Real.exp (S i - M) : ℝ) : EReal) := fun i => by rw [← EReal.coe_sub]; rfl
  have h2 : ∀ j : Fin 640, Ideal.exp2 (scaled S j - ((M / Real.log 2 : ℝ) : EReal)) = if c : j.val < 576 then ((Real.exp (S ⟨j.val, c⟩ - M) : ℝ) : EReal) else 0 := fun j => by
    unfold scaled
    rcases Nat.lt_or_ge j.val 576 with c | c
    · rw [dif_pos c, dif_pos c, ← EReal.coe_sub, ← sub_div, exp2_scaled]
    · rw [dif_neg (by omega), dif_neg (by omega)]; rfl
  simp only [he]
  rw [sum_masked _ (fun i => ((Real.exp (S i - M) : ℝ) : EReal)) h2,
    sum_masked (fun j => Ideal.exp2 (scaled S j - ((M / Real.log 2 : ℝ) : EReal)) * v j) (fun i => ((Real.exp (S i - M) : ℝ) : EReal) * w i) (fun j => by
      rcases Nat.lt_or_ge j.val 576 with c | c
      · simp only [h2]; rw [dif_pos c, dif_pos c, ← hv ⟨j.val, c⟩]
      · simp only [h2]; rw [dif_neg (by omega), dif_neg (by omega), zero_mul])]
  rw [← coe_sum]
  have hT : 0 < ∑ i, Real.exp (S i - M) := Finset.sum_pos (fun i _ => Real.exp_pos _) ⟨(0 : Fin 576), Finset.mem_univ _⟩
  rw [Ideal.div_coe hT.ne', one_mul, sum_mul_coe _ _ (by positivity)]
  refine Finset.sum_congr rfl fun i _ => ?_
  rw [Ideal.div_coe hT.ne', mul_comm ((Real.exp (S i - M) : ℝ) : EReal) (w i), mul_assoc]

end Cert.Att

end
-- ==== Proof.AttRef.lean ====
/- The reference attention, entry by entry. -/
module

public import proofs.«01_k».proof.Proof.AttLook

@[expose] public section

set_option maxRecDepth 16384

noncomputable section

namespace Cert.Reference4Ideal.Att

open Cert.Reference4Ideal Cert.Reference4Ideal.Gen Cert.Reference4Ideal.Read
open Idealize.ShloMosaic Idealize.ShloMosaic.TcCoe Idealize.ShloMosaic.Tactic

/-- Entry `d` of head `h` of the cached rows `y`, then of the new rows `x`, of batch entry `b`. -/
def both (x : FVec Ideal S8x64x8x64 .f32) (y : FVec Ideal S1x8x512x8x64 .f32) (b h : Fin 8) (j : Fin 576) (d : Fin 64) : EReal :=
  if hj : j.val < 512 then y (ix5 0 b ⟨j.val, hj⟩ h d) else x (ix4 b ⟨j.val - 512, by omega⟩ h d)

variable (x0 x1 x2 : FVec Ideal S8x64x8x64 .f32) (x3 x4 : FVec Ideal S1x8x512x8x64 .f32) (x5 : FVec Ideal S1x8x257 .f32) (x6 : FVec Ideal S1x512 .f32)

theorem kk_apply (b h : Fin 8) (j : Fin 576) (d : Fin 64) : val_main_v2 (F := Ideal) x1 x3 (ix4 b j h d) = both x1 x3 b h j d := by
  have hy : ∀ (j : Fin 512), val_main_v0 (F := Ideal) x3 (ix4 b j h d) = x3 (ix5 0 b j h d) := fun j => by
    rw [val_main_v0_apply]
    refine congrArg x3 (funext fun i => Fin.ext ?_)
    match i with
    | 0 => rfl
    | 1 => show (((b.val * 512 + j.val) * 8 + h.val) * 64 + d.val) / 262144 % 8 = b.val; omega
    | 2 => show (((b.val * 512 + j.val) * 8 + h.val) * 64 + d.val) / 512 % 512 = j.val; omega
    | 3 => show (((b.val * 512 + j.val) * 8 + h.val) * 64 + d.val) / 64 % 8 = h.val; omega
    | 4 => show (((b.val * 512 + j.val) * 8 + h.val) * 64 + d.val) % 64 = d.val; omega
  unfold val_main_v2 both
  generalize val_main_v0 (F := Ideal) x3 = y at hy
  pointwise
  simp only [hy]

/-- The reference's score of query `r` and key `j`, with its bias. -/
def refScore (b h : Fin 8) (r : Fin 64) (j : Fin 576) : EReal :=
  (∑ d : Fin 64, x0 (ix4 b r h d) * both x1 x3 b h j d) * Ideal.ofBits FTy.f32 0x3E000000#32 + x5 (ix3 0 h ⟨j.val - r.val - 384, by omega⟩)

theorem s_apply (b h : Fin 8) (r : Fin 64) (j : Fin 576) : val_main_v31 (F := Ideal) x0 x1 x3 x5 (ix4 b h r j) = refScore x0 x1 x3 x5 b h r j := by
  rw [val_main_v31_apply, val_main_v6_apply, val_main_v4_apply, val_main_v30_apply, val_main_v29_apply]
  refine congrArg₂ (· + ·) (congrArg (· * _) (Finset.sum_congr rfl fun k _ => congrArg₂ (· * ·) (congrArg x0 ?_) ((congrArg _ ?_).trans (kk_apply x1 x3 b h j k)))) ((congrArg _ ?_).trans (bias_apply x5 h r j))
  · exact funext fun i => match i with | 0 => rfl | 1 => rfl | 2 => rfl | 3 => rfl
  · exact funext fun i => match i with | 0 => rfl | 1 => rfl | 2 => rfl | 3 => rfl
  · exact funext fun i => match i with | 0 => rfl | 1 => rfl | 2 => rfl

/-- The exponential of a score, less the largest one of its row. -/
def refExp (b h : Fin 8) (r : Fin 64) (j : Fin 576) : EReal :=
  Ideal.exp (refScore x0 x1 x3 x5 b h r j - max (Ideal.ofBits FTy.f32 4286578688#32) (Finset.fold max (Ideal.ofBits FTy.f32 4286578688#32) (fun x => refScore x0 x1 x3 x5 b h r x) Finset.univ))

theorem m_apply (b h : Fin 8) (r : Fin 64) (u : FVec Ideal S8x8x64x576 .f32) : Host.reduce FloatOps.maximumf u (val_main_cst_5 (F := Ideal)) reducesTo_S8x8x64x576_S8x8x64_d3 h_S_ (ix3 b h r)
    = Finset.fold max (Ideal.ofBits FTy.f32 4286578688#32) (fun x => u (ix4 b h r x)) Finset.univ := by
  pointwise [val_main_cst_5]

theorem e_apply (b h : Fin 8) (r : Fin 64) (j : Fin 576) : val_main_v38 (F := Ideal) x0 x1 x3 x5 (ix4 b h r j) = refExp x0 x1 x3 x5 b h r j := by
  rw [val_main_v38_apply, val_main_v37_apply, s_apply, val_main_v36_apply, val_main_v35_apply, val_main_v34_apply]
  have e : idx_main_v35 (idx_main_v36 (ix4 b h r j)) = (ix3 b h r : S8x8x64.Idx) := funext fun i => match i with | 0 => rfl | 1 => rfl | 2 => rfl
  rw [e]
  have m : val_main_v32 (F := Ideal) x0 x1 x3 x5 (ix3 b h r) = Finset.fold max (Ideal.ofBits FTy.f32 4286578688#32) (fun x => refScore x0 x1 x3 x5 b h r x) Finset.univ := by
    unfold val_main_v32
    rw [m_apply]
    simp only [s_apply]
  rw [m]
  rfl

/-- The reference's attention, before its normalization, at entry `d` of head `h`. -/
def refOut (b h : Fin 8) (r d : Fin 64) : EReal :=
  ∑ k : Fin 576, both x2 x4 b h k d * Ideal.div (refExp x0 x1 x3 x5 b h r k) (Ideal.ofBits FTy.f32 0x00000000#32 + ∑ j : Fin 576, refExp x0 x1 x3 x5 b h r j)

theorem o_apply (b : Fin 8) (r : Fin 64) (n : Fin 512) : val_main_v45 (F := Ideal) x0 x1 x2 x3 x4 x5 (ix3 b r n)
    = refOut x0 x1 x2 x3 x4 x5 b ⟨n.val / 64, by omega⟩ r ⟨n.val % 64, by omega⟩ := by
  rw [val_main_v45_apply, val_main_v44_apply, val_main_v43_apply]
  unfold refOut
  refine Finset.sum_congr rfl fun k _ => congrArg₂ (· * ·) ((congrArg (val_main_v3 (F := Ideal) x2 x4) ?_).trans (kk_apply x2 x4 b ⟨n.val / 64, by omega⟩ k ⟨n.val % 64, by omega⟩)) ?_
  · refine funext fun i => Fin.ext ?_
    match i with
    | 0 => show ((b.val * 64 + r.val) * 512 + n.val) / 32768 = b.val; omega
    | 1 => rfl
    | 2 => show ((b.val * 64 + r.val) * 512 + n.val) / 64 % 8 = n.val / 64; omega
    | 3 => show ((b.val * 64 + r.val) * 512 + n.val) % 64 = n.val % 64; omega
  · have e : ridx_main_v43 (idx_main_v44 (idx_main_v45 (ix3 b r n))) k = (ix4 b (⟨n.val / 64, by omega⟩ : Fin 8) r k : S8x8x64x576.Idx) := by
      refine funext fun i => Fin.ext ?_
      match i with
      | 0 => show ((b.val * 64 + r.val) * 512 + n.val) / 32768 = b.val; omega
      | 1 => show ((b.val * 64 + r.val) * 512 + n.val) / 64 % 8 = n.val / 64; omega
      | 2 => show ((b.val * 64 + r.val) * 512 + n.val) / 512 % 64 = r.val; omega
      | 3 => rfl
    rw [e, val_main_v42_apply, e_apply, val_main_v41_apply, val_main_v40_apply, val_main_v39_apply]
    refine congrArg (Ideal.div _) (congrArg (_ + ·) (Finset.sum_congr rfl fun j _ => (congrArg _ ?_).trans (e_apply x0 x1 x3 x5 b _ r j)))
    exact funext fun i => match i with | 0 => rfl | 1 => rfl | 2 => rfl | 3 => rfl

theorem out_apply (b : Fin 8) (r : Fin 64) (n : Fin 512) : val_main_v60 (F := Ideal) x0 x1 x2 x3 x4 x5 x6 (ix3 b r n)
    = val_main_v45 (F := Ideal) x0 x1 x2 x3 x4 x5 (ix3 b r n) * Ideal.rsqrt (Ideal.div (Ideal.ofBits FTy.f32 0x00000000#32
      + ∑ x : Fin 512, val_main_v45 (F := Ideal) x0 x1 x2 x3 x4 x5 (ix3 b r x) * val_main_v45 (F := Ideal) x0 x1 x2 x3 x4 x5 (ix3 b r x)) (Ideal.ofBits FTy.f32 1140850688#32) + Ideal.ofBits FTy.f32 897988541#32) * x6 (ix2 0 n) := by
  rw [val_main_v60_apply, val_main_v59_apply, val_main_v56_apply, val_main_v55_apply, val_main_v54_apply, val_main_v53_apply, val_main_v51_apply, val_main_v49_apply, val_main_v48_apply]
  refine congrArg₂ (· * ·) (congrArg (_ * ·) (congrArg Ideal.rsqrt (congrArg (· + _) (congrArg (Ideal.div · _) (congrArg (_ + ·) (Finset.sum_congr rfl fun x _ => ?_)))))) ?_
  · rw [val_main_v47_apply]
    have e : idx_main_v48 (idx_main_v49 (idx_main_v55 (ix3 b r n))) x = (ix3 b r x : S8x64x512.Idx) := funext fun i => match i with | 0 => rfl | 1 => rfl | 2 => rfl
    rw [e]
    rfl
  · rw [val_main_v58_apply, val_main_v57_apply, val_main_v46_apply]
    refine congrArg x6 (funext fun i => Fin.ext ?_)
    match i with
    | 0 => rfl
    | 1 => show n.val % 512 = n.val; omega

end Cert.Reference4Ideal.Att

end
-- ==== Proof.AttEq.lean ====
/- The attention's lanes, of blocks of finite arguments, are the reference's. -/
module

public import proofs.«01_k».proof.Proof.AttOut
public import proofs.«01_k».proof.Proof.AttSoft
public import proofs.«01_k».proof.Proof.AttRef

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic
open Cert.Reference4Ideal.Att (both refScore refExp refOut)

theorem eighth : Ideal.ofBits FTy.f32 0x3E000000#32 = ((1 / 8 : ℝ) : EReal) := by
  simp [Ideal.ofBits, Ideal.ieee]; rw [← EReal.coe_mul]; norm_num

theorem two : Ideal.ofBits FTy.f32 1073741824#32 = ((2 : ℝ) : EReal) := by
  simp [Ideal.ofBits, Ideal.ieee]; rw [← EReal.coe_mul]; norm_num

theorem lowest : Ideal.ofBits FTy.f32 4286578688#32 = ⊥ := by
  simp [Ideal.ofBits, Ideal.ieee]

theorem nought : Ideal.ofBits FTy.f32 0x00000000#32 = 0 := by
  simp [Ideal.ofBits, Ideal.ieee]

theorem log_two : Ideal.log (Ideal.ofBits FTy.f32 1073741824#32) = ((Real.log 2 : ℝ) : EReal) := by
  rw [two]
  exact if_neg (by norm_num)

theorem over_log (y : ℝ) : Ideal.div (y : EReal) ((Real.log 2 : ℝ) : EReal) = ((y / Real.log 2 : ℝ) : EReal) := by
  rw [Ideal.div_coe (Real.log_pos (by norm_num)).ne', ← EReal.coe_mul, mul_one_div]

variable (q : Vec Ideal S1x64x512 .bf16) (a a' : Vec Ideal S1x512x512 .bf16) (b b' : Vec Ideal S1x64x512 .f32)

/-- The sum of a function of the 128 lanes that vanishes off one half of them. -/
theorem sum_lanes (f : Fin 128 → EReal) (e : Fin 2) (h : ∀ d : Fin 128, ¬d.val / 64 = e.val → f d = 0) :
    ∑ d, f d = ∑ d : Fin 64, f ⟨e.val * 64 + d.val, by omega⟩ := by
  have hs : ∑ k, f k = ∑ j : Fin 64, f ⟨j.val, by omega⟩ + ∑ j : Fin 64, f ⟨64 + j.val, by omega⟩ := Fin.sum_univ_add (a := 64) (b := 64) f
  rw [hs]
  match e with
  | 0 =>
    rw [Finset.sum_eq_zero (s := Finset.univ) (f := fun j : Fin 64 => f ⟨64 + j.val, by omega⟩) (fun j _ => h _ (by show ¬(64 + j.val) / 64 = 0; omega)), add_zero]
    exact Finset.sum_congr rfl fun j _ => congrArg f (Fin.ext (by show j.val = 0 * 64 + j.val; omega))
  | 1 =>
    rw [Finset.sum_eq_zero (s := Finset.univ) (f := fun j : Fin 64 => f ⟨j.val, by omega⟩) (fun j _ => h _ (by show ¬j.val / 64 = 1; omega)), zero_add]
    exact Finset.sum_congr rfl fun j _ => congrArg f (Fin.ext (by show 64 + j.val = 1 * 64 + j.val; omega))

/-- A score is a sum over the lanes of its own head. -/
theorem score_head (hp : Fin 4) (e : Fin 2) (h : Fin 8) (hh : h.val = hp.val * 2 + e.val) (r : Fin 64) (j : Fin 640) :
    score q a b hp r ⟨e.val * 640 + j.val, by omega⟩ = ∑ d : Fin 64, q (ix3 0 r ⟨h.val * 64 + d.val, by omega⟩) * rowAt a b j.val ⟨h.val * 64 + d.val, by omega⟩ := by
  unfold score
  have key : ∀ d : Fin 128, keyLane a b hp (e.val * 640 + j.val) (by omega) d = if d.val / 64 = e.val then rowAt a b j.val ⟨hp.val * 128 + d.val, by omega⟩ else 0 := fun d => by
    have hj := j.isLt
    have hd := d.isLt
    unfold keyLane KT
    show (if (hp.val * 128 + d.val) / 64 % 2 = (e.val * 640 + j.val) / 640 then rowAt a b ((e.val * 640 + j.val) % 640 / 128 * 128 + (e.val * 640 + j.val) % 128) ⟨hp.val * 128 + d.val, by omega⟩ else 0) = _
    have e1 : (e.val * 640 + j.val) % 640 / 128 * 128 + (e.val * 640 + j.val) % 128 = j.val := by omega
    rw [e1]
    by_cases c : d.val / 64 = e.val
    · rw [if_pos c, if_pos (by omega)]
    · rw [if_neg c, if_neg (by omega)]
  refine (sum_lanes _ e fun d hd => ?_).trans (Finset.sum_congr rfl fun d _ => ?_)
  · exact (congrArg (fun y => _ * y) ((key d).trans (if_neg hd))).trans (mul_zero _)
  · have hl : (⟨hp.val * 128 + (e.val * 64 + d.val), by omega⟩ : Fin 512) = ⟨h.val * 64 + d.val, by omega⟩ := Fin.ext (by show hp.val * 128 + (e.val * 64 + d.val) = h.val * 64 + d.val; omega)
    refine congrArg₂ (· * ·) (congrArg (fun n => q (ix3 0 r n)) hl) ((key ⟨e.val * 64 + d.val, by omega⟩).trans ((if_pos (by show (e.val * 64 + d.val) / 64 = e.val; omega)).trans (congrArg (rowAt a b j.val) hl)))

variable (x0 x1 x2 : FVec Ideal S8x64x8x64 .f32) (x3 x4 : FVec Ideal S1x8x512x8x64 .f32) (x5 : FVec Ideal S1x8x257 .f32)

theorem rows (e : Fin 8) (hb : ∀ (j : Fin 64) (h : Fin 8) (d : Fin 64) (n : Fin 512), n.val = h.val * 64 + d.val → b (ix3 0 j n) = x1 (ix4 e j h d))
    (ha : ∀ (j : Fin 512) (h : Fin 8) (d : Fin 64) (n : Fin 512), n.val = h.val * 64 + d.val → a (ix3 0 j n) = x3 (ix5 0 e j h d))
    (j : Fin 576) (h : Fin 8) (d : Fin 64) (n : Fin 512) (hn : n.val = h.val * 64 + d.val) : rowAt a b j.val n = both x1 x3 e h j d := by
  unfold rowAt both
  rcases Nat.lt_or_ge j.val 512 with c | c
  · rw [dif_pos c, dif_pos c]; exact ha _ h d n hn
  · rw [dif_neg (Nat.not_lt.2 c), dif_pos j.isLt, dif_neg (Nat.not_lt.2 c)]; exact hb _ h d n hn

theorem both_real (h1 : ∀ i, ∃ y : ℝ, x1 i = (y : EReal)) (h3 : ∀ i, ∃ y : ℝ, x3 i = (y : EReal)) (e h : Fin 8) (j : Fin 576) (d : Fin 64) :
    ∃ y : ℝ, both x1 x3 e h j d = (y : EReal) := by
  unfold both
  split
  · exact h3 _
  · exact h1 _

section
variable (e : Fin 8) (hq : ∀ (r : Fin 64) (h : Fin 8) (d : Fin 64) (n : Fin 512), n.val = h.val * 64 + d.val →
      q (ix3 0 r n) = Ideal.div (x0 (ix4 e r h d) * Ideal.ofBits FTy.f32 0x3E000000#32) (Ideal.log (Ideal.ofBits FTy.f32 1073741824#32)))
    (hb : ∀ (j : Fin 64) (h : Fin 8) (d : Fin 64) (n : Fin 512), n.val = h.val * 64 + d.val → b (ix3 0 j n) = x1 (ix4 e j h d))
    (ha : ∀ (j : Fin 512) (h : Fin 8) (d : Fin 64) (n : Fin 512), n.val = h.val * 64 + d.val → a (ix3 0 j n) = x3 (ix5 0 e j h d))
    (f0 : ∀ i, ∃ y : ℝ, x0 i = (y : EReal)) (f1 : ∀ i, ∃ y : ℝ, x1 i = (y : EReal)) (f3 : ∀ i, ∃ y : ℝ, x3 i = (y : EReal)) (f5 : ∀ i, ∃ y : ℝ, x5 i = (y : EReal))

include hq hb ha f0 f1 f3 f5 in
/-- The kernel's biased scores are the reference's over the logarithm of two, with the lanes past the last key masked. -/
theorem scores (hp : Fin 4) (p : Fin 2) (h : Fin 8) (hh : h.val = hp.val * 2 + p.val) (r : Fin 64) :
    ∃ S : Fin 576 → ℝ, (∀ j, refScore x0 x1 x3 x5 e h r j = (S j : EReal))
      ∧ ∀ j : Fin 640, biased q a b (table x5) hp r ⟨p.val * 640 + j.val, by omega⟩ = Cert.Att.scaled S j := by
  choose X hX using f0
  choose Y hY using f5
  choose K hK using fun j d => both_real x1 x3 f1 f3 e h j d
  refine ⟨fun j => (∑ d : Fin 64, X (ix4 e r h d) * K j d) * (1 / 8) + Y (ix3 0 h ⟨j.val - r.val - 384, by omega⟩), fun j => ?_, fun j => ?_⟩
  · unfold refScore
    simp only [hX, hK, hY, eighth]
    rw [EReal.coe_add, EReal.coe_mul, Cert.Att.coe_sum]
    simp only [EReal.coe_mul]
  · have hj := j.isLt
    have ht := table_apply x5 (⟨hp.val * 2 + (p.val * 640 + j.val) / 640, by omega⟩ : Fin 8) (⟨(p.val * 640 + j.val) % 640 / 128, by omega⟩ : Fin 5) r
      (⟨(p.val * 640 + j.val) % 128, by omega⟩ : Fin 128) j (by show (p.val * 640 + j.val) % 640 / 128 * 128 + (p.val * 640 + j.val) % 128 = j.val; omega)
    have hh' : (⟨hp.val * 2 + (p.val * 640 + j.val) / 640, by omega⟩ : Fin 8) = h := Fin.ext (by show hp.val * 2 + (p.val * 640 + j.val) / 640 = h.val; omega)
    refine (congrArg₂ (· + ·) (score_head q a b hp p h hh r j) ht).trans ?_
    rw [hh']
    unfold Cert.Att.scaled
    rcases Nat.lt_or_ge j.val 576 with c | c
    · rw [dif_pos c, dif_pos c]
      have hs : ∀ d : Fin 64, q (ix3 0 r ⟨h.val * 64 + d.val, by omega⟩) * rowAt a b j.val ⟨h.val * 64 + d.val, by omega⟩ = ((X (ix4 e r h d) * (1 / 8) / Real.log 2 * K ⟨j.val, c⟩ d : ℝ) : EReal) := fun d => by
        rw [hq r h d ⟨h.val * 64 + d.val, by omega⟩ rfl, rows a b x1 x3 e hb ha ⟨j.val, c⟩ h d ⟨h.val * 64 + d.val, by omega⟩ rfl, hX, hK, eighth, log_two, ← EReal.coe_mul, over_log, ← EReal.coe_mul]
      rw [Finset.sum_congr rfl fun d _ => hs d, ← Cert.Att.coe_sum, hY, log_two, over_log, ← EReal.coe_add]
      refine congrArg _ ?_
      rw [add_div, Finset.sum_mul, Finset.sum_div]
      refine congrArg (· + _) (Finset.sum_congr rfl fun d _ => ?_)
      ring
    · rw [dif_neg (by omega), dif_neg (by omega), lowest, EReal.add_bot]

theorem weight_eq (g : Vec Ideal S8x5x128x128 .f32) (hp : Fin 4) (p : Fin 2) (r : Fin 64) (S : Fin 576 → ℝ)
    (hS : ∀ j : Fin 640, biased q a b g hp r ⟨p.val * 640 + j.val, by omega⟩ = Cert.Att.scaled S j) (j : Fin 640) :
    weight q a b g hp r ⟨p.val * 640 + j.val, by omega⟩ = Ideal.exp2 (Cert.Att.scaled S j - Finset.fold max ⊥ (Cert.Att.scaled S) Finset.univ) := by
  unfold weight
  have hf : (fun i : Fin 640 => biased q a b g hp r ⟨(p.val * 640 + j.val) / 640 * 640 + i.val, by omega⟩) = Cert.Att.scaled S := funext fun i =>
    (congrArg (biased q a b g hp r) (Fin.ext (by show (p.val * 640 + j.val) / 640 * 640 + i.val = p.val * 640 + i.val; omega))).trans (hS i)
  rw [hf, hS, lowest]
  rfl

include hq hb ha f0 f1 f3 f5 in
theorem attended_eq
    (hb' : ∀ (j : Fin 64) (h : Fin 8) (d : Fin 64) (n : Fin 512), n.val = h.val * 64 + d.val → b' (ix3 0 j n) = x2 (ix4 e j h d))
    (ha' : ∀ (j : Fin 512) (h : Fin 8) (d : Fin 64) (n : Fin 512), n.val = h.val * 64 + d.val → a' (ix3 0 j n) = x4 (ix5 0 e j h d))
    (r : Fin 64) (n : Fin 512) :
    attended q a a' b b' (table x5) r n = refOut x0 x1 x2 x3 x4 x5 e ⟨n.val / 64, by omega⟩ r ⟨n.val % 64, by omega⟩ := by
  have hn := n.isLt
  obtain ⟨S, h1, h2⟩ := scores q a b x0 x1 x3 x5 e hq hb ha f0 f1 f3 f5 ⟨n.val / 128, by omega⟩ ⟨n.val / 64 % 2, by omega⟩ ⟨n.val / 64, by omega⟩
    (by show n.val / 64 = n.val / 128 * 2 + n.val / 64 % 2; omega) r
  have hw := weight_eq q a b (table x5) ⟨n.val / 128, by omega⟩ ⟨n.val / 64 % 2, by omega⟩ r S h2
  unfold attended refOut
  simp only [hw]
  rw [Cert.Att.softmax S (fun j => rowAt a' b' j.val n) (fun k => both x2 x4 e ⟨n.val / 64, by omega⟩ k ⟨n.val % 64, by omega⟩)
    (fun k => rows a' b' x2 x4 e hb' ha' k _ _ n (by show n.val = n.val / 64 * 64 + n.val % 64; omega))]
  unfold refExp
  simp only [h1, lowest, nought, zero_add, bot_le, max_eq_right]
end

end Cert.Kernel4Ideal.Att

end
-- ==== Proof.AttPre.lean ====
/- A value of finite magnitude is a real. -/
module

public import Idealize.ShloMosaic.Lib.StableHlo
public import Idealize.ShloMosaic.PureOps.Ideal

@[expose] public section

noncomputable section

namespace Cert.Att

open Idealize.ShloMosaic

theorem infinite : Ideal.ofBits FTy.f32 0x7F800000#32 = ⊤ := by
  simp [Ideal.ofBits, Ideal.ieee]

theorem real_of_below (x : EReal) (h : Ideal.cmp .olt (max x (-x)) (Ideal.ofBits FTy.f32 0x7F800000#32) = 1#1) : ∃ y : ℝ, x = (y : EReal) := by
  have hd : decide (max x (-x) < (⊤ : EReal)) = true := by
    rw [infinite] at h
    unfold Ideal.cmp at h
    rcases hc : decide (max x (-x) < (⊤ : EReal)) with _ | _
    · exact absurd ((congrArg BitVec.ofBool hc).symm.trans h) (by decide)
    · rfl
  have h1 := of_decide_eq_true hd
  have ht : x < ⊤ := lt_of_le_of_lt (le_max_left _ _) h1
  have hb : -x < ⊤ := lt_of_le_of_lt (le_max_right _ _) h1
  refine ⟨x.toReal, (EReal.coe_toReal ht.ne fun e => ?_).symm⟩
  rw [e] at hb
  exact absurd hb (by simp)

theorem real_of_finite {s : Shape} (x : FVec Ideal s .f32) (hs : (⟨0, ![]⟩ : Shape).BroadcastsInDim s (![] : Fin 0 → Fin s.rank))
    (h : cmpf .olt (Host.absf x) (broadcastInDim s ![] hs (constant (⟨0, ![]⟩ : Shape) .f32 0x7F800000#32)) = fun _ => 1#1) (i : s.Idx) : ∃ y : ℝ, x i = (y : EReal) :=
  real_of_below (x i) (congrFun h i)

end Cert.Att

end
-- ==== Proof.AttClaim.lean ====
/- The attention's claims: both programs' runs, and the equality of their results on finite arguments. -/
module

public import proofs.«01_k».proof.Defs
public import proofs.«01_k».proof.Proof.AttHost
public import proofs.«01_k».proof.Proof.AttTable
public import proofs.«01_k».proof.Proof.AttEq
public import proofs.«01_k».proof.Proof.AttPre
public import proofs.«01_k».proof.Proof.Gen.Kernel4Ideal.Value
public import proofs.«01_k».proof.Proof.Gen.Reference4Ideal.Run

@[expose] public section

set_option maxRecDepth 16384

noncomputable section

/-- The shape relations of the precondition's operations. -/
theorem Cert.Pre_finite.facts : Cert.Pre_finite.Facts where
  bcast_S_S8x64x8x64 := by decide
  bcast_S_S1x8x512x8x64 := by decide
  bcast_S_S1x8x257 := by decide

namespace Cert.Kernel4Ideal.Att

open Cert.Kernel4Ideal Cert.Kernel4Ideal.Gen
open Idealize.ShloMosaic Idealize.ShloMosaic.TcCoe Idealize.ShloMosaic.Tactic Idealize.SL.Sem

section Final

variable (m : (ℓ : Loc nD τ sig) → Buf (Elt Ideal) ℓ) (c : Dev nD)

/-- The reference's attention of the arguments. -/
def attentionOut : Buf (Elt Ideal) ((c : Thread nD τ).loc main_v60) :=
  Cert.Reference4Ideal.Read.val_main_v60 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The queries, the keys and the biases are finite. -/
def Finite : Prop :=
  (∀ i, ∃ y : ℝ, (m ((c : Thread nD τ).loc main_arg0) : FVec Ideal S8x64x8x64 .f32) i = (y : EReal))
  ∧ (∀ i, ∃ y : ℝ, (m ((c : Thread nD τ).loc main_arg1) : FVec Ideal S8x64x8x64 .f32) i = (y : EReal))
  ∧ (∀ i, ∃ y : ℝ, (m ((c : Thread nD τ).loc main_arg3) : FVec Ideal S1x8x512x8x64 .f32) i = (y : EReal))
  ∧ (∀ i, ∃ y : ℝ, (m ((c : Thread nD τ).loc main_arg5) : FVec Ideal S1x8x257 .f32) i = (y : EReal))

variable (hf : Finite m c)
include hf

theorem block_apply (t : Fin cfg0.N) (b : Fin 8) (hb : t.val = b.val) (r : Fin 64) (n : Fin 512) : outsAt0 m c t (ix3 0 r n) = attentionOut m c (ix3 b r n) := by
  obtain ⟨f0, f1, f3, f5⟩ := hf
  refine (out_apply m c t r n).trans (Eq.trans ?_ (Cert.Reference4Ideal.Att.out_apply _ _ _ _ _ _ _ b r n).symm)
  rw [blk_5, blk_6]
  have row : ∀ x : Fin 512, attended (iblk m c 0 t) (iblk m c 1 t) (iblk m c 2 t) (iblk m c 3 t) (iblk m c 4 t) (table (F := Ideal) (m ((c : Thread nD τ).loc main_arg5))) r x
      = Cert.Reference4Ideal.Read.val_main_v45 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix3 b r x) := fun x =>
    (attended_eq (iblk m c 0 t) (iblk m c 1 t) (iblk m c 2 t) (iblk m c 3 t) (iblk m c 4 t) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b
      (blk_0 m c t b hb) (blk_3 m c t b hb) (blk_1 m c t b hb) f0 f1 f3 f5 (blk_4 m c t b hb) (blk_2 m c t b hb) r x).trans
      (Cert.Reference4Ideal.Att.o_apply _ _ _ _ _ _ b r x).symm
  unfold normed
  simp only [row]
  rw [nought, zero_add]

/-- The batch entry of a point. -/
def batch (t : Fin cfg0.N) : Fin 8 := ⟨t.val, t.isLt⟩

omit hf in
theorem block_cases (j : S1x64x512.Idx) : ∃ (r : Fin 64) (n : Fin 512), j = ix3 0 r n := by
  have h0 : (j 0).val < 1 := (j 0).isLt
  refine ⟨j 1, j 2, funext fun a => ?_⟩
  match a with
  | ⟨0, _⟩ => exact Fin.ext (Nat.lt_one_iff.mp h0)
  | ⟨1, _⟩ => rfl
  | ⟨2, _⟩ => rfl

omit hf in
/-- Every index of the output lies in the block of its batch entry's point. -/
theorem covered (i : S8x64x512.Idx) : ∃ t : Fin cfg0.N, (cfg0.win 7).flush t = true ∧ i ∈ ((cfg0.win 7).blk t).view.set := by
  have flushes := (by decide +kernel : ∀ t : Fin grid0.N, (cfg0.win 7).flush t = true)
  obtain ⟨t, ht⟩ : ∃ t : Fin grid0.N, t.val = (i 0).val := ⟨⟨(i 0).val, (i 0).isLt⟩, rfl⟩
  have hi : i = (ix3 (i 0 : Fin 8) (i 1 : Fin 64) (i 2 : Fin 512) : S8x64x512.Idx) := funext fun a => match a with
    | ⟨0, _⟩ => rfl
    | ⟨1, _⟩ => rfl
    | ⟨2, _⟩ => rfl
  have he := (emb_7 t (i 0 : Fin 8) ht (i 1 : Fin 64) (i 2 : Fin 512)).trans hi.symm
  refine ⟨t, flushes t, ?_⟩
  rw [← he]
  exact View.emb_mem_set ((cfg0.win 7).blk t).view _

theorem final : (dats m 0 c).arrAt 7 cfg0.N = attentionOut m c := by
  refine (dats m 0 c).arrAt_eq_of_cover 7 (attentionOut m c) (fun t _ => ?_) (fun i => ?_)
  · rw [Value.flushed7]
    funext j
    obtain ⟨r, n, rfl⟩ := block_cases j
    exact (block_apply m c hf t (batch t) rfl r n).trans (congrArg (attentionOut m c) (emb_7 t (batch t) rfl r n).symm)
  · exact covered i

end Final

variable [hK : Cert.Kernel4Ideal.Facts] [hR : Cert.Reference4Ideal.Facts] [hP : Cert.Pre_finite.Facts]

theorem finite_of_pre (m : (ℓ : Loc nD τ sig) → Buf (Elt Ideal) ℓ) (h : Cert.Pre_Kernel4Ideal_finite m) (c : Dev nD) : Finite m c :=
  ⟨Cert.Att.real_of_finite _ hP.bcast_S_S8x64x8x64 (h c).1, Cert.Att.real_of_finite _ hP.bcast_S_S8x64x8x64 (h c).2.1,
    Cert.Att.real_of_finite _ hP.bcast_S_S1x8x512x8x64 (h c).2.2.1, Cert.Att.real_of_finite _ hP.bcast_S_S1x8x257 (h c).2.2.2⟩

theorem quiescent_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs leave the reference's attention of the arguments. -/
theorem algebraic : Cert.algebraic_Kernel4Ideal_Reference4Ideal_pre_finite := fun m ρ m' ρ' hf hm => by
  refine ⟨fun c => attentionOut m c, ?_, ?_⟩
  · exact (θ_run defs _ _).mono (fun _ h c => ⟨(h c).1.trans (final m c (finite_of_pre m hf c)), (h c).2⟩) (Value.run_blocks m ρ)
  · refine (θ_run Cert.Reference4Ideal.defs _ _).mono (fun _ h c => ⟨(h c).1.trans ?_, (h c).2⟩) (Cert.Reference4Ideal.Value.run (F := Ideal) m' ρ')
    obtain ⟨h0, h1, h2, h3, h4, h5, h6⟩ := hm c
    rw [Cert.Reference4Ideal.Read.val_main_v60_eq]
    unfold attentionOut
    exact congr (congr (congr (congr (congr (congr (congrArg (Cert.Reference4Ideal.Read.val_main_v60 (F := Ideal)) h0) h1) h2) h3) h4) h5) h6

end Cert.Kernel4Ideal.Att

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2.Skeleton
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MixWord
public import proofs.«01_k».proof.Proof.MixClaim
public import proofs.«01_k».proof.Proof.ProjClaim
public import proofs.«01_k».proof.Proof.AttClaim

@[expose] public section

noncomputable section

namespace Cert.Proof

theorem claim : Cert.Claim := ⟨Cert.Kernel.Gen.facts, Cert.KernelIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts,
  fun m ρ _ => Cert.Kernel.Gen.frame m ρ, fun m ρ _ => Cert.KernelIdeal.Gen.frame m ρ,
  Cert.Kernel2.Mix.quiescent (hW := Cert.Kernel2.Gen.facts), Cert.Kernel2Ideal.Mix.quiescent (hK := Cert.Kernel2Ideal.Gen.facts),
  Cert.Kernel2Ideal.Mix.quiescent_reference (hR := Cert.Reference2Ideal.Gen.facts),
  fun m ρ _ => Cert.Kernel3.Gen.frame m ρ, fun m ρ _ => Cert.Kernel3Ideal.Gen.frame m ρ,
  Cert.Kernel3Ideal.Proj.quiescent_reference (hR := Cert.Reference3Ideal.Gen.facts),
  fun m ρ _ => Cert.Kernel4.Gen.frame m ρ, fun m ρ _ => Cert.Kernel4Ideal.Gen.frame m ρ, fun m ρ _ => Cert.Kernel4Ideal.Gen.frame m ρ,
  Cert.Kernel4Ideal.Att.quiescent_reference (hR := Cert.Reference4Ideal.Gen.facts) (hP := Cert.Pre_finite.facts),
  fun m ρ _ => Cert.Kernel4Ideal.Att.quiescent_reference (hR := Cert.Reference4Ideal.Gen.facts) (hP := Cert.Pre_finite.facts) m ρ trivial, trivial, trivial,
  Cert.Kernel2Ideal.Mix.algebraic (hK := Cert.Kernel2Ideal.Gen.facts) (hR := Cert.Reference2Ideal.Gen.facts), trivial,
  Cert.Kernel3Ideal.Proj.algebraic (hK := Cert.Kernel3Ideal.Gen.facts) (hR := Cert.Reference3Ideal.Gen.facts), trivial,
  Cert.Kernel4Ideal.Att.algebraic (hK := Cert.Kernel4Ideal.Gen.facts) (hR := Cert.Reference4Ideal.Gen.facts) (hP := Cert.Pre_finite.facts)⟩

end Cert.Proof

end
